-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def preserves_Kernel_KernelIdeal : Prop :=
  True

def algebraic_KernelIdeal_ReferenceIdeal_on_written_pre_finite [hKernelIdeal : Cert.KernelIdeal.Facts] [hReferenceIdeal : Cert.ReferenceIdeal.Facts] [hPre_finite : Cert.Pre_finite.Facts] [hOn_written : Cert.On_written.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v31_0)) (v1 : (c : Dev Cert.KernelIdeal.nD) → Buf (Elt Ideal) ((c.tc : Thread Cert.KernelIdeal.nD Cert.KernelIdeal.τ).loc Cert.KernelIdeal.main_v31_1)) (v2 : (c : Dev Cert.KernelIdeal.nD) → Buf (Elt Ideal) ((c.tc : Thread Cert.KernelIdeal.nD Cert.KernelIdeal.τ).loc Cert.KernelIdeal.main_v31_2)) (v3 : (c : Dev Cert.KernelIdeal.nD) → Buf (Elt Ideal) ((c.tc : Thread Cert.KernelIdeal.nD Cert.KernelIdeal.τ).loc Cert.KernelIdeal.main_v31_3)) (v4 : (c : Dev Cert.KernelIdeal.nD) → Buf (Elt Ideal) ((c.tc : Thread Cert.KernelIdeal.nD Cert.KernelIdeal.τ).loc Cert.KernelIdeal.main_v31_4)) (v5 : (c : Dev Cert.KernelIdeal.nD) → Buf (Elt Ideal) ((c.tc : Thread Cert.KernelIdeal.nD Cert.KernelIdeal.τ).loc Cert.KernelIdeal.main_v31_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![2176, 4608]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 i = 1#1 → r.2.mem ((c.tc : Thread Cert.KernelIdeal.nD Cert.KernelIdeal.τ).loc Cert.KernelIdeal.main_v31_0) i = v0 c i)
          ∧ (∀ i : (⟨2, ![512, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 i = 1#1 → r.2.mem ((c.tc : Thread Cert.KernelIdeal.nD Cert.KernelIdeal.τ).loc Cert.KernelIdeal.main_v31_1) i = v1 c i)
          ∧ (∀ i : (⟨2, ![512, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 i = 1#1 → r.2.mem ((c.tc : Thread Cert.KernelIdeal.nD Cert.KernelIdeal.τ).loc Cert.KernelIdeal.main_v31_2) i = v2 c i)
          ∧ (∀ i : (⟨2, ![2176, 512]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 i = 1#1 → r.2.mem ((c.tc : Thread Cert.KernelIdeal.nD Cert.KernelIdeal.τ).loc Cert.KernelIdeal.main_v31_3) i = v3 c i)
          ∧ (∀ i : (⟨2, ![2176, 512]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 i = 1#1 → r.2.mem ((c.tc : Thread Cert.KernelIdeal.nD Cert.KernelIdeal.τ).loc Cert.KernelIdeal.main_v31_4) i = v4 c i)
          ∧ (∀ i : (⟨2, ![1, 512]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2 i = 1#1 → r.2.mem ((c.tc : Thread Cert.KernelIdeal.nD Cert.KernelIdeal.τ).loc Cert.KernelIdeal.main_v31_5) i = v5 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![2176, 4608]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 i = 1#1 → r.2.mem ((c.tc : Thread Cert.ReferenceIdeal.nD Cert.ReferenceIdeal.τ).loc Cert.ReferenceIdeal.main_v91) i = v0 c i)
          ∧ (∀ i : (⟨2, ![512, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 i = 1#1 → r.2.mem ((c.tc : Thread Cert.ReferenceIdeal.nD Cert.ReferenceIdeal.τ).loc Cert.ReferenceIdeal.main_v92) i = v1 c i)
          ∧ (∀ i : (⟨2, ![512, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 i = 1#1 → r.2.mem ((c.tc : Thread Cert.ReferenceIdeal.nD Cert.ReferenceIdeal.τ).loc Cert.ReferenceIdeal.main_v93) i = v2 c i)
          ∧ (∀ i : (⟨2, ![2176, 512]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 i = 1#1 → r.2.mem ((c.tc : Thread Cert.ReferenceIdeal.nD Cert.ReferenceIdeal.τ).loc Cert.ReferenceIdeal.main_v94) i = v3 c i)
          ∧ (∀ i : (⟨2, ![2176, 512]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 i = 1#1 → r.2.mem ((c.tc : Thread Cert.ReferenceIdeal.nD Cert.ReferenceIdeal.τ).loc Cert.ReferenceIdeal.main_v95) i = v4 c i)
          ∧ (∀ i : (⟨2, ![1, 512]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2 i = 1#1 → r.2.mem ((c.tc : Thread Cert.ReferenceIdeal.nD Cert.ReferenceIdeal.τ).loc Cert.ReferenceIdeal.main_v71) i = v5 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v0) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v3_0)) (v1 : (c : Dev Cert.Kernel4Ideal.nD) → Buf (Elt Ideal) ((c.tc : Thread Cert.Kernel4Ideal.nD Cert.Kernel4Ideal.τ).loc Cert.Kernel4Ideal.main_v3_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3_0) = v0 c
          ∧ r.2.mem ((c.tc : Thread Cert.Kernel4Ideal.nD Cert.Kernel4Ideal.τ).loc Cert.Kernel4Ideal.main_v3_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_v5) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v19_0)) (v1 : (c : Dev Cert.Kernel5Ideal.nD) → Buf (Elt Ideal) ((c.tc : Thread Cert.Kernel5Ideal.nD Cert.Kernel5Ideal.τ).loc Cert.Kernel5Ideal.main_v19_1)) (v2 : (c : Dev Cert.Kernel5Ideal.nD) → Buf (Elt Ideal) ((c.tc : Thread Cert.Kernel5Ideal.nD Cert.Kernel5Ideal.τ).loc Cert.Kernel5Ideal.main_v19_2)) (v3 : (c : Dev Cert.Kernel5Ideal.nD) → Buf (Elt Ideal) ((c.tc : Thread Cert.Kernel5Ideal.nD Cert.Kernel5Ideal.τ).loc Cert.Kernel5Ideal.main_v19_3)) (v4 : (c : Dev Cert.Kernel5Ideal.nD) → Buf (Elt Ideal) ((c.tc : Thread Cert.Kernel5Ideal.nD Cert.Kernel5Ideal.τ).loc Cert.Kernel5Ideal.main_v19_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v19_0) = v0 c
          ∧ r.2.mem ((c.tc : Thread Cert.Kernel5Ideal.nD Cert.Kernel5Ideal.τ).loc Cert.Kernel5Ideal.main_v19_1) = v1 c
          ∧ r.2.mem ((c.tc : Thread Cert.Kernel5Ideal.nD Cert.Kernel5Ideal.τ).loc Cert.Kernel5Ideal.main_v19_2) = v2 c
          ∧ r.2.mem ((c.tc : Thread Cert.Kernel5Ideal.nD Cert.Kernel5Ideal.τ).loc Cert.Kernel5Ideal.main_v19_3) = v3 c
          ∧ r.2.mem ((c.tc : Thread Cert.Kernel5Ideal.nD Cert.Kernel5Ideal.τ).loc Cert.Kernel5Ideal.main_v19_4) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v57) = v0 c
          ∧ r.2.mem ((c.tc : Thread Cert.Reference5Ideal.nD Cert.Reference5Ideal.τ).loc Cert.Reference5Ideal.main_v59) = v1 c
          ∧ r.2.mem ((c.tc : Thread Cert.Reference5Ideal.nD Cert.Reference5Ideal.τ).loc Cert.Reference5Ideal.main_v54) = v2 c
          ∧ r.2.mem ((c.tc : Thread Cert.Reference5Ideal.nD Cert.Reference5Ideal.τ).loc Cert.Reference5Ideal.main_v60) = v3 c
          ∧ r.2.mem ((c.tc : Thread Cert.Reference5Ideal.nD Cert.Reference5Ideal.τ).loc Cert.Reference5Ideal.main_v37) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hOn_written : Cert.On_written.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_on_written_pre_finite (hKernelIdeal := hKernelIdeal) (hReferenceIdeal := hReferenceIdeal) (hPre_finite := hPre_finite) (hOn_written := hOn_written)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== On_written.lean ====
abbrev S2064x512 : Shape := ⟨2, ![2064, 512]⟩
abbrev S1x512 : Shape := ⟨2, ![1, 512]⟩
abbrev S512x1024 : Shape := ⟨2, ![512, 1024]⟩
abbrev S2064x6144 : Shape := ⟨2, ![2064, 6144]⟩
abbrev S2064x1024 : Shape := ⟨2, ![2064, 1024]⟩
abbrev S2176x4608 : Shape := ⟨2, ![2176, 4608]⟩
abbrev S_ : Shape := ⟨0, ![]⟩
abbrev S2176x512 : Shape := ⟨2, ![2176, 512]⟩

class Facts : Prop where
  bcast_S_S2176x4608 : S_.BroadcastsInDim S2176x4608 (![] : Fin 0 → Fin S2176x4608.rank)
  bcast_S_S512x1024 : S_.BroadcastsInDim S512x1024 (![] : Fin 0 → Fin S512x1024.rank)
  bcast_S_S2176x512 : S_.BroadcastsInDim S2176x512 (![] : Fin 0 → Fin S2176x512.rank)
  bcast_S_S1x512 : S_.BroadcastsInDim S1x512 (![] : Fin 0 → Fin S1x512.rank)

variable [Facts]

def fn {F : FTy → Type} [FloatOps F] (main_arg0 : FVec F S2064x512 .f32) (main_arg1 : FVec F S2064x512 .f32) (main_arg2 : FVec F S2064x512 .f32) (main_arg3 : FVec F S1x512 .f32) (main_arg4 : FVec F S512x1024 .f32) (main_arg5 : FVec F S512x1024 .f32) (main_arg6 : FVec F S2064x6144 .f32) (main_arg7 : FVec F S2064x1024 .f32) : IVec S2176x4608 1 × IVec S512x1024 1 × IVec S512x1024 1 × IVec S2176x512 1 × IVec S2176x512 1 × IVec S1x512 1 :=
  let main_v0 : IVec S2176x4608 32 := iotaInDim S2176x4608 32 1
  let main_c : IVec S_ 32 := constantI S_ 32 2048#32
  let main_v1 : IVec S2176x4608 32 := broadcastInDim S2176x4608 ![] bcast_S_S2176x4608 main_c
  let main_v2 : IVec S2176x4608 1 := cmpi .sge main_v0 main_v1
  let main_c_0 : IVec S_ 1 := constantI S_ 1 1#1
  let main_v3 : IVec S512x1024 1 := broadcastInDim S512x1024 ![] bcast_S_S512x1024 main_c_0
  let main_c_1 : IVec S_ 1 := constantI S_ 1 1#1
  let main_v4 : IVec S512x1024 1 := broadcastInDim S512x1024 ![] bcast_S_S512x1024 main_c_1
  let main_c_2 : IVec S_ 1 := constantI S_ 1 1#1
  let main_v5 : IVec S2176x512 1 := broadcastInDim S2176x512 ![] bcast_S_S2176x512 main_c_2
  let main_c_3 : IVec S_ 1 := constantI S_ 1 1#1
  let main_v6 : IVec S2176x512 1 := broadcastInDim S2176x512 ![] bcast_S_S2176x512 main_c_3
  let main_c_4 : IVec S_ 1 := constantI S_ 1 1#1
  let main_v7 : IVec S1x512 1 := broadcastInDim S1x512 ![] bcast_S_S1x512 main_c_4
  (main_v2, main_v3, main_v4, main_v5, main_v6, main_v7)
-- ==== Pre_finite.lean ====
abbrev S2064x512 : Shape := ⟨2, ![2064, 512]⟩
abbrev S1x512 : Shape := ⟨2, ![1, 512]⟩
abbrev S512x1024 : Shape := ⟨2, ![512, 1024]⟩
abbrev S2064x6144 : Shape := ⟨2, ![2064, 6144]⟩
abbrev S2064x1024 : Shape := ⟨2, ![2064, 1024]⟩
abbrev S_ : Shape := ⟨0, ![]⟩

class Facts : Prop where
  bcast_S_S1x512 : S_.BroadcastsInDim S1x512 (![] : Fin 0 → Fin S1x512.rank)
  bcast_S_S512x1024 : S_.BroadcastsInDim S512x1024 (![] : Fin 0 → Fin S512x1024.rank)
  bcast_S_S2064x1024 : S_.BroadcastsInDim S2064x1024 (![] : Fin 0 → Fin S2064x1024.rank)

variable [Facts]

def fn {F : FTy → Type} [FloatOps F] (main_arg0 : FVec F S2064x512 .f32) (main_arg1 : FVec F S2064x512 .f32) (main_arg2 : FVec F S2064x512 .f32) (main_arg3 : FVec F S1x512 .f32) (main_arg4 : FVec F S512x1024 .f32) (main_arg5 : FVec F S512x1024 .f32) (main_arg6 : FVec F S2064x6144 .f32) (main_arg7 : FVec F S2064x1024 .f32) : IVec S1x512 1 × IVec S512x1024 1 × IVec S2064x1024 1 :=
  let main_v0 : FVec F S1x512 .f32 := Host.absf main_arg3
  let main_cst : FVec F S_ .f32 := constant S_ .f32 0x7F800000#32
  let main_v1 : FVec F S1x512 .f32 := broadcastInDim S1x512 ![] bcast_S_S1x512 main_cst
  let main_v2 : IVec S1x512 1 := cmpf .olt main_v0 main_v1
  let main_v3 : FVec F S512x1024 .f32 := Host.absf main_arg5
  let main_cst_0 : FVec F S_ .f32 := constant S_ .f32 0x7F800000#32
  let main_v4 : FVec F S512x1024 .f32 := broadcastInDim S512x1024 ![] bcast_S_S512x1024 main_cst_0
  let main_v5 : IVec S512x1024 1 := cmpf .olt main_v3 main_v4
  let main_v6 : FVec F S2064x1024 .f32 := Host.absf main_arg7
  let main_cst_1 : FVec F S_ .f32 := constant S_ .f32 0x7F800000#32
  let main_v7 : FVec F S2064x1024 .f32 := broadcastInDim S2064x1024 ![] bcast_S_S2064x1024 main_cst_1
  let main_v8 : IVec S2064x1024 1 := cmpf .olt main_v6 main_v7
  (main_v2, main_v5, main_v8)
-- ==== Kernel.lean ====
abbrev S2064x512 : Shape := ⟨2, ![2064, 512]⟩
abbrev S1x512 : Shape := ⟨2, ![1, 512]⟩
abbrev S512x1024 : Shape := ⟨2, ![512, 1024]⟩
abbrev S2064x6144 : Shape := ⟨2, ![2064, 6144]⟩
abbrev S2064x1024 : Shape := ⟨2, ![2064, 1024]⟩
abbrev S2064x4x128 : Shape := ⟨3, ![2064, 4, 128]⟩
abbrev S_ : Shape := ⟨0, ![]⟩
abbrev S2064x4 : Shape := ⟨2, ![2064, 4]⟩
abbrev S2064x4x1 : Shape := ⟨3, ![2064, 4, 1]⟩
abbrev S512 : Shape := ⟨1, ![512]⟩
abbrev S2176x512 : Shape := ⟨2, ![2176, 512]⟩
abbrev S2176x6144 : Shape := ⟨2, ![2176, 6144]⟩
abbrev S2176x1024 : Shape := ⟨2, ![2176, 1024]⟩
abbrev S2176x4608 : Shape := ⟨2, ![2176, 4608]⟩
abbrev S544x512 : Shape := ⟨2, ![544, 512]⟩
abbrev S544x1024 : Shape := ⟨2, ![544, 1024]⟩
abbrev S544x4608 : Shape := ⟨2, ![544, 4608]⟩
abbrev S544x1 : Shape := ⟨2, ![544, 1]⟩
abbrev S544x128 : Shape := ⟨2, ![544, 128]⟩
abbrev S544 : Shape := ⟨1, ![544]⟩

abbrev nBuf : Space → Nat
  | .hbm => 68
  | .vmem => 30
  | .smem => 0
  | _ => 0

abbrev bufTy : (tb : Table) → Fin (tcTables nBuf tb) → BufTy
  | .hbm, ⟨0, _⟩ => ⟨S2064x512, .f32⟩
  | .hbm, ⟨1, _⟩ => ⟨S2064x512, .f32⟩
  | .hbm, ⟨2, _⟩ => ⟨S2064x512, .f32⟩
  | .hbm, ⟨3, _⟩ => ⟨S1x512, .f32⟩
  | .hbm, ⟨4, _⟩ => ⟨S512x1024, .f32⟩
  | .hbm, ⟨5, _⟩ => ⟨S512x1024, .f32⟩
  | .hbm, ⟨6, _⟩ => ⟨S2064x6144, .f32⟩
  | .hbm, ⟨7, _⟩ => ⟨S2064x1024, .f32⟩
  | .hbm, ⟨8, _⟩ => ⟨S2064x512, .f32⟩
  | .hbm, ⟨9, _⟩ => ⟨S2064x512, .f32⟩
  | .hbm, ⟨10, _⟩ => ⟨S2064x4x128, .f32⟩
  | .hbm, ⟨11, _⟩ => ⟨S2064x4x128, .f32⟩
  | .hbm, ⟨12, _⟩ => ⟨S_, .f32⟩
  | .hbm, ⟨13, _⟩ => ⟨S2064x4, .f32⟩
  | .hbm, ⟨14, _⟩ => ⟨S2064x4x1, .f32⟩
  | .hbm, ⟨15, _⟩ => ⟨S_, .f32⟩
  | .hbm, ⟨16, _⟩ => ⟨S2064x4x1, .f32⟩
  | .hbm, ⟨17, _⟩ => ⟨S2064x4x1, .f32⟩
  | .hbm, ⟨18, _⟩ => ⟨S_, .f32⟩
  | .hbm, ⟨19, _⟩ => ⟨S2064x4x1, .f32⟩
  | .hbm, ⟨20, _⟩ => ⟨S2064x4x1, .f32⟩
  | .hbm, ⟨21, _⟩ => ⟨S2064x4x1, .f32⟩
  | .hbm, ⟨22, _⟩ => ⟨S2064x4x128, .f32⟩
  | .hbm, ⟨23, _⟩ => ⟨S2064x4x128, .f32⟩
  | .hbm, ⟨24, _⟩ => ⟨S2064x512, .f32⟩
  | .hbm, ⟨25, _⟩ => ⟨S512, .f32⟩
  | .hbm, ⟨26, _⟩ => ⟨S1x512, .f32⟩
  | .hbm, ⟨27, _⟩ => ⟨S2064x512, .f32⟩
  | .hbm, ⟨28, _⟩ => ⟨S2064x512, .f32⟩
  | .hbm, ⟨29, _⟩ => ⟨S2064x512, .f32⟩
  | .hbm, ⟨30, _⟩ => ⟨S2064x512, .f32⟩
  | .hbm, ⟨31, _⟩ => ⟨S_, .f32⟩
  | .hbm, ⟨32, _⟩ => ⟨S2064x512, .f32⟩
  | .hbm, ⟨33, _⟩ => ⟨S2064x512, .f32⟩
  | .hbm, ⟨34, _⟩ => ⟨S_, .f32⟩
  | .hbm, ⟨35, _⟩ => ⟨S2064x512, .f32⟩
  | .hbm, ⟨36, _⟩ => ⟨S2064x512, .f32⟩
  | .hbm, ⟨37, _⟩ => ⟨S2064x512, .f32⟩
  | .hbm, ⟨38, _⟩ => ⟨S2064x512, .f32⟩
  | .hbm, ⟨39, _⟩ => ⟨S2064x512, .bf16⟩
  | .hbm, ⟨40, _⟩ => ⟨S_, .i32⟩
  | .hbm, ⟨41, _⟩ => ⟨S_, .bf16⟩
  | .hbm, ⟨42, _⟩ => ⟨S2176x512, .bf16⟩
  | .hbm, ⟨43, _⟩ => ⟨S2064x512, .bf16⟩
  | .hbm, ⟨44, _⟩ => ⟨S_, .i32⟩
  | .hbm, ⟨45, _⟩ => ⟨S_, .bf16⟩
  | .hbm, ⟨46, _⟩ => ⟨S2176x512, .bf16⟩
  | .hbm, ⟨47, _⟩ => ⟨S_, .i32⟩
  | .hbm, ⟨48, _⟩ => ⟨S_, .f32⟩
  | .hbm, ⟨49, _⟩ => ⟨S2176x512, .f32⟩
  | .hbm, ⟨50, _⟩ => ⟨S_, .i32⟩
  | .hbm, ⟨51, _⟩ => ⟨S_, .f32⟩
  | .hbm, ⟨52, _⟩ => ⟨S2176x512, .f32⟩
  | .hbm, ⟨53, _⟩ => ⟨S512x1024, .bf16⟩
  | .hbm, ⟨54, _⟩ => ⟨S512x1024, .bf16⟩
  | .hbm, ⟨55, _⟩ => ⟨S_, .i32⟩
  | .hbm, ⟨56, _⟩ => ⟨S_, .f32⟩
  | .hbm, ⟨57, _⟩ => ⟨S2176x6144, .f32⟩
  | .hbm, ⟨58, _⟩ => ⟨S2064x1024, .bf16⟩
  | .hbm, ⟨59, _⟩ => ⟨S_, .i32⟩
  | .hbm, ⟨60, _⟩ => ⟨S_, .bf16⟩
  | .hbm, ⟨61, _⟩ => ⟨S2176x1024, .bf16⟩
  | .hbm, ⟨62, _⟩ => ⟨S2176x4608, .bf16⟩
  | .hbm, ⟨63, _⟩ => ⟨S512x1024, .bf16⟩
  | .hbm, ⟨64, _⟩ => ⟨S512x1024, .bf16⟩
  | .hbm, ⟨65, _⟩ => ⟨S2176x512, .f32⟩
  | .hbm, ⟨66, _⟩ => ⟨S2176x512, .f32⟩
  | .hbm, ⟨67, _⟩ => ⟨S1x512, .f32⟩
  | .local _ .vmem, ⟨0, _⟩ => ⟨S544x512, .bf16⟩
  | .local _ .vmem, ⟨1, _⟩ => ⟨S544x512, .bf16⟩
  | .local _ .vmem, ⟨2, _⟩ => ⟨S544x512, .bf16⟩
  | .local _ .vmem, ⟨3, _⟩ => ⟨S544x512, .bf16⟩
  | .local _ .vmem, ⟨4, _⟩ => ⟨S544x512, .f32⟩
  | .local _ .vmem, ⟨5, _⟩ => ⟨S544x512, .f32⟩
  | .local _ .vmem, ⟨6, _⟩ => ⟨S544x512, .f32⟩
  | .local _ .vmem, ⟨7, _⟩ => ⟨S544x512, .f32⟩
  | .local _ .vmem, ⟨8, _⟩ => ⟨S544x512, .f32⟩
  | .local _ .vmem, ⟨9, _⟩ => ⟨S544x512, .f32⟩
  | .local _ .vmem, ⟨10, _⟩ => ⟨S1x512, .f32⟩
  | .local _ .vmem, ⟨11, _⟩ => ⟨S512x1024, .bf16⟩
  | .local _ .vmem, ⟨12, _⟩ => ⟨S512x1024, .bf16⟩
  | .local _ .vmem, ⟨13, _⟩ => ⟨S544x1024, .f32⟩
  | .local _ .vmem, ⟨14, _⟩ => ⟨S544x1024, .f32⟩
  | .local _ .vmem, ⟨15, _⟩ => ⟨S544x1024, .f32⟩
  | .local _ .vmem, ⟨16, _⟩ => ⟨S544x1024, .f32⟩
  | .local _ .vmem, ⟨17, _⟩ => ⟨S544x1024, .bf16⟩
  | .local _ .vmem, ⟨18, _⟩ => ⟨S544x1024, .bf16⟩
  | .local _ .vmem, ⟨19, _⟩ => ⟨S544x4608, .bf16⟩
  | .local _ .vmem, ⟨20, _⟩ => ⟨S544x4608, .bf16⟩
  | .local _ .vmem, ⟨21, _⟩ => ⟨S512x1024, .bf16⟩
  | .local _ .vmem, ⟨22, _⟩ => ⟨S512x1024, .bf16⟩
  | .local _ .vmem, ⟨23, _⟩ => ⟨S544x512, .f32⟩
  | .local _ .vmem, ⟨24, _⟩ => ⟨S544x512, .f32⟩
  | .local _ .vmem, ⟨25, _⟩ => ⟨S544x512, .f32⟩
  | .local _ .vmem, ⟨26, _⟩ => ⟨S544x512, .f32⟩
  | .local _ .vmem, ⟨27, _⟩ => ⟨S1x512, .f32⟩
  | .local _ .vmem, ⟨28, _⟩ => ⟨S512x1024, .f32⟩
  | .local _ .vmem, ⟨29, _⟩ => ⟨S512x1024, .f32⟩
  | _, _ => ⟨S2064x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c : Ref sig .tc := ⟨.hbm, 40, rfl⟩
abbrev main_call1_v0 : Ref sig .tc := ⟨.hbm, 41, rfl⟩
abbrev main_v21 : Ref sig .tc := ⟨.hbm, 42, rfl⟩
abbrev main_v22 : Ref sig .tc := ⟨.hbm, 43, rfl⟩
abbrev main_c_2 : Ref sig .tc := ⟨.hbm, 44, rfl⟩
abbrev main_call2_v0 : Ref sig .tc := ⟨.hbm, 45, rfl⟩
abbrev main_v23 : Ref sig .tc := ⟨.hbm, 46, rfl⟩
abbrev main_c_3 : Ref sig .tc := ⟨.hbm, 47, rfl⟩
abbrev main_call3_v0 : Ref sig .tc := ⟨.hbm, 48, rfl⟩
abbrev main_v24 : Ref sig .tc := ⟨.hbm, 49, rfl⟩
abbrev main_c_4 : Ref sig .tc := ⟨.hbm, 50, rfl⟩
abbrev main_call4_v0 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_c_5 : Ref sig .tc := ⟨.hbm, 55, rfl⟩
abbrev main_call5_v0 : Ref sig .tc := ⟨.hbm, 56, rfl⟩
abbrev main_v28 : Ref sig .tc := ⟨.hbm, 57, rfl⟩
abbrev main_v29 : Ref sig .tc := ⟨.hbm, 58, rfl⟩
abbrev main_c_6 : Ref sig .tc := ⟨.hbm, 59, rfl⟩
abbrev main_call6_v0 : Ref sig .tc := ⟨.hbm, 60, rfl⟩
abbrev main_v30 : Ref sig .tc := ⟨.hbm, 61, rfl⟩
abbrev main_v31_0 : Ref sig .tc := ⟨.hbm, 62, rfl⟩
abbrev main_v31_1 : Ref sig .tc := ⟨.hbm, 63, rfl⟩
abbrev main_v31_2 : Ref sig .tc := ⟨.hbm, 64, rfl⟩
abbrev main_v31_3 : Ref sig .tc := ⟨.hbm, 65, rfl⟩
abbrev main_v31_4 : Ref sig .tc := ⟨.hbm, 66, rfl⟩
abbrev main_v31_5 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_scratch0 : Ref sig .tc := ⟨.vmem, 28, rfl⟩
abbrev cc0_scratch1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem13_0 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27

abbrev nD : Nat := 1
abbrev τ : Topo := Topo.v7x

variable {F : FTy → Type} [FloatOps F]

abbrev grid0 : Pipeline.Grid := ⟨1, ![4], ![false]⟩

def k0_cond3 (i : grid0.Coords) : BitVec 1 :=
  let arg0 : BitVec 32 := BitVec.ofNat 32 (i 0).val
  let c3_i32 : BitVec 32 := 3#32
  let v30 : BitVec 1 := Scalar.cmpi .eq arg0 c3_i32
  let v31 : BitVec 32 := Scalar.extui v30
  let c0_i32_16 : BitVec 32 := 0#32
  let v32 : BitVec 1 := Scalar.cmpi .ne v31 c0_i32_16
  v32

def k0_cond6 (i : grid0.Coords) : BitVec 1 :=
  let arg0 : BitVec 32 := BitVec.ofNat 32 (i 0).val
  let c3_i32_34 : BitVec 32 := 3#32
  let v60 : BitVec 1 := Scalar.cmpi .eq arg0 c3_i32_34
  let v61 : BitVec 32 := Scalar.extui v60
  let c0_i32_35 : BitVec 32 := 0#32
  let v62 : BitVec 1 := Scalar.cmpi .ne v61 c0_i32_35
  v62

def k0_cond7 (i : grid0.Coords) : BitVec 1 :=
  let arg0 : BitVec 32 := BitVec.ofNat 32 (i 0).val
  let c0_i32_75 : BitVec 32 := 0#32
  let v202 : BitVec 1 := Scalar.cmpi .eq arg0 c0_i32_75
  let v203 : BitVec 32 := Scalar.extui v202
  let c0_i32_76 : BitVec 32 := 0#32
  let v204 : BitVec 1 := Scalar.cmpi .ne v203 c0_i32_76
  v204

def k0_cond8 (i : grid0.Coords) : BitVec 1 :=
  let arg0 : BitVec 32 := BitVec.ofNat 32 (i 0).val
  let c0_i32_77 : BitVec 32 := 0#32
  let v205 : BitVec 1 := Scalar.cmpi .sgt arg0 c0_i32_77
  let v206 : BitVec 32 := Scalar.extui v205
  let c0_i32_78 : BitVec 32 := 0#32
  let v207 : BitVec 1 := Scalar.cmpi .ne v206 c0_i32_78
  v207

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_9 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S544x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S544x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S544x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S544x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S544x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S544x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S544x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S544x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S544x4608 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S544x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S544x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== ReferenceIdeal.lean ====
abbrev S2064x512 : Shape := ⟨2, ![2064, 512]⟩
abbrev S1x512 : Shape := ⟨2, ![1, 512]⟩
abbrev S512x1024 : Shape := ⟨2, ![512, 1024]⟩
abbrev S2064x6144 : Shape := ⟨2, ![2064, 6144]⟩
abbrev S2064x1024 : Shape := ⟨2, ![2064, 1024]⟩
abbrev S2064x4x128 : Shape := ⟨3, ![2064, 4, 128]⟩
abbrev S_ : Shape := ⟨0, ![]⟩
abbrev S2064x4 : Shape := ⟨2, ![2064, 4]⟩
abbrev S2064x4x1 : Shape := ⟨3, ![2064, 4, 1]⟩
abbrev S512 : Shape := ⟨1, ![512]⟩
abbrev S1024x512 : Shape := ⟨2, ![1024, 512]⟩
abbrev S2064x2048 : Shape := ⟨2, ![2064, 2048]⟩
abbrev S2064x4608 : Shape := ⟨2, ![2064, 4608]⟩
abbrev S2176x4608 : Shape := ⟨2, ![2176, 4608]⟩
abbrev S2176x512 : Shape := ⟨2, ![2176, 512]⟩

abbrev nBuf : Space → Nat
  | .hbm => 141
  | .vmem => 0
  | .smem => 0
  | _ => 0

abbrev hbmTy0_0 (i : Nat) : BufTy := match i % 128 with
  | 0 => ⟨S2064x512, .f32⟩
  | 1 => ⟨S2064x512, .f32⟩
  | 2 => ⟨S2064x512, .f32⟩
  | 3 => ⟨S1x512, .f32⟩
  | 4 => ⟨S512x1024, .f32⟩
  | 5 => ⟨S512x1024, .f32⟩
  | 6 => ⟨S2064x6144, .f32⟩
  | 7 => ⟨S2064x1024, .f32⟩
  | 8 => ⟨S2064x512, .f32⟩
  | 9 => ⟨S2064x1024, .f32⟩
  | 10 => ⟨S2064x1024, .f32⟩
  | 11 => ⟨S2064x512, .f32⟩
  | 12 => ⟨S2064x4x128, .f32⟩
  | 13 => ⟨S2064x4x128, .f32⟩
  | 14 => ⟨S_, .f32⟩
  | 15 => ⟨S2064x4, .f32⟩
  | 16 => ⟨S2064x4x1, .f32⟩
  | 17 => ⟨S_, .f32⟩
  | 18 => ⟨S2064x4x1, .f32⟩
  | 19 => ⟨S2064x4x1, .f32⟩
  | 20 => ⟨S_, .f32⟩
  | 21 => ⟨S2064x4x1, .f32⟩
  | 22 => ⟨S2064x4x1, .f32⟩
  | 23 => ⟨S2064x4x1, .f32⟩
  | 24 => ⟨S2064x4x1, .f32⟩
  | 25 => ⟨S_, .f32⟩
  | 26 => ⟨S2064x4x1, .f32⟩
  | 27 => ⟨S2064x4x1, .f32⟩
  | 28 => ⟨S2064x4x128, .f32⟩
  | 29 => ⟨S2064x4x128, .f32⟩
  | 30 => ⟨S2064x512, .f32⟩
  | 31 => ⟨S512, .f32⟩
  | 32 => ⟨S1x512, .f32⟩
  | 33 => ⟨S2064x512, .f32⟩
  | 34 => ⟨S2064x512, .f32⟩
  | 35 => ⟨S2064x512, .f32⟩
  | 36 => ⟨S2064x512, .f32⟩
  | 37 => ⟨S_, .f32⟩
  | 38 => ⟨S2064x512, .f32⟩
  | 39 => ⟨S2064x512, .f32⟩
  | 40 => ⟨S_, .f32⟩
  | 41 => ⟨S2064x512, .f32⟩
  | 42 => ⟨S2064x512, .f32⟩
  | 43 => ⟨S_, .f32⟩
  | 44 => ⟨S2064x512, .f32⟩
  | 45 => ⟨S2064x512, .f32⟩
  | 46 => ⟨S2064x512, .f32⟩
  | 47 => ⟨S2064x512, .f32⟩
  | 48 => ⟨S2064x512, .f32⟩
  | 49 => ⟨S2064x1024, .f32⟩
  | 50 => ⟨S2064x1024, .f32⟩
  | 51 => ⟨S2064x1024, .f32⟩
  | 52 => ⟨S2064x1024, .f32⟩
  | 53 => ⟨S_, .f32⟩
  | 54 => ⟨S2064x1024, .f32⟩
  | 55 => ⟨S2064x1024, .f32⟩
  | 56 => ⟨S_, .f32⟩
  | 57 => ⟨S2064x1024, .f32⟩
  | 58 => ⟨S2064x1024, .f32⟩
  | 59 => ⟨S_, .f32⟩
  | 60 => ⟨S2064x1024, .f32⟩
  | 61 => ⟨S2064x1024, .f32⟩
  | 62 => ⟨S2064x1024, .f32⟩
  | 63 => ⟨S2064x1024, .f32⟩
  | 64 => ⟨S2064x1024, .f32⟩
  | 65 => ⟨S2064x1024, .f32⟩
  | 66 => ⟨S_, .f32⟩
  | 67 => ⟨S2064x1024, .f32⟩
  | 68 => ⟨S2064x1024, .f32⟩
  | 69 => ⟨S_, .f32⟩
  | 70 => ⟨S2064x1024, .f32⟩
  | 71 => ⟨S2064x1024, .f32⟩
  | 72 => ⟨S_, .f32⟩
  | 73 => ⟨S2064x1024, .f32⟩
  | 74 => ⟨S2064x1024, .f32⟩
  | 75 => ⟨S2064x1024, .f32⟩
  | 76 => ⟨S2064x1024, .f32⟩
  | 77 => ⟨S2064x1024, .f32⟩
  | 78 => ⟨S2064x1024, .f32⟩
  | 79 => ⟨S2064x1024, .f32⟩
  | 80 => ⟨S2064x1024, .f32⟩
  | 81 => ⟨S2064x1024, .f32⟩
  | 82 => ⟨S2064x1024, .f32⟩
  | 83 => ⟨S2064x1024, .f32⟩
  | 84 => ⟨S2064x1024, .f32⟩
  | 85 => ⟨S2064x1024, .f32⟩
  | 86 => ⟨S1024x512, .f32⟩
  | 87 => ⟨S512x1024, .f32⟩
  | 88 => ⟨S2064x512, .f32⟩
  | 89 => ⟨S1024x512, .f32⟩
  | 90 => ⟨S512x1024, .f32⟩
  | 91 => ⟨S2064x512, .f32⟩
  | 92 => ⟨S2064x512, .f32⟩
  | 93 => ⟨S2064x512, .f32⟩
  | 94 => ⟨S2064x512, .f32⟩
  | 95 => ⟨S2064x512, .f32⟩
  | 96 => ⟨S2064x512, .f32⟩
  | 97 => ⟨S2064x512, .f32⟩
  | 98 => ⟨S2064x512, .f32⟩
  | 99 => ⟨S_, .f32⟩
  | 100 => ⟨S512, .f32⟩
  | 101 => ⟨S1x512, .f32⟩
  | 102 => ⟨S2064x512, .f32⟩
  | 103 => ⟨S2064x512, .f32⟩
  | 104 => ⟨S_, .f32⟩
  | 105 => ⟨S512, .f32⟩
  | 106 => ⟨S1x512, .f32⟩
  | 107 => ⟨S2064x4x128, .f32⟩
  | 108 => ⟨S2064x4x128, .f32⟩
  | 109 => ⟨S_, .f32⟩
  | 110 => ⟨S2064x4, .f32⟩
  | 111 => ⟨S2064x4x1, .f32⟩
  | 112 => ⟨S2064x4x128, .f32⟩
  | 113 => ⟨S2064x4x128, .f32⟩
  | 114 => ⟨S2064x4x1, .f32⟩
  | 115 => ⟨S_, .f32⟩
  | 116 => ⟨S2064x4x1, .f32⟩
  | 117 => ⟨S2064x4x1, .f32⟩
  | 118 => ⟨S_, .f32⟩
  | 119 => ⟨S2064x4, .f32⟩
  | 120 => ⟨S2064x4x128, .f32⟩
  | 121 => ⟨S2064x4x128, .f32⟩
  | 122 => ⟨S2064x4x128, .f32⟩
  | 123 => ⟨S2064x4x128, .f32⟩
  | 124 => ⟨S2064x4x128, .f32⟩
  | 125 => ⟨S2064x512, .f32⟩
  | 126 => ⟨S_, .f32⟩
  | 127 => ⟨S2064x2048, .f32⟩
  | _ => ⟨S2064x512, .f32⟩

abbrev hbmTy0_1 (i : Nat) : BufTy := match i % 128 with
  | 0 => ⟨S2064x4608, .f32⟩
  | 1 => ⟨S_, .i32⟩
  | 2 => ⟨S_, .f32⟩
  | 3 => ⟨S2176x4608, .f32⟩
  | 4 => ⟨S2176x4608, .bf16⟩
  | 5 => ⟨S512x1024, .bf16⟩
  | 6 => ⟨S512x1024, .bf16⟩
  | 7 => ⟨S_, .i32⟩
  | 8 => ⟨S_, .f32⟩
  | 9 => ⟨S2176x512, .f32⟩
  | 10 => ⟨S_, .i32⟩
  | 11 => ⟨S_, .f32⟩
  | 12 => ⟨S2176x512, .f32⟩
  | _ => ⟨S2064x512, .f32⟩

abbrev hbmTy (i : Nat) : BufTy := match i / 128 with
  | 0 => hbmTy0_0 i
  | 1 => hbmTy0_1 i
  | _ => ⟨S2064x512, .f32⟩

abbrev bufTy : (tb : Table) → Fin (tcTables nBuf tb) → BufTy
  | .hbm, ⟨i, _⟩ => hbmTy i
  | _, _ => ⟨S2064x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_v23_2 : Ref sig .tc := ⟨.hbm, 42, rfl⟩
abbrev main_call0_cst_1 : Ref sig .tc := ⟨.hbm, 43, rfl⟩
abbrev main_call0_v6 : Ref sig .tc := ⟨.hbm, 44, rfl⟩
abbrev main_call0_v7 : Ref sig .tc := ⟨.hbm, 45, rfl⟩
abbrev main_v23_1 : Ref sig .tc := ⟨.hbm, 46, rfl⟩
abbrev main_v23_0 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_3 : Ref sig .tc := ⟨.hbm, 53, rfl⟩
abbrev main_v29 : Ref sig .tc := ⟨.hbm, 54, rfl⟩
abbrev main_v30 : Ref sig .tc := ⟨.hbm, 55, rfl⟩
abbrev main_cst_4 : Ref sig .tc := ⟨.hbm, 56, rfl⟩
abbrev main_v31 : Ref sig .tc := ⟨.hbm, 57, rfl⟩
abbrev main_v32 : Ref sig .tc := ⟨.hbm, 58, rfl⟩
abbrev main_cst_5 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_6 : Ref sig .tc := ⟨.hbm, 66, rfl⟩
abbrev main_v39 : Ref sig .tc := ⟨.hbm, 67, rfl⟩
abbrev main_v40 : Ref sig .tc := ⟨.hbm, 68, rfl⟩
abbrev main_cst_7 : Ref sig .tc := ⟨.hbm, 69, rfl⟩
abbrev main_v41 : Ref sig .tc := ⟨.hbm, 70, rfl⟩
abbrev main_v42 : Ref sig .tc := ⟨.hbm, 71, rfl⟩
abbrev main_cst_8 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_call1_v0 : Ref sig .tc := ⟨.hbm, 94, rfl⟩
abbrev main_call1_v1 : Ref sig .tc := ⟨.hbm, 95, rfl⟩
abbrev main_call1_v2 : Ref sig .tc := ⟨.hbm, 96, rfl⟩
abbrev main_v64 : Ref sig .tc := ⟨.hbm, 97, rfl⟩
abbrev main_v65 : Ref sig .tc := ⟨.hbm, 98, rfl⟩
abbrev main_cst_9 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_10 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_cst_11 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_cst_12 : Ref sig .tc := ⟨.hbm, 115, rfl⟩
abbrev main_v79 : Ref sig .tc := ⟨.hbm, 116, rfl⟩
abbrev main_v80 : Ref sig .tc := ⟨.hbm, 117, rfl⟩
abbrev main_cst_13 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_cst_14 : Ref sig .tc := ⟨.hbm, 126, rfl⟩
abbrev main_v88 : Ref sig .tc := ⟨.hbm, 127, rfl⟩
abbrev main_v89 : Ref sig .tc := ⟨.hbm, 128, rfl⟩
abbrev main_c : Ref sig .tc := ⟨.hbm, 129, rfl⟩
abbrev main_call2_v0 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_c_15 : Ref sig .tc := ⟨.hbm, 135, rfl⟩
abbrev main_call3_v0 : Ref sig .tc := ⟨.hbm, 136, rfl⟩
abbrev main_v94 : Ref sig .tc := ⟨.hbm, 137, rfl⟩
abbrev main_c_16 : Ref sig .tc := ⟨.hbm, 138, rfl⟩
abbrev main_call4_v0 : Ref sig .tc := ⟨.hbm, 139, rfl⟩
abbrev main_v95 : Ref sig .tc := ⟨.hbm, 140, rfl⟩

abbrev nD : Nat := 1
abbrev τ : Topo := Topo.v7x

variable {F : FTy → Type} [FloatOps F]
-- ==== Kernel2.lean ====
abbrev S2176x1024 : Shape := ⟨2, ![2176, 1024]⟩
abbrev S1024x6144 : Shape := ⟨2, ![1024, 6144]⟩
abbrev S1024x8x768 : Shape := ⟨3, ![1024, 8, 768]⟩
abbrev S8x1024x768 : Shape := ⟨3, ![8, 1024, 768]⟩
abbrev S2176x6144 : Shape := ⟨2, ![2176, 6144]⟩
abbrev S1088x1024 : Shape := ⟨2, ![1088, 1024]⟩
abbrev S1x1024x768 : Shape := ⟨3, ![1, 1024, 768]⟩
abbrev S1088x768 : Shape := ⟨2, ![1088, 768]⟩
abbrev S1024x768 : Shape := ⟨2, ![1024, 768]⟩

abbrev nBuf : Space → Nat
  | .hbm => 7
  | .vmem => 6
  | .smem => 0
  | _ => 0

abbrev bufTy : (tb : Table) → Fin (tcTables nBuf tb) → BufTy
  | .hbm, ⟨0, _⟩ => ⟨S2176x1024, .f32⟩
  | .hbm, ⟨1, _⟩ => ⟨S1024x6144, .f32⟩
  | .hbm, ⟨2, _⟩ => ⟨S2176x1024, .bf16⟩
  | .hbm, ⟨3, _⟩ => ⟨S1024x6144, .bf16⟩
  | .hbm, ⟨4, _⟩ => ⟨S1024x8x768, .bf16⟩
  | .hbm, ⟨5, _⟩ => ⟨S8x1024x768, .bf16⟩
  | .hbm, ⟨6, _⟩ => ⟨S2176x6144, .f32⟩
  | .local _ .vmem, ⟨0, _⟩ => ⟨S1088x1024, .bf16⟩
  | .local _ .vmem, ⟨1, _⟩ => ⟨S1088x1024, .bf16⟩
  | .local _ .vmem, ⟨2, _⟩ => ⟨S1x1024x768, .bf16⟩
  | .local _ .vmem, ⟨3, _⟩ => ⟨S1x1024x768, .bf16⟩
  | .local _ .vmem, ⟨4, _⟩ => ⟨S1088x768, .f32⟩
  | .local _ .vmem, ⟨5, _⟩ => ⟨S1088x768, .f32⟩
  | _, _ => ⟨S2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1088x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S2176x1024 : Shape := ⟨2, ![2176, 1024]⟩
abbrev S1024x6144 : Shape := ⟨2, ![1024, 6144]⟩
abbrev S2176x6144 : Shape := ⟨2, ![2176, 6144]⟩

abbrev nBuf : Space → Nat
  | .hbm => 3
  | .vmem => 0
  | .smem => 0
  | _ => 0

abbrev bufTy : (tb : Table) → Fin (tcTables nBuf tb) → BufTy
  | .hbm, ⟨0, _⟩ => ⟨S2176x1024, .f32⟩
  | .hbm, ⟨1, _⟩ => ⟨S1024x6144, .f32⟩
  | .hbm, ⟨2, _⟩ => ⟨S2176x6144, .f32⟩
  | _, _ => ⟨S2176x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel3.lean ====
abbrev S2176x1024 : Shape := ⟨2, ![2176, 1024]⟩
abbrev S2176x6144 : Shape := ⟨2, ![2176, 6144]⟩
abbrev S1024x2176 : Shape := ⟨2, ![1024, 2176]⟩
abbrev S2176x1536 : Shape := ⟨2, ![2176, 1536]⟩
abbrev S2176x4608 : Shape := ⟨2, ![2176, 4608]⟩
abbrev S8x1024x768 : Shape := ⟨3, ![8, 1024, 768]⟩
abbrev S2176x768 : Shape := ⟨2, ![2176, 768]⟩
abbrev S1x1024x768 : Shape := ⟨3, ![1, 1024, 768]⟩
abbrev S1024x768 : Shape := ⟨2, ![1024, 768]⟩

abbrev nBuf : Space → Nat
  | .hbm => 8
  | .vmem => 7
  | .smem => 0
  | _ => 0

abbrev bufTy : (tb : Table) → Fin (tcTables nBuf tb) → BufTy
  | .hbm, ⟨0, _⟩ => ⟨S2176x1024, .f32⟩
  | .hbm, ⟨1, _⟩ => ⟨S2176x6144, .f32⟩
  | .hbm, ⟨2, _⟩ => ⟨S2176x6144, .bf16⟩
  | .hbm, ⟨3, _⟩ => ⟨S2176x1024, .bf16⟩
  | .hbm, ⟨4, _⟩ => ⟨S1024x2176, .bf16⟩
  | .hbm, ⟨5, _⟩ => ⟨S2176x1536, .bf16⟩
  | .hbm, ⟨6, _⟩ => ⟨S2176x4608, .bf16⟩
  | .hbm, ⟨7, _⟩ => ⟨S8x1024x768, .bf16⟩
  | .local _ .vmem, ⟨0, _⟩ => ⟨S1024x2176, .bf16⟩
  | .local _ .vmem, ⟨1, _⟩ => ⟨S2176x768, .bf16⟩
  | .local _ .vmem, ⟨2, _⟩ => ⟨S2176x768, .bf16⟩
  | .local _ .vmem, ⟨3, _⟩ => ⟨S2176x768, .bf16⟩
  | .local _ .vmem, ⟨4, _⟩ => ⟨S2176x768, .bf16⟩
  | .local _ .vmem, ⟨5, _⟩ => ⟨S1x1024x768, .bf16⟩
  | .local _ .vmem, ⟨6, _⟩ => ⟨S1x1024x768, .bf16⟩
  | _, _ => ⟨S2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c2_i32 : BitVec 32 := 2#32
  let v0 : BitVec 1 := Scalar.cmpi .slt arg0 c2_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c2_i32_0 : BitVec 32 := 2#32
  let v3 : BitVec 1 := Scalar.cmpi .sge arg0 c2_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1024x2176 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2176x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2176x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S2176x1024 : Shape := ⟨2, ![2176, 1024]⟩
abbrev S2176x6144 : Shape := ⟨2, ![2176, 6144]⟩
abbrev S_ : Shape := ⟨0, ![]⟩
abbrev S1024x6144 : Shape := ⟨2, ![1024, 6144]⟩
abbrev S6144x1024 : Shape := ⟨2, ![6144, 1024]⟩
abbrev S1024x8x768 : Shape := ⟨3, ![1024, 8, 768]⟩
abbrev S8x1024x768 : Shape := ⟨3, ![8, 1024, 768]⟩

abbrev nBuf : Space → Nat
  | .hbm => 10
  | .vmem => 0
  | .smem => 0
  | _ => 0

abbrev bufTy : (tb : Table) → Fin (tcTables nBuf tb) → BufTy
  | .hbm, ⟨0, _⟩ => ⟨S2176x1024, .f32⟩
  | .hbm, ⟨1, _⟩ => ⟨S2176x6144, .f32⟩
  | .hbm, ⟨2, _⟩ => ⟨S_, .f32⟩
  | .hbm, ⟨3, _⟩ => ⟨S1024x6144, .f32⟩
  | .hbm, ⟨4, _⟩ => ⟨S2176x6144, .f32⟩
  | .hbm, ⟨5, _⟩ => ⟨S6144x1024, .f32⟩
  | .hbm, ⟨6, _⟩ => ⟨S1024x6144, .f32⟩
  | .hbm, ⟨7, _⟩ => ⟨S1024x8x768, .f32⟩
  | .hbm, ⟨8, _⟩ => ⟨S8x1024x768, .f32⟩
  | .hbm, ⟨9, _⟩ => ⟨S8x1024x768, .bf16⟩
  | _, _ => ⟨S2176x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S2176x1024 : Shape := ⟨2, ![2176, 1024]⟩
abbrev S1024x1024 : Shape := ⟨2, ![1024, 1024]⟩
abbrev S544x1024 : Shape := ⟨2, ![544, 1024]⟩

abbrev nBuf : Space → Nat
  | .hbm => 8
  | .vmem => 9
  | .smem => 0
  | _ => 0

abbrev bufTy : (tb : Table) → Fin (tcTables nBuf tb) → BufTy
  | .hbm, ⟨0, _⟩ => ⟨S2176x1024, .f32⟩
  | .hbm, ⟨1, _⟩ => ⟨S1024x1024, .f32⟩
  | .hbm, ⟨2, _⟩ => ⟨S2176x1024, .f32⟩
  | .hbm, ⟨3, _⟩ => ⟨S2176x1024, .bf16⟩
  | .hbm, ⟨4, _⟩ => ⟨S1024x1024, .bf16⟩
  | .hbm, ⟨5, _⟩ => ⟨S2176x1024, .bf16⟩
  | .hbm, ⟨6, _⟩ => ⟨S2176x1024, .bf16⟩
  | .hbm, ⟨7, _⟩ => ⟨S1024x1024, .bf16⟩
  | .local _ .vmem, ⟨0, _⟩ => ⟨S544x1024, .bf16⟩
  | .local _ .vmem, ⟨1, _⟩ => ⟨S544x1024, .bf16⟩
  | .local _ .vmem, ⟨2, _⟩ => ⟨S1024x1024, .bf16⟩
  | .local _ .vmem, ⟨3, _⟩ => ⟨S544x1024, .bf16⟩
  | .local _ .vmem, ⟨4, _⟩ => ⟨S544x1024, .bf16⟩
  | .local _ .vmem, ⟨5, _⟩ => ⟨S544x1024, .bf16⟩
  | .local _ .vmem, ⟨6, _⟩ => ⟨S544x1024, .bf16⟩
  | .local _ .vmem, ⟨7, _⟩ => ⟨S1024x1024, .bf16⟩
  | .local _ .vmem, ⟨8, _⟩ => ⟨S1024x1024, .f32⟩
  | _, _ => ⟨S2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![4], ![false]⟩

def k0_cond3 (i : grid0.Coords) : BitVec 1 :=
  let arg0 : BitVec 32 := BitVec.ofNat 32 (i 0).val
  let c3_i32 : BitVec 32 := 3#32
  let v16 : BitVec 1 := Scalar.cmpi .eq arg0 c3_i32
  let v17 : BitVec 32 := Scalar.extui v16
  let c0_i32_11 : BitVec 32 := 0#32
  let v18 : BitVec 1 := Scalar.cmpi .ne v17 c0_i32_11
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S544x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S544x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S544x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference4Ideal.lean ====
abbrev S2176x1024 : Shape := ⟨2, ![2176, 1024]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2176x1024, .f32⟩
  | .hbm, ⟨1, _⟩ => ⟨S1024x1024, .f32⟩
  | .hbm, ⟨2, _⟩ => ⟨S2176x1024, .f32⟩
  | .hbm, ⟨3, _⟩ => ⟨S2176x1024, .f32⟩
  | .hbm, ⟨4, _⟩ => ⟨S1024x1024, .f32⟩
  | .hbm, ⟨5, _⟩ => ⟨S1024x1024, .f32⟩
  | .hbm, ⟨6, _⟩ => ⟨S2176x1024, .f32⟩
  | .hbm, ⟨7, _⟩ => ⟨S2176x1024, .bf16⟩
  | .hbm, ⟨8, _⟩ => ⟨S1024x1024, .bf16⟩
  | _, _ => ⟨S2176x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S2176x1024 : Shape := ⟨2, ![2176, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S2176 : Shape := ⟨1, ![2176]⟩
abbrev S2176x1 : Shape := ⟨2, ![2176, 1]⟩
abbrev S1024x8x512 : Shape := ⟨3, ![1024, 8, 512]⟩
abbrev S8x1024x512 : Shape := ⟨3, ![8, 1024, 512]⟩
abbrev S8x512x1024 : Shape := ⟨3, ![8, 512, 1024]⟩
abbrev S544x1024 : Shape := ⟨2, ![544, 1024]⟩
abbrev S1x1024x512 : Shape := ⟨3, ![1, 1024, 512]⟩
abbrev S1x512x1024 : Shape := ⟨3, ![1, 512, 1024]⟩
abbrev S1024x512 : Shape := ⟨2, ![1024, 512]⟩
abbrev S512x1024 : Shape := ⟨2, ![512, 1024]⟩
abbrev S544x512 : Shape := ⟨2, ![544, 512]⟩
abbrev S272x1024 : Shape := ⟨2, ![272, 1024]⟩
abbrev S272 : Shape := ⟨1, ![272]⟩
abbrev S272x1 : Shape := ⟨2, ![272, 1]⟩
abbrev S1024 : Shape := ⟨1, ![1024]⟩

abbrev nBuf : Space → Nat
  | .hbm => 32
  | .vmem => 25
  | .smem => 0
  | _ => 0

abbrev bufTy : (tb : Table) → Fin (tcTables nBuf tb) → BufTy
  | .hbm, ⟨0, _⟩ => ⟨S2176x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S2176x1024, .f32⟩
  | .hbm, ⟨5, _⟩ => ⟨S2176x1024, .f32⟩
  | .hbm, ⟨6, _⟩ => ⟨S_, .f32⟩
  | .hbm, ⟨7, _⟩ => ⟨S2176, .f32⟩
  | .hbm, ⟨8, _⟩ => ⟨S2176x1, .f32⟩
  | .hbm, ⟨9, _⟩ => ⟨S_, .f32⟩
  | .hbm, ⟨10, _⟩ => ⟨S2176x1, .f32⟩
  | .hbm, ⟨11, _⟩ => ⟨S2176x1, .f32⟩
  | .hbm, ⟨12, _⟩ => ⟨S_, .f32⟩
  | .hbm, ⟨13, _⟩ => ⟨S2176x1, .f32⟩
  | .hbm, ⟨14, _⟩ => ⟨S2176x1, .f32⟩
  | .hbm, ⟨15, _⟩ => ⟨S2176x1, .f32⟩
  | .hbm, ⟨16, _⟩ => ⟨S2176x1024, .f32⟩
  | .hbm, ⟨17, _⟩ => ⟨S2176x1024, .f32⟩
  | .hbm, ⟨18, _⟩ => ⟨S2176x1024, .f32⟩
  | .hbm, ⟨19, _⟩ => ⟨S2176x1024, .f32⟩
  | .hbm, ⟨20, _⟩ => ⟨S2176x1024, .bf16⟩
  | .hbm, ⟨21, _⟩ => ⟨S2176x1024, .bf16⟩
  | .hbm, ⟨22, _⟩ => ⟨S1024x4096, .bf16⟩
  | .hbm, ⟨23, _⟩ => ⟨S1024x8x512, .bf16⟩
  | .hbm, ⟨24, _⟩ => ⟨S8x1024x512, .bf16⟩
  | .hbm, ⟨25, _⟩ => ⟨S4096x1024, .bf16⟩
  | .hbm, ⟨26, _⟩ => ⟨S8x512x1024, .bf16⟩
  | .hbm, ⟨27, _⟩ => ⟨S8x1024x512, .bf16⟩
  | .hbm, ⟨28, _⟩ => ⟨S8x512x1024, .bf16⟩
  | .hbm, ⟨29, _⟩ => ⟨S2176x1024, .f32⟩
  | .hbm, ⟨30, _⟩ => ⟨S2176x1024, .bf16⟩
  | .hbm, ⟨31, _⟩ => ⟨S1x1024, .f32⟩
  | .local _ .vmem, ⟨0, _⟩ => ⟨S544x1024, .bf16⟩
  | .local _ .vmem, ⟨1, _⟩ => ⟨S544x1024, .bf16⟩
  | .local _ .vmem, ⟨2, _⟩ => ⟨S544x1024, .bf16⟩
  | .local _ .vmem, ⟨3, _⟩ => ⟨S544x1024, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S544x1024, .f32⟩
  | .local _ .vmem, ⟨9, _⟩ => ⟨S544x1024, .f32⟩
  | .local _ .vmem, ⟨10, _⟩ => ⟨S1x1024, .f32⟩
  | .local _ .vmem, ⟨11, _⟩ => ⟨S544x1024, .f32⟩
  | .local _ .vmem, ⟨12, _⟩ => ⟨S544x1024, .f32⟩
  | .local _ .vmem, ⟨13, _⟩ => ⟨S1x1024x512, .bf16⟩
  | .local _ .vmem, ⟨14, _⟩ => ⟨S1x1024x512, .bf16⟩
  | .local _ .vmem, ⟨15, _⟩ => ⟨S1x512x1024, .bf16⟩
  | .local _ .vmem, ⟨16, _⟩ => ⟨S1x512x1024, .bf16⟩
  | .local _ .vmem, ⟨17, _⟩ => ⟨S544x1024, .f32⟩
  | .local _ .vmem, ⟨18, _⟩ => ⟨S544x1024, .f32⟩
  | .local _ .vmem, ⟨19, _⟩ => ⟨S544x1024, .bf16⟩
  | .local _ .vmem, ⟨20, _⟩ => ⟨S544x1024, .bf16⟩
  | .local _ .vmem, ⟨21, _⟩ => ⟨S1x1024, .f32⟩
  | .local _ .vmem, ⟨22, _⟩ => ⟨S2176x1024, .f32⟩
  | .local _ .vmem, ⟨23, _⟩ => ⟨S1024x512, .f32⟩
  | .local _ .vmem, ⟨24, _⟩ => ⟨S512x1024, .f32⟩
  | _, _ => ⟨S2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19_0 : Ref sig .tc := ⟨.hbm, 27, rfl⟩
abbrev main_v19_1 : Ref sig .tc := ⟨.hbm, 28, rfl⟩
abbrev main_v19_2 : Ref sig .tc := ⟨.hbm, 29, rfl⟩
abbrev main_v19_3 : Ref sig .tc := ⟨.hbm, 30, rfl⟩
abbrev main_v19_4 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c544_i32 : BitVec 32 := 544#32
  let v0 : BitVec 32 := Scalar.muli arg1 c544_i32
  v0
def k0_cond4 (i : grid0.Coords) : BitVec 1 :=
  let arg0 : BitVec 32 := BitVec.ofNat 32 (i 0).val
  let c0_i32_22 : BitVec 32 := 0#32
  let v34 : BitVec 1 := Scalar.cmpi .eq arg0 c0_i32_22
  let v35 : BitVec 32 := Scalar.extui v34
  let c0_i32_23 : BitVec 32 := 0#32
  let v36 : BitVec 1 := Scalar.cmpi .ne v35 c0_i32_23
  v36

def k0_off1 (i : grid0.Coords) : Fin 2 → Nat :=
  let arg1 : BitVec 32 := BitVec.ofNat 32 (i 1).val
  let c544_i32 : BitVec 32 := 544#32
  let v0 : BitVec 32 := Scalar.muli arg1 c544_i32
  let v1 : BitVec 32 := v0
  let v43 : Index := Scalar.indexCast v1
  let c0_27 : Index := 0#32
  ![v43.toNat, 0]
def k0_cond5 (i : grid0.Coords) : BitVec 1 :=
  let arg0 : BitVec 32 := BitVec.ofNat 32 (i 0).val
  let c0_i32_24 : BitVec 32 := 0#32
  let v37 : BitVec 1 := Scalar.cmpi .sgt arg0 c0_i32_24
  let v38 : BitVec 32 := Scalar.extui v37
  let c0_i32_25 : BitVec 32 := 0#32
  let v39 : BitVec 1 := Scalar.cmpi .ne v38 c0_i32_25
  v39

def k0_off2 (i : grid0.Coords) : Fin 2 → Nat :=
  let arg1 : BitVec 32 := BitVec.ofNat 32 (i 1).val
  let c544_i32 : BitVec 32 := 544#32
  let v0 : BitVec 32 := Scalar.muli arg1 c544_i32
  let v1 : BitVec 32 := v0
  let v43 : Index := Scalar.indexCast v1
  let c0_27 : Index := 0#32
  ![v43.toNat, 0]
def k0_cond6 (i : grid0.Coords) : BitVec 1 :=
  let arg0 : BitVec 32 := BitVec.ofNat 32 (i 0).val
  let c7_i32 : BitVec 32 := 7#32
  let v40 : BitVec 1 := Scalar.cmpi .eq arg0 c7_i32
  let v41 : BitVec 32 := Scalar.extui v40
  let c0_i32_26 : BitVec 32 := 0#32
  let v42 : BitVec 1 := Scalar.cmpi .ne v41 c0_i32_26
  v42

def k0_mult2 (i : grid0.Coords) : BitVec 32 :=
  let arg1 : BitVec 32 := BitVec.ofNat 32 (i 1).val
  let c544_i32_28 : BitVec 32 := 544#32
  let v44 : BitVec 32 := Scalar.muli arg1 c544_i32_28
  let c0_i32_29 : BitVec 32 := 0#32
  let v45 : BitVec 32 := Scalar.addi v44 c0_i32_29
  v45
def k0_off3 (i : grid0.Coords) (c0_i32_29 : BitVec 32) : Fin 2 → Nat :=
  let arg1 : BitVec 32 := BitVec.ofNat 32 (i 1).val
  let c544_i32_28 : BitVec 32 := 544#32
  let v44 : BitVec 32 := Scalar.muli arg1 c544_i32_28
  let v45 : BitVec 32 := Scalar.addi v44 c0_i32_29
  let v46 : BitVec 32 := v45
  let v47 : Index := Scalar.indexCast v46
  let c0_30 : Index := 0#32
  ![v47.toNat, 0]
def k0_mult3 (i : grid0.Coords) : BitVec 32 :=
  let arg1 : BitVec 32 := BitVec.ofNat 32 (i 1).val
  let c544_i32_47 : BitVec 32 := 544#32
  let v82 : BitVec 32 := Scalar.muli arg1 c544_i32_47
  let c272_i32 : BitVec 32 := 272#32
  let v83 : BitVec 32 := Scalar.addi v82 c272_i32
  v83
def k0_cond3 (i : grid0.Coords) : BitVec 1 :=
  let arg1 : BitVec 32 := BitVec.ofNat 32 (i 1).val
  let c3_i32 : BitVec 32 := 3#32
  let v31 : BitVec 1 := Scalar.cmpi .eq arg1 c3_i32
  let v32 : BitVec 32 := Scalar.extui v31
  let c0_i32_21 : BitVec 32 := 0#32
  let v33 : BitVec 1 := Scalar.cmpi .ne v32 c0_i32_21
  v33

def k0_cond7 (i : grid0.Coords) : BitVec 1 :=
  let arg1 : BitVec 32 := BitVec.ofNat 32 (i 1).val
  let c0_i32_64 : BitVec 32 := 0#32
  let v120 : BitVec 1 := Scalar.cmpi .eq arg1 c0_i32_64
  let v121 : BitVec 32 := Scalar.extui v120
  let c0_i32_65 : BitVec 32 := 0#32
  let v122 : BitVec 1 := Scalar.cmpi .ne v121 c0_i32_65
  v122

def k0_cond8 (i : grid0.Coords) : BitVec 1 :=
  let arg1 : BitVec 32 := BitVec.ofNat 32 (i 1).val
  let c0_i32_66 : BitVec 32 := 0#32
  let v123 : BitVec 1 := Scalar.cmpi .sgt arg1 c0_i32_66
  let v124 : BitVec 32 := Scalar.extui v123
  let c0_i32_67 : BitVec 32 := 0#32
  let v125 : BitVec 1 := Scalar.cmpi .ne v124 c0_i32_67
  v125

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 1 := Scalar.cmpi .eq arg0 c7_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 1 := Scalar.cmpi .eq arg0 c7_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 1 := Scalar.cmpi .eq arg0 c7_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_10 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 1 := Scalar.cmpi .eq arg0 c7_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S544x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S544x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S544x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S544x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S544x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S544x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== Reference5Ideal.lean ====
abbrev S2176x1024 : Shape := ⟨2, ![2176, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S2176 : Shape := ⟨1, ![2176]⟩
abbrev S2176x1 : Shape := ⟨2, ![2176, 1]⟩
abbrev S2176x4096 : Shape := ⟨2, ![2176, 4096]⟩
abbrev S1024 : Shape := ⟨1, ![1024]⟩
abbrev S1024x8x512 : Shape := ⟨3, ![1024, 8, 512]⟩
abbrev S8x1024x512 : Shape := ⟨3, ![8, 1024, 512]⟩
abbrev S8x512x1024 : Shape := ⟨3, ![8, 512, 1024]⟩

abbrev nBuf : Space → Nat
  | .hbm => 80
  | .vmem => 0
  | .smem => 0
  | _ => 0

abbrev bufTy : (tb : Table) → Fin (tcTables nBuf tb) → BufTy
  | .hbm, ⟨0, _⟩ => ⟨S2176x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S2176x1024, .f32⟩
  | .hbm, ⟨5, _⟩ => ⟨S2176x1024, .f32⟩
  | .hbm, ⟨6, _⟩ => ⟨S_, .f32⟩
  | .hbm, ⟨7, _⟩ => ⟨S2176, .f32⟩
  | .hbm, ⟨8, _⟩ => ⟨S2176x1, .f32⟩
  | .hbm, ⟨9, _⟩ => ⟨S_, .f32⟩
  | .hbm, ⟨10, _⟩ => ⟨S2176x1, .f32⟩
  | .hbm, ⟨11, _⟩ => ⟨S2176x1, .f32⟩
  | .hbm, ⟨12, _⟩ => ⟨S_, .f32⟩
  | .hbm, ⟨13, _⟩ => ⟨S2176x1, .f32⟩
  | .hbm, ⟨14, _⟩ => ⟨S2176x1, .f32⟩
  | .hbm, ⟨15, _⟩ => ⟨S2176x1, .f32⟩
  | .hbm, ⟨16, _⟩ => ⟨S2176x1, .f32⟩
  | .hbm, ⟨17, _⟩ => ⟨S_, .f32⟩
  | .hbm, ⟨18, _⟩ => ⟨S2176x1, .f32⟩
  | .hbm, ⟨19, _⟩ => ⟨S2176x1, .f32⟩
  | .hbm, ⟨20, _⟩ => ⟨S2176x1024, .f32⟩
  | .hbm, ⟨21, _⟩ => ⟨S2176x1024, .f32⟩
  | .hbm, ⟨22, _⟩ => ⟨S2176x1024, .f32⟩
  | .hbm, ⟨23, _⟩ => ⟨S2176x1024, .f32⟩
  | .hbm, ⟨24, _⟩ => ⟨S2176x4096, .f32⟩
  | .hbm, ⟨25, _⟩ => ⟨S_, .f32⟩
  | .hbm, ⟨26, _⟩ => ⟨S2176x4096, .f32⟩
  | .hbm, ⟨27, _⟩ => ⟨S2176x4096, .f32⟩
  | .hbm, ⟨28, _⟩ => ⟨S_, .f32⟩
  | .hbm, ⟨29, _⟩ => ⟨S2176x4096, .f32⟩
  | .hbm, ⟨30, _⟩ => ⟨S2176x4096, .i1⟩
  | .hbm, ⟨31, _⟩ => ⟨S_, .f32⟩
  | .hbm, ⟨32, _⟩ => ⟨S2176x4096, .f32⟩
  | .hbm, ⟨33, _⟩ => ⟨S2176x4096, .f32⟩
  | .hbm, ⟨34, _⟩ => ⟨S_, .f32⟩
  | .hbm, ⟨35, _⟩ => ⟨S2176x4096, .f32⟩
  | .hbm, ⟨36, _⟩ => ⟨S2176x4096, .f32⟩
  | .hbm, ⟨37, _⟩ => ⟨S2176x1024, .f32⟩
  | .hbm, ⟨38, _⟩ => ⟨S2176x1024, .f32⟩
  | .hbm, ⟨39, _⟩ => ⟨S2176x1024, .f32⟩
  | .hbm, ⟨40, _⟩ => ⟨S1024x4096, .f32⟩
  | .hbm, ⟨41, _⟩ => ⟨S4096x1024, .f32⟩
  | .hbm, ⟨42, _⟩ => ⟨S2176x4096, .f32⟩
  | .hbm, ⟨43, _⟩ => ⟨S2176x4096, .f32⟩
  | .hbm, ⟨44, _⟩ => ⟨S_, .f32⟩
  | .hbm, ⟨45, _⟩ => ⟨S2176x4096, .f32⟩
  | .hbm, ⟨46, _⟩ => ⟨S2176x4096, .f32⟩
  | .hbm, ⟨47, _⟩ => ⟨S4096x1024, .f32⟩
  | .hbm, ⟨48, _⟩ => ⟨S1024x4096, .f32⟩
  | .hbm, ⟨49, _⟩ => ⟨S2176x1024, .f32⟩
  | .hbm, ⟨50, _⟩ => ⟨S2176x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S2176x1024, .f32⟩
  | .hbm, ⟨55, _⟩ => ⟨S2176x1024, .f32⟩
  | .hbm, ⟨56, _⟩ => ⟨S2176x1024, .f32⟩
  | .hbm, ⟨57, _⟩ => ⟨S_, .f32⟩
  | .hbm, ⟨58, _⟩ => ⟨S2176, .f32⟩
  | .hbm, ⟨59, _⟩ => ⟨S2176x1, .f32⟩
  | .hbm, ⟨60, _⟩ => ⟨S2176x1024, .f32⟩
  | .hbm, ⟨61, _⟩ => ⟨S2176x1024, .f32⟩
  | .hbm, ⟨62, _⟩ => ⟨S2176x1024, .f32⟩
  | .hbm, ⟨63, _⟩ => ⟨S2176x1, .f32⟩
  | .hbm, ⟨64, _⟩ => ⟨S_, .f32⟩
  | .hbm, ⟨65, _⟩ => ⟨S2176x1, .f32⟩
  | .hbm, ⟨66, _⟩ => ⟨S2176x1, .f32⟩
  | .hbm, ⟨67, _⟩ => ⟨S_, .f32⟩
  | .hbm, ⟨68, _⟩ => ⟨S2176, .f32⟩
  | .hbm, ⟨69, _⟩ => ⟨S2176x1024, .f32⟩
  | .hbm, ⟨70, _⟩ => ⟨S2176x1024, .f32⟩
  | .hbm, ⟨71, _⟩ => ⟨S2176x1024, .f32⟩
  | .hbm, ⟨72, _⟩ => ⟨S2176x1024, .f32⟩
  | .hbm, ⟨73, _⟩ => ⟨S2176x1024, .f32⟩
  | .hbm, ⟨74, _⟩ => ⟨S1024x8x512, .f32⟩
  | .hbm, ⟨75, _⟩ => ⟨S8x1024x512, .f32⟩
  | .hbm, ⟨76, _⟩ => ⟨S8x1024x512, .bf16⟩
  | .hbm, ⟨77, _⟩ => ⟨S8x512x1024, .f32⟩
  | .hbm, ⟨78, _⟩ => ⟨S8x512x1024, .bf16⟩
  | .hbm, ⟨79, _⟩ => ⟨S2176x1024, .bf16⟩
  | _, _ => ⟨S2176x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_cst : Ref sig .tc := ⟨.hbm, 25, rfl⟩
abbrev main_call0_v0 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_9 : Ref sig .tc := ⟨.hbm, 64, rfl⟩
abbrev main_v47 : Ref sig .tc := ⟨.hbm, 65, rfl⟩
abbrev main_v48 : Ref sig .tc := ⟨.hbm, 66, rfl⟩
abbrev main_cst_10 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩

abbrev nD : Nat := 1
abbrev τ : Topo := Topo.v7x

variable {F : FTy → Type} [FloatOps F]
-- ==== Proof.MixVal.lean ====
module

public import proofs.«01_k».proof.Proof.Gen.KernelIdeal.Frame
public import proofs.«01_k».proof.Proof.Gen.KernelIdeal.Skeleton
public import Idealize.ShloMosaic.Lib.VecWindow
public import Idealize.ShloMosaic.Lib.WholeRead

@[expose] public section

set_option maxRecDepth 16384

noncomputable section

namespace Cert.KernelIdeal.Mix

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! What one grid point computes from its blocks: `o_na`, `u`, `o_f`, `o_b`, `g`, the gain, the two output weights, the two gates and the
incoming gradient are `x0` … `x10`, and `a` is the point's number as a word. -/

/-- The gradient of the attention branch's output. -/
def gradNa (x6 : Vec F S512x1024 .bf16) (x8 : Vec F S544x1024 .f32) (x10 : Vec F S544x1024 .bf16) : Vec F S544x512 .f32 := k0_pay7 x10 x8 x6

/-- The gradient of the attention branch's gate. -/
def gateNa (x0 : Vec F S544x512 .bf16) (x6 : Vec F S512x1024 .bf16) (x8 : Vec F S544x1024 .f32) (x10 : Vec F S544x1024 .bf16) :
    Vec F S544x1024 .bf16 := k0_pay5 x10 x0 x6 x8

/-- The gradient of the recurrence branch's gate. -/
def gateHg (x1 : Vec F S544x512 .bf16) (x7 : Vec F S512x1024 .bf16) (x9 : Vec F S544x1024 .f32) (x10 : Vec F S544x1024 .bf16) :
    Vec F S544x1024 .bf16 := k0_pay14 (k0_pay2 x10) x1 x7 x9

/-- The gradient of the recurrence branch before its output weights. -/
def gradU (x7 : Vec F S512x1024 .bf16) (x9 : Vec F S544x1024 .f32) (x10 : Vec F S544x1024 .bf16) : FVec F S544x512 .f32 :=
  k0_pay16 (k0_pay2 x10) x9 x7

/-- The gradient of the recurrence's output, through the gate, the gain and the per-head norm. -/
def gradO (a : BitVec 32) (x2 x3 x4 : Vec F S544x512 .f32) (x5 : Vec F S1x512 .f32) (u : FVec F S544x512 .f32) : Vec F S544x512 .f32 :=
  k0_pay46 (k0_pay23 a) (k0_pay27 a u x4 x5) (k0_pay31 a u x2 x3 x4 x5) (k0_pay35 (k0_pay27 a u x4 x5) (k0_pay32 x2 x3))
    (k0_pay39 (k0_pay21 x2 x3) (k0_pay27 a u x4 x5)) (k0_pay40 (k0_pay21 x2 x3)) (k0_pay41 (k0_pay21 x2 x3)) k0_pay42

/-- The gradient of the recurrence's output gate. -/
def gradG (a : BitVec 32) (x2 x3 x4 : Vec F S544x512 .f32) (x5 : Vec F S1x512 .f32) (u : FVec F S544x512 .f32) : Vec F S544x512 .bf16 :=
  k0_pay48 (k0_pay22 x4) x5 (k0_pay23 a) (k0_pay24 a u) (k0_pay25 x4) (k0_pay30 x2 x3) (k0_pay34 (k0_pay32 x2 x3))
    (k0_pay38 (k0_pay21 x2 x3)) (k0_pay40 (k0_pay21 x2 x3)) (k0_pay41 (k0_pay21 x2 x3)) k0_pay42

/-- The point's part of the gradient of the gain. -/
def gainPart (a : BitVec 32) (x2 x3 x4 : Vec F S544x512 .f32) (u : FVec F S544x512 .f32) : FVec F S1x512 .f32 :=
  k0_pay47 (k0_pay23 a) (k0_pay24 a u) (k0_pay26 x4) (k0_pay30 x2 x3) (k0_pay34 (k0_pay32 x2 x3))
    (k0_pay38 (k0_pay21 x2 x3)) (k0_pay40 (k0_pay21 x2 x3)) (k0_pay41 (k0_pay21 x2 x3)) k0_pay42

/-- The wide output block over what it held: the three column ranges this call writes. -/
def rest (d : Vec F S544x4608 .bf16) (gg : Vec F S544x512 .bf16) (gna ghg : Vec F S544x1024 .bf16) : Vec F S544x4608 .bf16 :=
  VecWindow.put (VecWindow.put (VecWindow.put d ![0, 2560] S544x1024.size gna) ![0, 3584] S544x1024.size ghg) ![0, 2048] S544x512.size gg

/-- A load of a whole buffer reads what it is held at. -/
theorem load_whole {sp : Space} {s : Shape} {e : EltTy} {m : Memref sig .tc sp s e} (h : m.IsWhole) (X : s.Idx → Elt F e) {off : Fin s.rank → ℕ}
    (inb : ∀ a, off a + s.size a ≤ s.size a) : View.readAt (Elt F) m.view (Rect.unit off s.size inb).toLoadRect (h.unread X) = X := by
  rw [View.readAt_full, h.read_unread]

end Cert.KernelIdeal.Mix
-- ==== Proof.MixFirst.lean ====
module

public import proofs.«01_k».proof.Proof.MixVal

@[expose] public section

set_option maxRecDepth 16384

noncomputable section

namespace Cert.KernelIdeal.Mix

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
/-- The first grid point: the accumulators and the gain are stored, not added to. -/
theorem first (c : Dev nD) (i : grid0.Coords)
  (a1 : Memref sig .tc .vmem S544x512 .bf16) (h1 : a1.IsWhole) (a2 : Memref sig .tc .vmem S544x512 .bf16) (h2 : a2.IsWhole)
  (a3 : Memref sig .tc .vmem S544x512 .f32) (h3 : a3.IsWhole) (a4 : Memref sig .tc .vmem S544x512 .f32) (h4 : a4.IsWhole)
  (a5 : Memref sig .tc .vmem S544x512 .f32) (h5 : a5.IsWhole) (a6 : Memref sig .tc .vmem S1x512 .f32) (h6 : a6.IsWhole)
  (a7 : Memref sig .tc .vmem S512x1024 .bf16) (h7 : a7.IsWhole) (a8 : Memref sig .tc .vmem S512x1024 .bf16) (h8 : a8.IsWhole)
  (a9 : Memref sig .tc .vmem S544x1024 .f32) (h9 : a9.IsWhole) (a10 : Memref sig .tc .vmem S544x1024 .f32) (h10 : a10.IsWhole)
  (a11 : Memref sig .tc .vmem S544x1024 .bf16) (h11 : a11.IsWhole) (a12 : Memref sig .tc .vmem S544x4608 .bf16) (h12 : a12.IsWhole)
  (a13 : Memref sig .tc .vmem S512x1024 .bf16) (h13 : a13.IsWhole) (a14 : Memref sig .tc .vmem S512x1024 .bf16) (h14 : a14.IsWhole)
  (a15 : Memref sig .tc .vmem S544x512 .f32) (h15 : a15.IsWhole) (a16 : Memref sig .tc .vmem S544x512 .f32) (h16 : a16.IsWhole)
  (a17 : Memref sig .tc .vmem S1x512 .f32) (h17 : a17.IsWhole) (a18 : Memref sig .tc .vmem S512x1024 .f32) (h18 : a18.IsWhole)
  (a19 : Memref sig .tc .vmem S512x1024 .f32) (h19 : a19.IsWhole)
  (x0 : Vec F S544x512 .bf16) (x1 : Vec F S544x512 .bf16) (x2 : Vec F S544x512 .f32) (x3 : Vec F S544x512 .f32) (x4 : Vec F S544x512 .f32)
  (x5 : Vec F S1x512 .f32) (x6 : Vec F S512x1024 .bf16) (x7 : Vec F S512x1024 .bf16) (x8 : Vec F S544x1024 .f32) (x9 : Vec F S544x1024 .f32) (x10 : Vec F S544x1024 .bf16)
  (d12 : Vec F S544x4608 .bf16)
  (hc1 : (Scalar.cmpi .ne (Scalar.extui (Scalar.cmpi .eq (BitVec.ofNat 32 (i 0).val) 0#32)) 0#32) = 1#1)
  (hc2 : ¬ (Scalar.cmpi .ne (Scalar.extui (Scalar.cmpi .sgt (BitVec.ofNat 32 (i 0).val) 0#32)) 0#32) = 1#1)
  (hc3 : ¬ k0_cond3 i = 1#1) (hc6 : ¬ k0_cond6 i = 1#1) (hc7 : k0_cond7 i = 1#1) (hc8 : ¬ k0_cond8 i = 1#1)
  (E : Set ℕ) (K : PUnit → sProp 𝕄) :
  iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare x8 ∗ owns (c : Thread nD τ) a10 fullShare x9 ∗ owns (c : Thread nD τ) a11 fullShare x10
    ∗ owns (c : Thread nD τ) a12 fullShare d12 ∗ (∃ d, owns (c : Thread nD τ) a13 fullShare d) ∗ (∃ d, owns (c : Thread nD τ) a14 fullShare d)
    ∗ (∃ d, owns (c : Thread nD τ) a15 fullShare d) ∗ (∃ d, owns (c : Thread nD τ) a16 fullShare d)
    ∗ (∃ d, owns (c : Thread nD τ) a17 fullShare d) ∗ (∃ d, owns (c : Thread nD τ) a18 fullShare d) ∗ (∃ d, owns (c : Thread nD τ) a19 fullShare d)
    ∗ ((owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare x8 ∗ owns (c : Thread nD τ) a10 fullShare x9 ∗ owns (c : Thread nD τ) a11 fullShare x10
    ∗ owns (c : Thread nD τ) a12 fullShare (rest d12 (gradG (BitVec.ofNat 32 (i 0).val) x2 x3 x4 x5 (gradU x7 x9 x10)) (gateNa x0 x6 x8 x10) (gateHg x1 x7 x9 x10))
    ∗ (∃ d, owns (c : Thread nD τ) a13 fullShare d)
    ∗ (∃ d, owns (c : Thread nD τ) a14 fullShare d)
    ∗ owns (c : Thread nD τ) a15 fullShare (gradNa x6 x8 x10)
    ∗ owns (c : Thread nD τ) a16 fullShare (gradO (BitVec.ofNat 32 (i 0).val) x2 x3 x4 x5 (gradU x7 x9 x10))
    ∗ owns (c : Thread nD τ) a17 fullShare (gainPart (BitVec.ofNat 32 (i 0).val) x2 x3 x4 (gradU x7 x9 x10))
    ∗ owns (c : Thread nD τ) a18 fullShare (k0_pay9 x10 x0 x8)
    ∗ owns (c : Thread nD τ) a19 fullShare (k0_pay18 (k0_pay2 x10) x1 x9)) -∗ K ⟨⟩))
  ⊢ wp frame (wpE (defs₀ (F := F)) Variants.none c none) E (cc0_mix_bwd i a1 h1 a2 h2 a3 h3 a4 h4 a5 h5 a6 h6 a7 h7 a8 h8 a9 h9 a10 h10 a11 h11 a12 h12 a13 h13 a14 h14 a15 h15 a16 h16 a17 h17 a18 h18 a19 h19) K := by
  simp only [cc0_mix_bwd_eq_skeleton]; unfold cc0_mix_bwd_skel
  simp only [k0_part1_eq_skeleton, k0_part2_eq_skeleton, k0_part3_eq_skeleton, k0_part4_eq_skeleton, k0_part5_eq_skeleton]
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%d13, %f13, %e13, H13⟩, ⟨%d14, %f14, %e14, H14⟩, ⟨%d15, %f15, -, H15⟩, ⟨%d16, %f16, -, H16⟩, ⟨%d17, %f17, -, H17⟩, ⟨%d18, %f18, -, H18⟩, ⟨%d19, %f19, -, H19⟩, HK⟩
  obtain rfl := h1.eq_unread e1
  obtain rfl := h2.eq_unread e2
  obtain rfl := h3.eq_unread e3
  obtain rfl := h4.eq_unread e4
  obtain rfl := h5.eq_unread e5
  obtain rfl := h6.eq_unread e6
  obtain rfl := h7.eq_unread e7
  obtain rfl := h8.eq_unread e8
  obtain rfl := h9.eq_unread e9
  obtain rfl := h10.eq_unread e10
  obtain rfl := h11.eq_unread e11
  sl_exec (disch := first | sl_exact hc1 | sl_exact hc2 | sl_exact hc3 | sl_exact hc6 | sl_exact hc7 | sl_exact hc8)
  sl_step
  iapply HK
  have L1 := load_whole h1 x0 inb_S544x512_S544x512_0_0
  have L2 := load_whole h2 x1 inb_S544x512_S544x512_0_0
  have L3 := load_whole h3 x2 inb_S544x512_S544x512_0_0
  have L4 := load_whole h4 x3 inb_S544x512_S544x512_0_0
  have L5 := load_whole h5 x4 inb_S544x512_S544x512_0_0
  have L6 := load_whole h6 x5 inb_S1x512_S1x512_0_0
  have L7 := load_whole h7 x6 inb_S512x1024_S512x1024_0_0
  have L8 := load_whole h8 x7 inb_S512x1024_S512x1024_0_0
  have L9 := load_whole h9 x8 inb_S544x1024_S544x1024_0_0
  have L10 := load_whole h10 x9 inb_S544x1024_S544x1024_0_0
  have L11 := load_whole h11 x10 inb_S544x1024_S544x1024_0_0
  isplitl [H1]
  · iexists _; isplitr; swap; · iexact H1
    ipureintro; exact h1.read_unread _
  isplitl [H2]
  · iexists _; isplitr; swap; · iexact H2
    ipureintro; exact h2.read_unread _
  isplitl [H3]
  · iexists _; isplitr; swap; · iexact H3
    ipureintro; exact h3.read_unread _
  isplitl [H4]
  · iexists _; isplitr; swap; · iexact H4
    ipureintro; exact h4.read_unread _
  isplitl [H5]
  · iexists _; isplitr; swap; · iexact H5
    ipureintro; exact h5.read_unread _
  isplitl [H6]
  · iexists _; isplitr; swap; · iexact H6
    ipureintro; exact h6.read_unread _
  isplitl [H7]
  · iexists _; isplitr; swap; · iexact H7
    ipureintro; exact h7.read_unread _
  isplitl [H8]
  · iexists _; isplitr; swap; · iexact H8
    ipureintro; exact h8.read_unread _
  isplitl [H9]
  · iexists _; isplitr; swap; · iexact H9
    ipureintro; exact h9.read_unread _
  isplitl [H10]
  · iexists _; isplitr; swap; · iexact H10
    ipureintro; exact h10.read_unread _
  isplitl [H11]
  · iexists _; isplitr; swap; · iexact H11
    ipureintro; exact h11.read_unread _
  isplitl [H12]
  · iexists _; isplitr; swap; · iexact H12
    ipureintro
    refine (View.read_writes_cons_put _ _ _ _ _ rfl).trans ?_; rw [View.read_writes_cons_put _ _ _ _ _ (rfl : ![0, 3584] = ![0, 3584]), View.read_writes_cons_put _ _ _ _ _ (rfl : ![0, 2560] = ![0, 2560]), View.writes_nil, e12]; unfold rest; (conv => rhs; rw [← L1, ← L2, ← L3, ← L4, ← L5, ← L6, ← L7, ← L8, ← L9, ← L10, ← L11]); try rfl
  isplitl [H13]
  · iexists _; iexists _; isplitr; swap; · iexact H13
    ipureintro; exact e13
  isplitl [H14]
  · iexists _; iexists _; isplitr; swap; · iexact H14
    ipureintro; exact e14
  isplitl [H15]
  · iexists _; isplitr; swap; · iexact H15
    ipureintro
    refine (View.read_writes_full _ _ _ _ _).trans ?_; (conv => rhs; rw [← L7, ← L9, ← L11]); try rfl
  isplitl [H16]
  · iexists _; isplitr; swap; · iexact H16
    ipureintro
    refine (View.read_writes_full _ _ _ _ _).trans ?_; (conv => rhs; rw [← L3, ← L4, ← L5, ← L6, ← L8, ← L10, ← L11]); try rfl
  isplitl [H17]
  · iexists _; isplitr; swap; · iexact H17
    ipureintro
    refine (View.read_writes_full _ _ _ _ _).trans ?_; (conv => rhs; rw [← L3, ← L4, ← L5, ← L8, ← L10, ← L11]); try rfl
  isplitl [H18]
  · iexists _; isplitr; swap; · iexact H18
    ipureintro
    refine (View.read_writes_full _ _ _ _ _).trans ?_; (conv => rhs; rw [← L1, ← L9, ← L11]); try rfl
  iexists _; isplitr; swap; · iexact H19
  ipureintro
  refine (View.read_writes_full _ _ _ _ _).trans ?_; (conv => rhs; rw [← L2, ← L10, ← L11]); try rfl

end Cert.KernelIdeal.Mix
-- ==== Proof.MixMid.lean ====
module

public import proofs.«01_k».proof.Proof.MixVal

@[expose] public section

set_option maxRecDepth 16384

noncomputable section

namespace Cert.KernelIdeal.Mix

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
/-- A grid point between the first and the last: the accumulators and the gain are added to. -/
theorem mid (c : Dev nD) (i : grid0.Coords)
  (a1 : Memref sig .tc .vmem S544x512 .bf16) (h1 : a1.IsWhole) (a2 : Memref sig .tc .vmem S544x512 .bf16) (h2 : a2.IsWhole)
  (a3 : Memref sig .tc .vmem S544x512 .f32) (h3 : a3.IsWhole) (a4 : Memref sig .tc .vmem S544x512 .f32) (h4 : a4.IsWhole)
  (a5 : Memref sig .tc .vmem S544x512 .f32) (h5 : a5.IsWhole) (a6 : Memref sig .tc .vmem S1x512 .f32) (h6 : a6.IsWhole)
  (a7 : Memref sig .tc .vmem S512x1024 .bf16) (h7 : a7.IsWhole) (a8 : Memref sig .tc .vmem S512x1024 .bf16) (h8 : a8.IsWhole)
  (a9 : Memref sig .tc .vmem S544x1024 .f32) (h9 : a9.IsWhole) (a10 : Memref sig .tc .vmem S544x1024 .f32) (h10 : a10.IsWhole)
  (a11 : Memref sig .tc .vmem S544x1024 .bf16) (h11 : a11.IsWhole) (a12 : Memref sig .tc .vmem S544x4608 .bf16) (h12 : a12.IsWhole)
  (a13 : Memref sig .tc .vmem S512x1024 .bf16) (h13 : a13.IsWhole) (a14 : Memref sig .tc .vmem S512x1024 .bf16) (h14 : a14.IsWhole)
  (a15 : Memref sig .tc .vmem S544x512 .f32) (h15 : a15.IsWhole) (a16 : Memref sig .tc .vmem S544x512 .f32) (h16 : a16.IsWhole)
  (a17 : Memref sig .tc .vmem S1x512 .f32) (h17 : a17.IsWhole) (a18 : Memref sig .tc .vmem S512x1024 .f32) (h18 : a18.IsWhole)
  (a19 : Memref sig .tc .vmem S512x1024 .f32) (h19 : a19.IsWhole)
  (x0 : Vec F S544x512 .bf16) (x1 : Vec F S544x512 .bf16) (x2 : Vec F S544x512 .f32) (x3 : Vec F S544x512 .f32) (x4 : Vec F S544x512 .f32)
  (x5 : Vec F S1x512 .f32) (x6 : Vec F S512x1024 .bf16) (x7 : Vec F S512x1024 .bf16) (x8 : Vec F S544x1024 .f32) (x9 : Vec F S544x1024 .f32) (x10 : Vec F S544x1024 .bf16)
  (d12 : Vec F S544x4608 .bf16)
  (s0 s1 : Vec F S512x1024 .f32) (g : Vec F S1x512 .f32)
  (hc1 : ¬ (Scalar.cmpi .ne (Scalar.extui (Scalar.cmpi .eq (BitVec.ofNat 32 (i 0).val) 0#32)) 0#32) = 1#1)
  (hc2 : (Scalar.cmpi .ne (Scalar.extui (Scalar.cmpi .sgt (BitVec.ofNat 32 (i 0).val) 0#32)) 0#32) = 1#1)
  (hc3 : ¬ k0_cond3 i = 1#1) (hc6 : ¬ k0_cond6 i = 1#1) (hc7 : ¬ k0_cond7 i = 1#1) (hc8 : k0_cond8 i = 1#1)
  (E : Set ℕ) (K : PUnit → sProp 𝕄) :
  iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare x8 ∗ owns (c : Thread nD τ) a10 fullShare x9 ∗ owns (c : Thread nD τ) a11 fullShare x10
    ∗ owns (c : Thread nD τ) a12 fullShare d12 ∗ (∃ d, owns (c : Thread nD τ) a13 fullShare d) ∗ (∃ d, owns (c : Thread nD τ) a14 fullShare d)
    ∗ (∃ d, owns (c : Thread nD τ) a15 fullShare d) ∗ (∃ d, owns (c : Thread nD τ) a16 fullShare d)
    ∗ owns (c : Thread nD τ) a17 fullShare g ∗ owns (c : Thread nD τ) a18 fullShare s0 ∗ owns (c : Thread nD τ) a19 fullShare s1
    ∗ ((owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare x8 ∗ owns (c : Thread nD τ) a10 fullShare x9 ∗ owns (c : Thread nD τ) a11 fullShare x10
    ∗ owns (c : Thread nD τ) a12 fullShare (rest d12 (gradG (BitVec.ofNat 32 (i 0).val) x2 x3 x4 x5 (gradU x7 x9 x10)) (gateNa x0 x6 x8 x10) (gateHg x1 x7 x9 x10))
    ∗ (∃ d, owns (c : Thread nD τ) a13 fullShare d)
    ∗ (∃ d, owns (c : Thread nD τ) a14 fullShare d)
    ∗ owns (c : Thread nD τ) a15 fullShare (gradNa x6 x8 x10)
    ∗ owns (c : Thread nD τ) a16 fullShare (gradO (BitVec.ofNat 32 (i 0).val) x2 x3 x4 x5 (gradU x7 x9 x10))
    ∗ owns (c : Thread nD τ) a17 fullShare (k0_pay1 (gainPart (BitVec.ofNat 32 (i 0).val) x2 x3 x4 (gradU x7 x9 x10)) g)
    ∗ owns (c : Thread nD τ) a18 fullShare (k0_pay10 x10 x0 x8 s0)
    ∗ owns (c : Thread nD τ) a19 fullShare (k0_pay19 (k0_pay2 x10) x1 x9 s1)) -∗ K ⟨⟩))
  ⊢ wp frame (wpE (defs₀ (F := F)) Variants.none c none) E (cc0_mix_bwd i a1 h1 a2 h2 a3 h3 a4 h4 a5 h5 a6 h6 a7 h7 a8 h8 a9 h9 a10 h10 a11 h11 a12 h12 a13 h13 a14 h14 a15 h15 a16 h16 a17 h17 a18 h18 a19 h19) K := by
  simp only [cc0_mix_bwd_eq_skeleton]; unfold cc0_mix_bwd_skel
  simp only [k0_part1_eq_skeleton, k0_part2_eq_skeleton, k0_part3_eq_skeleton, k0_part4_eq_skeleton, k0_part5_eq_skeleton]
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%d13, %f13, %e13, H13⟩, ⟨%d14, %f14, %e14, H14⟩, ⟨%d15, %f15, -, H15⟩, ⟨%d16, %f16, -, H16⟩, ⟨%f17, %e17, H17⟩, ⟨%f18, %e18, H18⟩, ⟨%f19, %e19, H19⟩, HK⟩
  obtain rfl := h1.eq_unread e1
  obtain rfl := h2.eq_unread e2
  obtain rfl := h3.eq_unread e3
  obtain rfl := h4.eq_unread e4
  obtain rfl := h5.eq_unread e5
  obtain rfl := h6.eq_unread e6
  obtain rfl := h7.eq_unread e7
  obtain rfl := h8.eq_unread e8
  obtain rfl := h9.eq_unread e9
  obtain rfl := h10.eq_unread e10
  obtain rfl := h11.eq_unread e11
  obtain rfl := h17.eq_unread e17
  obtain rfl := h18.eq_unread e18
  obtain rfl := h19.eq_unread e19
  sl_exec (disch := first | sl_exact hc1 | sl_exact hc2 | sl_exact hc3 | sl_exact hc6 | sl_exact hc7 | sl_exact hc8)
  sl_step
  iapply HK
  have L1 := load_whole h1 x0 inb_S544x512_S544x512_0_0
  have L2 := load_whole h2 x1 inb_S544x512_S544x512_0_0
  have L3 := load_whole h3 x2 inb_S544x512_S544x512_0_0
  have L4 := load_whole h4 x3 inb_S544x512_S544x512_0_0
  have L5 := load_whole h5 x4 inb_S544x512_S544x512_0_0
  have L6 := load_whole h6 x5 inb_S1x512_S1x512_0_0
  have L7 := load_whole h7 x6 inb_S512x1024_S512x1024_0_0
  have L8 := load_whole h8 x7 inb_S512x1024_S512x1024_0_0
  have L9 := load_whole h9 x8 inb_S544x1024_S544x1024_0_0
  have L10 := load_whole h10 x9 inb_S544x1024_S544x1024_0_0
  have L11 := load_whole h11 x10 inb_S544x1024_S544x1024_0_0
  have L17 := load_whole h17 g inb_S1x512_S1x512_0_0
  have L18 := load_whole h18 s0 inb_S512x1024_S512x1024_0_0
  have L19 := load_whole h19 s1 inb_S512x1024_S512x1024_0_0
  isplitl [H1]
  · iexists _; isplitr; swap; · iexact H1
    ipureintro; exact h1.read_unread _
  isplitl [H2]
  · iexists _; isplitr; swap; · iexact H2
    ipureintro; exact h2.read_unread _
  isplitl [H3]
  · iexists _; isplitr; swap; · iexact H3
    ipureintro; exact h3.read_unread _
  isplitl [H4]
  · iexists _; isplitr; swap; · iexact H4
    ipureintro; exact h4.read_unread _
  isplitl [H5]
  · iexists _; isplitr; swap; · iexact H5
    ipureintro; exact h5.read_unread _
  isplitl [H6]
  · iexists _; isplitr; swap; · iexact H6
    ipureintro; exact h6.read_unread _
  isplitl [H7]
  · iexists _; isplitr; swap; · iexact H7
    ipureintro; exact h7.read_unread _
  isplitl [H8]
  · iexists _; isplitr; swap; · iexact H8
    ipureintro; exact h8.read_unread _
  isplitl [H9]
  · iexists _; isplitr; swap; · iexact H9
    ipureintro; exact h9.read_unread _
  isplitl [H10]
  · iexists _; isplitr; swap; · iexact H10
    ipureintro; exact h10.read_unread _
  isplitl [H11]
  · iexists _; isplitr; swap; · iexact H11
    ipureintro; exact h11.read_unread _
  isplitl [H12]
  · iexists _; isplitr; swap; · iexact H12
    ipureintro
    refine (View.read_writes_cons_put _ _ _ _ _ rfl).trans ?_; rw [View.read_writes_cons_put _ _ _ _ _ (rfl : ![0, 3584] = ![0, 3584]), View.read_writes_cons_put _ _ _ _ _ (rfl : ![0, 2560] = ![0, 2560]), View.writes_nil, e12]; unfold rest; (conv => rhs; rw [← L1, ← L2, ← L3, ← L4, ← L5, ← L6, ← L7, ← L8, ← L9, ← L10, ← L11]); try rfl
  isplitl [H13]
  · iexists _; iexists _; isplitr; swap; · iexact H13
    ipureintro; exact e13
  isplitl [H14]
  · iexists _; iexists _; isplitr; swap; · iexact H14
    ipureintro; exact e14
  isplitl [H15]
  · iexists _; isplitr; swap; · iexact H15
    ipureintro
    refine (View.read_writes_full _ _ _ _ _).trans ?_; (conv => rhs; rw [← L7, ← L9, ← L11]); try rfl
  isplitl [H16]
  · iexists _; isplitr; swap; · iexact H16
    ipureintro
    refine (View.read_writes_full _ _ _ _ _).trans ?_; (conv => rhs; rw [← L3, ← L4, ← L5, ← L6, ← L8, ← L10, ← L11]); try rfl
  isplitl [H17]
  · iexists _; isplitr; swap; · iexact H17
    ipureintro
    refine (View.read_writes_full _ _ _ _ _).trans ?_; (conv => rhs; rw [← L3, ← L4, ← L5, ← L8, ← L10, ← L11, ← L17]); try rfl
  isplitl [H18]
  · iexists _; isplitr; swap; · iexact H18
    ipureintro
    refine (View.read_writes_full _ _ _ _ _).trans ?_; (conv => rhs; rw [← L1, ← L9, ← L11, ← L18]); try rfl
  iexists _; isplitr; swap; · iexact H19
  ipureintro
  refine (View.read_writes_full _ _ _ _ _).trans ?_; (conv => rhs; rw [← L2, ← L10, ← L11, ← L19]); try rfl

end Cert.KernelIdeal.Mix
-- ==== Proof.MixLast.lean ====
module

public import proofs.«01_k».proof.Proof.MixVal

@[expose] public section

set_option maxRecDepth 16384

noncomputable section

namespace Cert.KernelIdeal.Mix

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
/-- The last grid point: the accumulators are added to and their sums leave through the two weight gradients. -/
theorem last (c : Dev nD) (i : grid0.Coords)
  (a1 : Memref sig .tc .vmem S544x512 .bf16) (h1 : a1.IsWhole) (a2 : Memref sig .tc .vmem S544x512 .bf16) (h2 : a2.IsWhole)
  (a3 : Memref sig .tc .vmem S544x512 .f32) (h3 : a3.IsWhole) (a4 : Memref sig .tc .vmem S544x512 .f32) (h4 : a4.IsWhole)
  (a5 : Memref sig .tc .vmem S544x512 .f32) (h5 : a5.IsWhole) (a6 : Memref sig .tc .vmem S1x512 .f32) (h6 : a6.IsWhole)
  (a7 : Memref sig .tc .vmem S512x1024 .bf16) (h7 : a7.IsWhole) (a8 : Memref sig .tc .vmem S512x1024 .bf16) (h8 : a8.IsWhole)
  (a9 : Memref sig .tc .vmem S544x1024 .f32) (h9 : a9.IsWhole) (a10 : Memref sig .tc .vmem S544x1024 .f32) (h10 : a10.IsWhole)
  (a11 : Memref sig .tc .vmem S544x1024 .bf16) (h11 : a11.IsWhole) (a12 : Memref sig .tc .vmem S544x4608 .bf16) (h12 : a12.IsWhole)
  (a13 : Memref sig .tc .vmem S512x1024 .bf16) (h13 : a13.IsWhole) (a14 : Memref sig .tc .vmem S512x1024 .bf16) (h14 : a14.IsWhole)
  (a15 : Memref sig .tc .vmem S544x512 .f32) (h15 : a15.IsWhole) (a16 : Memref sig .tc .vmem S544x512 .f32) (h16 : a16.IsWhole)
  (a17 : Memref sig .tc .vmem S1x512 .f32) (h17 : a17.IsWhole) (a18 : Memref sig .tc .vmem S512x1024 .f32) (h18 : a18.IsWhole)
  (a19 : Memref sig .tc .vmem S512x1024 .f32) (h19 : a19.IsWhole)
  (x0 : Vec F S544x512 .bf16) (x1 : Vec F S544x512 .bf16) (x2 : Vec F S544x512 .f32) (x3 : Vec F S544x512 .f32) (x4 : Vec F S544x512 .f32)
  (x5 : Vec F S1x512 .f32) (x6 : Vec F S512x1024 .bf16) (x7 : Vec F S512x1024 .bf16) (x8 : Vec F S544x1024 .f32) (x9 : Vec F S544x1024 .f32) (x10 : Vec F S544x1024 .bf16)
  (d12 : Vec F S544x4608 .bf16)
  (s0 s1 : Vec F S512x1024 .f32) (g : Vec F S1x512 .f32)
  (hc1 : ¬ (Scalar.cmpi .ne (Scalar.extui (Scalar.cmpi .eq (BitVec.ofNat 32 (i 0).val) 0#32)) 0#32) = 1#1)
  (hc2 : (Scalar.cmpi .ne (Scalar.extui (Scalar.cmpi .sgt (BitVec.ofNat 32 (i 0).val) 0#32)) 0#32) = 1#1)
  (hc3 : k0_cond3 i = 1#1) (hc6 : k0_cond6 i = 1#1) (hc7 : ¬ k0_cond7 i = 1#1) (hc8 : k0_cond8 i = 1#1)
  (E : Set ℕ) (K : PUnit → sProp 𝕄) :
  iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare x8 ∗ owns (c : Thread nD τ) a10 fullShare x9 ∗ owns (c : Thread nD τ) a11 fullShare x10
    ∗ owns (c : Thread nD τ) a12 fullShare d12 ∗ (∃ d, owns (c : Thread nD τ) a13 fullShare d) ∗ (∃ d, owns (c : Thread nD τ) a14 fullShare d)
    ∗ (∃ d, owns (c : Thread nD τ) a15 fullShare d) ∗ (∃ d, owns (c : Thread nD τ) a16 fullShare d)
    ∗ owns (c : Thread nD τ) a17 fullShare g ∗ owns (c : Thread nD τ) a18 fullShare s0 ∗ owns (c : Thread nD τ) a19 fullShare s1
    ∗ ((owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare x8 ∗ owns (c : Thread nD τ) a10 fullShare x9 ∗ owns (c : Thread nD τ) a11 fullShare x10
    ∗ owns (c : Thread nD τ) a12 fullShare (rest d12 (gradG (BitVec.ofNat 32 (i 0).val) x2 x3 x4 x5 (gradU x7 x9 x10)) (gateNa x0 x6 x8 x10) (gateHg x1 x7 x9 x10))
    ∗ owns (c : Thread nD τ) a13 fullShare (k0_pay11 (k0_pay10 x10 x0 x8 s0))
    ∗ owns (c : Thread nD τ) a14 fullShare (k0_pay20 (k0_pay19 (k0_pay2 x10) x1 x9 s1))
    ∗ owns (c : Thread nD τ) a15 fullShare (gradNa x6 x8 x10)
    ∗ owns (c : Thread nD τ) a16 fullShare (gradO (BitVec.ofNat 32 (i 0).val) x2 x3 x4 x5 (gradU x7 x9 x10))
    ∗ owns (c : Thread nD τ) a17 fullShare (k0_pay1 (gainPart (BitVec.ofNat 32 (i 0).val) x2 x3 x4 (gradU x7 x9 x10)) g)
    ∗ owns (c : Thread nD τ) a18 fullShare (k0_pay10 x10 x0 x8 s0)
    ∗ owns (c : Thread nD τ) a19 fullShare (k0_pay19 (k0_pay2 x10) x1 x9 s1)) -∗ K ⟨⟩))
  ⊢ wp frame (wpE (defs₀ (F := F)) Variants.none c none) E (cc0_mix_bwd i a1 h1 a2 h2 a3 h3 a4 h4 a5 h5 a6 h6 a7 h7 a8 h8 a9 h9 a10 h10 a11 h11 a12 h12 a13 h13 a14 h14 a15 h15 a16 h16 a17 h17 a18 h18 a19 h19) K := by
  simp only [cc0_mix_bwd_eq_skeleton]; unfold cc0_mix_bwd_skel
  simp only [k0_part1_eq_skeleton, k0_part2_eq_skeleton, k0_part3_eq_skeleton, k0_part4_eq_skeleton, k0_part5_eq_skeleton]
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%d13, %f13, -, H13⟩, ⟨%d14, %f14, -, H14⟩, ⟨%d15, %f15, -, H15⟩, ⟨%d16, %f16, -, H16⟩, ⟨%f17, %e17, H17⟩, ⟨%f18, %e18, H18⟩, ⟨%f19, %e19, H19⟩, HK⟩
  obtain rfl := h1.eq_unread e1
  obtain rfl := h2.eq_unread e2
  obtain rfl := h3.eq_unread e3
  obtain rfl := h4.eq_unread e4
  obtain rfl := h5.eq_unread e5
  obtain rfl := h6.eq_unread e6
  obtain rfl := h7.eq_unread e7
  obtain rfl := h8.eq_unread e8
  obtain rfl := h9.eq_unread e9
  obtain rfl := h10.eq_unread e10
  obtain rfl := h11.eq_unread e11
  obtain rfl := h17.eq_unread e17
  obtain rfl := h18.eq_unread e18
  obtain rfl := h19.eq_unread e19
  sl_exec (disch := first | sl_exact hc1 | sl_exact hc2 | sl_exact hc3 | sl_exact hc6 | sl_exact hc7 | sl_exact hc8)
  sl_step
  iapply HK
  have L1 := load_whole h1 x0 inb_S544x512_S544x512_0_0
  have L2 := load_whole h2 x1 inb_S544x512_S544x512_0_0
  have L3 := load_whole h3 x2 inb_S544x512_S544x512_0_0
  have L4 := load_whole h4 x3 inb_S544x512_S544x512_0_0
  have L5 := load_whole h5 x4 inb_S544x512_S544x512_0_0
  have L6 := load_whole h6 x5 inb_S1x512_S1x512_0_0
  have L7 := load_whole h7 x6 inb_S512x1024_S512x1024_0_0
  have L8 := load_whole h8 x7 inb_S512x1024_S512x1024_0_0
  have L9 := load_whole h9 x8 inb_S544x1024_S544x1024_0_0
  have L10 := load_whole h10 x9 inb_S544x1024_S544x1024_0_0
  have L11 := load_whole h11 x10 inb_S544x1024_S544x1024_0_0
  have L17 := load_whole h17 g inb_S1x512_S1x512_0_0
  have L18 := load_whole h18 s0 inb_S512x1024_S512x1024_0_0
  have L19 := load_whole h19 s1 inb_S512x1024_S512x1024_0_0
  isplitl [H1]
  · iexists _; isplitr; swap; · iexact H1
    ipureintro; exact h1.read_unread _
  isplitl [H2]
  · iexists _; isplitr; swap; · iexact H2
    ipureintro; exact h2.read_unread _
  isplitl [H3]
  · iexists _; isplitr; swap; · iexact H3
    ipureintro; exact h3.read_unread _
  isplitl [H4]
  · iexists _; isplitr; swap; · iexact H4
    ipureintro; exact h4.read_unread _
  isplitl [H5]
  · iexists _; isplitr; swap; · iexact H5
    ipureintro; exact h5.read_unread _
  isplitl [H6]
  · iexists _; isplitr; swap; · iexact H6
    ipureintro; exact h6.read_unread _
  isplitl [H7]
  · iexists _; isplitr; swap; · iexact H7
    ipureintro; exact h7.read_unread _
  isplitl [H8]
  · iexists _; isplitr; swap; · iexact H8
    ipureintro; exact h8.read_unread _
  isplitl [H9]
  · iexists _; isplitr; swap; · iexact H9
    ipureintro; exact h9.read_unread _
  isplitl [H10]
  · iexists _; isplitr; swap; · iexact H10
    ipureintro; exact h10.read_unread _
  isplitl [H11]
  · iexists _; isplitr; swap; · iexact H11
    ipureintro; exact h11.read_unread _
  isplitl [H12]
  · iexists _; isplitr; swap; · iexact H12
    ipureintro
    refine (View.read_writes_cons_put _ _ _ _ _ rfl).trans ?_; rw [View.read_writes_cons_put _ _ _ _ _ (rfl : ![0, 3584] = ![0, 3584]), View.read_writes_cons_put _ _ _ _ _ (rfl : ![0, 2560] = ![0, 2560]), View.writes_nil, e12]; unfold rest; (conv => rhs; rw [← L1, ← L2, ← L3, ← L4, ← L5, ← L6, ← L7, ← L8, ← L9, ← L10, ← L11]); try rfl
  isplitl [H13]
  · iexists _; isplitr; swap; · iexact H13
    ipureintro
    refine (View.read_writes_full _ _ _ _ _).trans (congrArg k0_pay11 ?_); (conv => rhs; rw [← L1, ← L9, ← L11, ← L18]); first | exact View.readCov_full _ _ _ _ _ | exact View.readAt_writes_full _ _ _ _ _ _
  isplitl [H14]
  · iexists _; isplitr; swap; · iexact H14
    ipureintro
    refine (View.read_writes_full _ _ _ _ _).trans (congrArg k0_pay20 ?_); (conv => rhs; rw [← L2, ← L10, ← L11, ← L19]); first | exact View.readCov_full _ _ _ _ _ | exact View.readAt_writes_full _ _ _ _ _ _
  isplitl [H15]
  · iexists _; isplitr; swap; · iexact H15
    ipureintro
    refine (View.read_writes_full _ _ _ _ _).trans ?_; (conv => rhs; rw [← L7, ← L9, ← L11]); try rfl
  isplitl [H16]
  · iexists _; isplitr; swap; · iexact H16
    ipureintro
    refine (View.read_writes_full _ _ _ _ _).trans ?_; (conv => rhs; rw [← L3, ← L4, ← L5, ← L6, ← L8, ← L10, ← L11]); try rfl
  isplitl [H17]
  · iexists _; isplitr; swap; · iexact H17
    ipureintro
    refine (View.read_writes_full _ _ _ _ _).trans ?_; (conv => rhs; rw [← L3, ← L4, ← L5, ← L8, ← L10, ← L11, ← L17]); try rfl
  isplitl [H18]
  · iexists _; isplitr; swap; · iexact H18
    ipureintro
    refine (View.read_writes_full _ _ _ _ _).trans ?_; (conv => rhs; rw [← L1, ← L9, ← L11, ← L18]); try rfl
  iexists _; isplitr; swap; · iexact H19
  ipureintro
  refine (View.read_writes_full _ _ _ _ _).trans ?_; (conv => rhs; rw [← L2, ← L10, ← L11, ← L19]); try rfl

end Cert.KernelIdeal.Mix
-- ==== Proof.MixFrame.lean ====
module

public import proofs.«01_k».proof.Proof.MixFirst
public import proofs.«01_k».proof.Proof.MixMid
public import proofs.«01_k».proof.Proof.MixLast
public import Idealize.ShloMosaic.Lib.Pipeline.DatRel
public import Idealize.ShloMosaic.Lib.Pipeline.ArrRel

@[expose] public section

set_option maxRecDepth 16384

noncomputable section

namespace Cert.KernelIdeal.Mix

open Cert.KernelIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat RDat BodyObligationRel)
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each point leaves -/

/-- Point `n`, for a number read modulo the grid. -/
def pt (n : ℕ) : Fin cfg0.N := ⟨n % 4, lt_of_lt_of_eq (Nat.mod_lt _ (by decide)) N_0.symm⟩

theorem pt_val (t : Fin cfg0.N) : pt t.val = t :=
  Fin.ext (Nat.mod_eq_of_lt (lt_of_lt_of_eq t.isLt N_0))

/-- The point's number as the body sees it. -/
def word (t : Fin cfg0.N) : BitVec 32 := BitVec.ofNat 32 (grid0.coords t 0).val

def duAt (c : Dev nD) (t : Fin cfg0.N) : FVec F S544x512 .f32 := gradU (iblk m c 7 t) (iblk m c 9 t) (iblk m c 10 t)
def dnaAt (c : Dev nD) (t : Fin cfg0.N) : Vec F S544x512 .f32 := gradNa (iblk m c 6 t) (iblk m c 8 t) (iblk m c 10 t)
def doAt (c : Dev nD) (t : Fin cfg0.N) : Vec F S544x512 .f32 := gradO (word t) (iblk m c 2 t) (iblk m c 3 t) (iblk m c 4 t) (iblk m c 5 t) (duAt m c t)
def dgAt (c : Dev nD) (t : Fin cfg0.N) : Vec F S544x512 .bf16 := gradG (word t) (iblk m c 2 t) (iblk m c 3 t) (iblk m c 4 t) (iblk m c 5 t) (duAt m c t)
def gainAt (c : Dev nD) (t : Fin cfg0.N) : Vec F S1x512 .f32 := gainPart (word t) (iblk m c 2 t) (iblk m c 3 t) (iblk m c 4 t) (duAt m c t)
def gnaAt (c : Dev nD) (t : Fin cfg0.N) : Vec F S544x1024 .bf16 := gateNa (iblk m c 0 t) (iblk m c 6 t) (iblk m c 8 t) (iblk m c 10 t)
def ghgAt (c : Dev nD) (t : Fin cfg0.N) : Vec F S544x1024 .bf16 := gateHg (iblk m c 1 t) (iblk m c 7 t) (iblk m c 9 t) (iblk m c 10 t)

/-- The accumulator of the attention branch's weight gradient after point `n`. -/
def accNa (c : Dev nD) : ℕ → Vec F S512x1024 .f32
  | 0 => k0_pay9 (iblk m c 10 (pt 0)) (iblk m c 0 (pt 0)) (iblk m c 8 (pt 0))
  | n + 1 => k0_pay10 (iblk m c 10 (pt (n + 1))) (iblk m c 0 (pt (n + 1))) (iblk m c 8 (pt (n + 1))) (accNa c n)

/-- The accumulator of the recurrence branch's weight gradient after point `n`. -/
def accHg (c : Dev nD) : ℕ → Vec F S512x1024 .f32
  | 0 => k0_pay18 (k0_pay2 (iblk m c 10 (pt 0))) (iblk m c 1 (pt 0)) (iblk m c 9 (pt 0))
  | n + 1 => k0_pay19 (k0_pay2 (iblk m c 10 (pt (n + 1)))) (iblk m c 1 (pt (n + 1))) (iblk m c 9 (pt (n + 1))) (accHg c n)

/-- The gradient of the gain after point `n`. -/
def accGain (c : Dev nD) : ℕ → Vec F S1x512 .f32
  | 0 => gainAt m c (pt 0)
  | n + 1 => k0_pay1 (gainAt m c (pt (n + 1))) (accGain c n)

theorem accNa_pos (c : Dev nD) (t : Fin cfg0.N) (h : t.val ≠ 0) :
    accNa m c t.val = k0_pay10 (iblk m c 10 t) (iblk m c 0 t) (iblk m c 8 t) (accNa m c (t.val - 1)) := by
  obtain ⟨n, hn⟩ := Nat.exists_eq_succ_of_ne_zero h
  have := pt_val t; rw [hn] at this ⊢; rw [accNa, this]; rfl

theorem accHg_pos (c : Dev nD) (t : Fin cfg0.N) (h : t.val ≠ 0) :
    accHg m c t.val = k0_pay19 (k0_pay2 (iblk m c 10 t)) (iblk m c 1 t) (iblk m c 9 t) (accHg m c (t.val - 1)) := by
  obtain ⟨n, hn⟩ := Nat.exists_eq_succ_of_ne_zero h
  have := pt_val t; rw [hn] at this ⊢; rw [accHg, this]; rfl

theorem accGain_pos (c : Dev nD) (t : Fin cfg0.N) (h : t.val ≠ 0) :
    accGain m c t.val = k0_pay1 (gainAt m c t) (accGain m c (t.val - 1)) := by
  obtain ⟨n, hn⟩ := Nat.exists_eq_succ_of_ne_zero h
  have := pt_val t; rw [hn] at this ⊢; rw [accGain, this]; rfl

theorem accNa_zero (c : Dev nD) (t : Fin cfg0.N) (h : t.val = 0) : accNa m c t.val = k0_pay9 (iblk m c 10 t) (iblk m c 0 t) (iblk m c 8 t) := by
  have := pt_val t; rw [h] at this ⊢; rw [accNa, this]

theorem accHg_zero (c : Dev nD) (t : Fin cfg0.N) (h : t.val = 0) : accHg m c t.val = k0_pay18 (k0_pay2 (iblk m c 10 t)) (iblk m c 1 t) (iblk m c 9 t) := by
  have := pt_val t; rw [h] at this ⊢; rw [accHg, this]

theorem accGain_zero (c : Dev nD) (t : Fin cfg0.N) (h : t.val = 0) : accGain m c t.val = gainAt m c t := by
  have := pt_val t; rw [h] at this ⊢; rw [accGain, this]

/-! ## The branch conditions over the grid -/

theorem first_iff : ∀ t : Fin cfg0.N, (Scalar.cmpi .ne (Scalar.extui (Scalar.cmpi .eq (BitVec.ofNat 32 (grid0.coords t 0).val) 0#32)) 0#32) = 1#1 ↔ t.val = 0 :=
  (by decide +kernel : ∀ t : Fin grid0.N, (Scalar.cmpi .ne (Scalar.extui (Scalar.cmpi .eq (BitVec.ofNat 32 (grid0.coords t 0).val) 0#32)) 0#32) = 1#1 ↔ t.val = 0)

theorem later_iff : ∀ t : Fin cfg0.N, (Scalar.cmpi .ne (Scalar.extui (Scalar.cmpi .sgt (BitVec.ofNat 32 (grid0.coords t 0).val) 0#32)) 0#32) = 1#1 ↔ t.val ≠ 0 :=
  (by decide +kernel : ∀ t : Fin grid0.N, (Scalar.cmpi .ne (Scalar.extui (Scalar.cmpi .sgt (BitVec.ofNat 32 (grid0.coords t 0).val) 0#32)) 0#32) = 1#1 ↔ t.val ≠ 0)

theorem last3_iff : ∀ t : Fin cfg0.N, k0_cond3 (grid0.coords t) = 1#1 ↔ t.val = 3 :=
  (by decide +kernel : ∀ t : Fin grid0.N, k0_cond3 (grid0.coords t) = 1#1 ↔ t.val = 3)

theorem last6_iff : ∀ t : Fin cfg0.N, k0_cond6 (grid0.coords t) = 1#1 ↔ t.val = 3 :=
  (by decide +kernel : ∀ t : Fin grid0.N, k0_cond6 (grid0.coords t) = 1#1 ↔ t.val = 3)

theorem first7_iff : ∀ t : Fin cfg0.N, k0_cond7 (grid0.coords t) = 1#1 ↔ t.val = 0 :=
  (by decide +kernel : ∀ t : Fin grid0.N, k0_cond7 (grid0.coords t) = 1#1 ↔ t.val = 0)

theorem later8_iff : ∀ t : Fin cfg0.N, k0_cond8 (grid0.coords t) = 1#1 ↔ t.val ≠ 0 :=
  (by decide +kernel : ∀ t : Fin grid0.N, k0_cond8 (grid0.coords t) = 1#1 ↔ t.val ≠ 0)

/-! ## The buffers -/

abbrev ms0 (t : Fin cfg0.N) : Memref sig .tc .vmem S544x512 .bf16 := win0_0.stage (cfg0.slots t 0)
abbrev ms1 (t : Fin cfg0.N) : Memref sig .tc .vmem S544x512 .bf16 := win0_1.stage (cfg0.slots t 1)
abbrev ms2 (t : Fin cfg0.N) : Memref sig .tc .vmem S544x512 .f32 := win0_2.stage (cfg0.slots t 2)
abbrev ms3 (t : Fin cfg0.N) : Memref sig .tc .vmem S544x512 .f32 := win0_3.stage (cfg0.slots t 3)
abbrev ms4 (t : Fin cfg0.N) : Memref sig .tc .vmem S544x512 .f32 := win0_4.stage (cfg0.slots t 4)
abbrev ms5 (t : Fin cfg0.N) : Memref sig .tc .vmem S1x512 .f32 := win0_5.stage (cfg0.slots t 5)
abbrev ms6 (t : Fin cfg0.N) : Memref sig .tc .vmem S512x1024 .bf16 := win0_6.stage (cfg0.slots t 6)
abbrev ms7 (t : Fin cfg0.N) : Memref sig .tc .vmem S512x1024 .bf16 := win0_7.stage (cfg0.slots t 7)
abbrev ms8 (t : Fin cfg0.N) : Memref sig .tc .vmem S544x1024 .f32 := win0_8.stage (cfg0.slots t 8)
abbrev ms9 (t : Fin cfg0.N) : Memref sig .tc .vmem S544x1024 .f32 := win0_9.stage (cfg0.slots t 9)
abbrev ms10 (t : Fin cfg0.N) : Memref sig .tc .vmem S544x1024 .bf16 := win0_10.stage (cfg0.slots t 10)
abbrev ms11 (t : Fin cfg0.N) : Memref sig .tc .vmem S544x4608 .bf16 := win0_11.stage (cfg0.slots t 11)
abbrev ms12 (t : Fin cfg0.N) : Memref sig .tc .vmem S512x1024 .bf16 := win0_12.stage (cfg0.slots t 12)
abbrev ms13 (t : Fin cfg0.N) : Memref sig .tc .vmem S512x1024 .bf16 := win0_13.stage (cfg0.slots t 13)
abbrev ms14 (t : Fin cfg0.N) : Memref sig .tc .vmem S544x512 .f32 := win0_14.stage (cfg0.slots t 14)
abbrev ms15 (t : Fin cfg0.N) : Memref sig .tc .vmem S544x512 .f32 := win0_15.stage (cfg0.slots t 15)
abbrev ms16 (t : Fin cfg0.N) : Memref sig .tc .vmem S1x512 .f32 := win0_16.stage (cfg0.slots t 16)
abbrev hs0 (t : Fin cfg0.N) : (ms0 t).IsWhole := hstage0_0 ((cfg0.slots t 0).cast nbuf0_0)
abbrev hs1 (t : Fin cfg0.N) : (ms1 t).IsWhole := hstage0_1 ((cfg0.slots t 1).cast nbuf0_1)
abbrev hs2 (t : Fin cfg0.N) : (ms2 t).IsWhole := hstage0_2 ((cfg0.slots t 2).cast nbuf0_2)
abbrev hs3 (t : Fin cfg0.N) : (ms3 t).IsWhole := hstage0_3 ((cfg0.slots t 3).cast nbuf0_3)
abbrev hs4 (t : Fin cfg0.N) : (ms4 t).IsWhole := hstage0_4 ((cfg0.slots t 4).cast nbuf0_4)
abbrev hs5 (t : Fin cfg0.N) : (ms5 t).IsWhole := hstage0_5 ((cfg0.slots t 5).cast nbuf0_5)
abbrev hs6 (t : Fin cfg0.N) : (ms6 t).IsWhole := hstage0_6 ((cfg0.slots t 6).cast nbuf0_6)
abbrev hs7 (t : Fin cfg0.N) : (ms7 t).IsWhole := hstage0_7 ((cfg0.slots t 7).cast nbuf0_7)
abbrev hs8 (t : Fin cfg0.N) : (ms8 t).IsWhole := hstage0_8 ((cfg0.slots t 8).cast nbuf0_8)
abbrev hs9 (t : Fin cfg0.N) : (ms9 t).IsWhole := hstage0_9 ((cfg0.slots t 9).cast nbuf0_9)
abbrev hs10 (t : Fin cfg0.N) : (ms10 t).IsWhole := hstage0_10 ((cfg0.slots t 10).cast nbuf0_10)
abbrev hs11 (t : Fin cfg0.N) : (ms11 t).IsWhole := hstage0_11 ((cfg0.slots t 11).cast nbuf0_11)
abbrev hs12 (t : Fin cfg0.N) : (ms12 t).IsWhole := hstage0_12 ((cfg0.slots t 12).cast nbuf0_12)
abbrev hs13 (t : Fin cfg0.N) : (ms13 t).IsWhole := hstage0_13 ((cfg0.slots t 13).cast nbuf0_13)
abbrev hs14 (t : Fin cfg0.N) : (ms14 t).IsWhole := hstage0_14 ((cfg0.slots t 14).cast nbuf0_14)
abbrev hs15 (t : Fin cfg0.N) : (ms15 t).IsWhole := hstage0_15 ((cfg0.slots t 15).cast nbuf0_15)
abbrev hs16 (t : Fin cfg0.N) : (ms16 t).IsWhole := hstage0_16 ((cfg0.slots t 16).cast nbuf0_16)

/-- The two accumulators. -/
abbrev sc0 : Memref sig .tc .vmem S512x1024 .f32 := Memref.whole cc0_scratch0
abbrev sc1 : Memref sig .tc .vmem S512x1024 .f32 := Memref.whole cc0_scratch1

theorem any_scratch (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-- Before the first point the scratch holds anything; after point `n` the two accumulators. -/
def Inv (c : Dev nD) : ℕ → sProp 𝕄
  | 0 => Pipeline.ΦA spec0 c
  | n + 1 => iprop(iprop(owns (c : Thread nD τ) sc0 fullShare (accNa m c n) ∗ owns (c : Thread nD τ) sc1 fullShare (accHg m c n)) ∗ (∃ r, prngReg c r))

theorem Inv_zero (c : Dev nD) (n : ℕ) (h : n = 0) : Inv m c n = Pipeline.ΦA spec0 c := by
  subst h; rfl

theorem Inv_pos (c : Dev nD) (n : ℕ) (h : n ≠ 0) : Inv m c n
    = iprop(iprop(owns (c : Thread nD τ) sc0 fullShare (accNa m c (n - 1)) ∗ owns (c : Thread nD τ) sc1 fullShare (accHg m c (n - 1))) ∗ (∃ r, prngReg c r)) := by
  obtain ⟨k, rfl⟩ := Nat.exists_eq_succ_of_ne_zero h; rfl

/-! ## The proof data -/

/-- The outputs held to a predicate: the wide block, of which only three column ranges are written, and the two weight gradients,
    written at the last point only. -/
def held : Fin 17 → Bool := fun w => w.val == 11 || w.val == 12 || w.val == 13

/-- What those outputs meet after point `t`. -/
def Meets (c : Dev nD) (w : Fin cfg0.W) (t : Fin cfg0.N) : ((cfg0.win w).block.Idx → Elt F (cfg0.win w).elt) → Prop :=
  match w with
  | ⟨11, _⟩ => fun X => ∃ d : Vec F S544x4608 .bf16, X = rest d (dgAt m c t) (gnaAt m c t) (ghgAt m c t)
  | ⟨12, _⟩ => fun X => t.val = 3 → X = (k0_pay11 (accNa m c t.val) : Vec F S512x1024 .bf16)
  | ⟨13, _⟩ => fun X => t.val = 3 → X = (k0_pay20 (accHg m c t.val) : Vec F S512x1024 .bf16)
  | _ => fun _ => True

/-- The arrays as the call finds them, what each point leaves in each window, and the accumulators between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => Dat.unnamed (cfg := cfg0) 11 t
    | ⟨12, _⟩ => (k0_pay11 (accNa m c t.val) : Vec F S512x1024 .bf16)
    | ⟨13, _⟩ => (k0_pay20 (accHg m c t.val) : Vec F S512x1024 .bf16)
    | ⟨14, _⟩ => dnaAt m c t
    | ⟨15, _⟩ => doAt m c t
    | ⟨16, _⟩ => accGain m c t.val
    | ⟨k + 17, h⟩ => absurd (show k + 17 < 17 from h) (by omega)
  Φ t := Inv m c t.val
  q w := Pipeline.shareOf spec0 w
  owed _ := 0

theorem A_eq (c : Dev nD) (w : Fin cfg0.W) : (dats m 0 c).A w = V m c (Pipeline.arrRef spec0 w) := by
  dsimp only [dats]

theorem before0 (c : Dev nD) (t : Fin cfg0.N) (d) : (dats m 0 c).before 0 t d = iblk m c 0 t :=
  before0_0_of m (dats m 0 c) (A_eq m c 0) (fun t => by dsimp only [dats]) t d
theorem before1 (c : Dev nD) (t : Fin cfg0.N) (d) : (dats m 0 c).before 1 t d = iblk m c 1 t :=
  before0_1_of m (dats m 0 c) (A_eq m c 1) (fun t => by dsimp only [dats]) t d
theorem before2 (c : Dev nD) (t : Fin cfg0.N) (d) : (dats m 0 c).before 2 t d = iblk m c 2 t :=
  before0_2_of m (dats m 0 c) (A_eq m c 2) (fun t => by dsimp only [dats]) t d
theorem before3 (c : Dev nD) (t : Fin cfg0.N) (d) : (dats m 0 c).before 3 t d = iblk m c 3 t :=
  before0_3_of m (dats m 0 c) (A_eq m c 3) (fun t => by dsimp only [dats]) t d
theorem before4 (c : Dev nD) (t : Fin cfg0.N) (d) : (dats m 0 c).before 4 t d = iblk m c 4 t :=
  before0_4_of m (dats m 0 c) (A_eq m c 4) (fun t => by dsimp only [dats]) t d
theorem before5 (c : Dev nD) (t : Fin cfg0.N) (d) : (dats m 0 c).before 5 t d = iblk m c 5 t :=
  before0_5_of m (dats m 0 c) (A_eq m c 5) (fun t => by dsimp only [dats]) t d
theorem before6 (c : Dev nD) (t : Fin cfg0.N) (d) : (dats m 0 c).before 6 t d = iblk m c 6 t :=
  before0_6_of m (dats m 0 c) (A_eq m c 6) (fun t => by dsimp only [dats]) t d
theorem before7 (c : Dev nD) (t : Fin cfg0.N) (d) : (dats m 0 c).before 7 t d = iblk m c 7 t :=
  before0_7_of m (dats m 0 c) (A_eq m c 7) (fun t => by dsimp only [dats]) t d
theorem before8 (c : Dev nD) (t : Fin cfg0.N) (d) : (dats m 0 c).before 8 t d = iblk m c 8 t :=
  before0_8_of m (dats m 0 c) (A_eq m c 8) (fun t => by dsimp only [dats]) t d
theorem before9 (c : Dev nD) (t : Fin cfg0.N) (d) : (dats m 0 c).before 9 t d = iblk m c 9 t :=
  before0_9_of m (dats m 0 c) (A_eq m c 9) (fun t => by dsimp only [dats]) t d
theorem before10 (c : Dev nD) (t : Fin cfg0.N) (d) : (dats m 0 c).before 10 t d = iblk m c 10 t :=
  before0_10_of m (dats m 0 c) (A_eq m c 10) (fun t => by dsimp only [dats]) t d

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after14 (c : Dev nD) (t : Fin cfg0.N) : (dats m 0 c).after 14 t = dnaAt m c t := by dsimp only [dats]
theorem after15 (c : Dev nD) (t : Fin cfg0.N) : (dats m 0 c).after 15 t = doAt m c t := by dsimp only [dats]
theorem after16 (c : Dev nD) (t : Fin cfg0.N) : (dats m 0 c).after 16 t = accGain m c t.val := by dsimp only [dats]

/-- The gain's buffer is written at every point. -/
theorem live16 (i : cfg0.grid.Coords) : cfg0.idle 16 i = false := by
  show (!(k0_cond7 i == 1#1) && !(k0_cond8 i == 1#1)) = false
  unfold k0_cond7 k0_cond8
  generalize (i 0) = n
  revert n
  exact (by decide +kernel : ∀ n : Fin 4, (!((Scalar.cmpi .ne (Scalar.extui (Scalar.cmpi .eq (BitVec.ofNat 32 n.val) 0#32)) 0#32 : BitVec 1) == 1#1)
    && !((Scalar.cmpi .ne (Scalar.extui (Scalar.cmpi .sgt (BitVec.ofNat 32 n.val) 0#32)) 0#32 : BitVec 1) == 1#1)) = false)

/-- At a point after the first the gain's buffer holds what the point before left. -/
theorem before16 (c : Dev nD) (t : Fin cfg0.N) (h : t.val ≠ 0) (d) : (dats m 0 c).before 16 t d = accGain m c (t.val - 1) := by
  have hN : t.val < 4 := lt_of_lt_of_eq t.isLt N_0
  refine ((dats m 0 c).before_out_kept 16 rfl t h (Bool.eq_false_iff.mpr fun hf => ?_) live16 (fun _ _ => rfl) d).trans rfl
  have := (flush0_16 _).mp hf
  change (t.val - 1) % 4 = 3 at this
  omega

/-- What the body is handed at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ Y, ⌜((dats m 0 c).toRRel held (Meets m c)).Finds 11 t Y⌝ ∗ owns (c : Thread nD τ) (ms11 t) fullShare Y)
    ∗ (∃ Y, ⌜((dats m 0 c).toRRel held (Meets m c)).Finds 12 t Y⌝ ∗ owns (c : Thread nD τ) (ms12 t) fullShare Y)
    ∗ (∃ Y, ⌜((dats m 0 c).toRRel held (Meets m c)).Finds 13 t Y⌝ ∗ owns (c : Thread nD τ) (ms13 t) fullShare Y)
    ∗ (∃ d, owns (c : Thread nD τ) (ms14 t) fullShare ((dats m 0 c).before 14 t d))
    ∗ (∃ d, owns (c : Thread nD τ) (ms15 t) fullShare ((dats m 0 c).before 15 t d))
    ∗ (∃ d, owns (c : Thread nD τ) (ms16 t) fullShare ((dats m 0 c).before 16 t d)))

/-- What it hands back. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ (∃ X, ⌜Meets m c 11 t X⌝ ∗ owns (c : Thread nD τ) (ms11 t) fullShare X)
    ∗ (∃ X, ⌜Meets m c 12 t X⌝ ∗ owns (c : Thread nD τ) (ms12 t) fullShare X)
    ∗ (∃ X, ⌜Meets m c 13 t X⌝ ∗ owns (c : Thread nD τ) (ms13 t) fullShare X)
    ∗ owns (c : Thread nD τ) (ms14 t) fullShare ((dats m 0 c).after 14 t)
    ∗ owns (c : Thread nD τ) (ms15 t) fullShare ((dats m 0 c).after 15 t)
    ∗ owns (c : Thread nD τ) (ms16 t) fullShare ((dats m 0 c).after 16 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, after0, after1, after2, after3, after4, after5, after6, after7, after8, after9, after10, after14, after15, after16]
  rw [show (dats m 0 c).owesAt () t.succ = (dats m 0 c).owesAt () t.castSucc from rfl]
  rw [show (dats m 0 c).Φ t.succ = Inv m c (t.val + 1) from rfl, Inv]
  have hN : t.val < 4 := lt_of_lt_of_eq t.isLt N_0
  by_cases hz : t.val = 0
  · rw [show (dats m 0 c).Φ t.castSucc = Inv m c t.val from rfl, Inv_zero m c _ hz, any_scratch]
    rw [accNa_zero m c t hz, accHg_zero m c t hz, accGain_zero m c t hz]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%Y11, -, H11⟩, ⟨%Y12, -, H12⟩, ⟨%Y13, -, H13⟩, ⟨%d14, H14⟩, ⟨%d15, H15⟩, ⟨%d16, H16⟩⟩
    iapply (first c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) sc0 (Memref.isWhole_whole _) sc1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) Y11 ((first_iff t).mpr hz) (fun h => (later_iff t).mp h hz) (fun h => by have := (last3_iff t).mp h; omega) (fun h => by have := (last6_iff t).mp h; omega) ((first7_iff t).mpr hz) (fun h => (later8_iff t).mp h hz) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [H14]; · iexists _; iexact H14
    isplitl [H15]; · iexists _; iexact H15
    isplitl [H16]; · iexists _; iexact H16
    isplitl [HS0]; · iexact HS0
    isplitl [HS1]; · iexact HS1
    iintro ⟨H0, H1, H2, H3, H4, H5, H6, H7, H8, H9, H10, H11, ⟨%Z12, H12⟩, ⟨%Z13, H13⟩, H14, H15, H16, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · iexists _; isplitr; swap; · iexact H11
      ipureintro; exact ⟨Y11, rfl⟩
    isplitl [H12]
    · iexists _; isplitr; swap; · iexact H12
      ipureintro; exact fun h => absurd h (by omega)
    isplitl [H13]
    · iexists _; isplitr; swap; · iexact H13
      ipureintro; exact fun h => absurd h (by omega)
    isplitl [H14]; · iexact H14
    isplitl [H15]; · iexact H15
    iexact H16
  by_cases hl : t.val = 3
  · rw [show (dats m 0 c).Φ t.castSucc = Inv m c t.val from rfl, Inv_pos m c _ hz]
    simp only [before16 m c t hz]
    rw [accNa_pos m c t hz, accHg_pos m c t hz, accGain_pos m c t hz]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%Y11, -, H11⟩, ⟨%Y12, -, H12⟩, ⟨%Y13, -, H13⟩, ⟨%d14, H14⟩, ⟨%d15, H15⟩, ⟨%d16, H16⟩⟩
    iapply (last c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) sc0 (Memref.isWhole_whole _) sc1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) Y11 (accNa m c (t.val - 1)) (accHg m c (t.val - 1)) (accGain m c (t.val - 1)) (fun h => hz ((first_iff t).mp h)) ((later_iff t).mpr hz) ((last3_iff t).mpr hl) ((last6_iff t).mpr hl) (fun h => hz ((first7_iff t).mp h)) ((later8_iff t).mpr hz) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [H14]; · iexists _; iexact H14
    isplitl [H15]; · iexists _; iexact H15
    isplitl [H16]; · iexact H16
    isplitl [HS0]; · iexact HS0
    isplitl [HS1]; · iexact HS1
    iintro ⟨H0, H1, H2, H3, H4, H5, H6, H7, H8, H9, H10, H11, H12, H13, H14, H15, H16, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · iexists _; isplitr; swap; · iexact H11
      ipureintro; exact ⟨Y11, rfl⟩
    isplitl [H12]
    · iexists _; isplitr; swap; · iexact H12
      ipureintro; exact fun _ => congrArg _ (accNa_pos m c t hz).symm
    isplitl [H13]
    · iexists _; isplitr; swap; · iexact H13
      ipureintro; exact fun _ => congrArg _ (accHg_pos m c t hz).symm
    isplitl [H14]; · iexact H14
    isplitl [H15]; · iexact H15
    iexact H16
  · rw [show (dats m 0 c).Φ t.castSucc = Inv m c t.val from rfl, Inv_pos m c _ hz]
    simp only [before16 m c t hz]
    rw [accNa_pos m c t hz, accHg_pos m c t hz, accGain_pos m c t hz]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%Y11, -, H11⟩, ⟨%Y12, -, H12⟩, ⟨%Y13, -, H13⟩, ⟨%d14, H14⟩, ⟨%d15, H15⟩, ⟨%d16, H16⟩⟩
    iapply (mid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) sc0 (Memref.isWhole_whole _) sc1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) Y11 (accNa m c (t.val - 1)) (accHg m c (t.val - 1)) (accGain m c (t.val - 1)) (fun h => hz ((first_iff t).mp h)) ((later_iff t).mpr hz) (fun h => hl ((last3_iff t).mp h)) (fun h => hl ((last6_iff t).mp h)) (fun h => hz ((first7_iff t).mp h)) ((later8_iff t).mpr hz) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [H14]; · iexists _; iexact H14
    isplitl [H15]; · iexists _; iexact H15
    isplitl [H16]; · iexact H16
    isplitl [HS0]; · iexact HS0
    isplitl [HS1]; · iexact HS1
    iintro ⟨H0, H1, H2, H3, H4, H5, H6, H7, H8, H9, H10, H11, ⟨%Z12, H12⟩, ⟨%Z13, H13⟩, H14, H15, H16, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · iexists _; isplitr; swap; · iexact H11
      ipureintro; exact ⟨Y11, rfl⟩
    isplitl [H12]
    · iexists _; isplitr; swap; · iexact H12
      ipureintro; exact fun h => absurd h (by omega)
    isplitl [H13]
    · iexists _; isplitr; swap; · iexact H13
      ipureintro; exact fun h => absurd h (by omega)
    isplitl [H14]; · iexact H14
    isplitl [H15]; · iexact H15
    iexact H16

theorem row_eq (t : Fin cfg0.N) : defs₀ (F := F) .tc cfg0.body (cfg0.bodyArgs t (cfg0.slots t)) = bodyAt0 t := by
  unfold defs₀; rw [Defs.onTc_tc]

theorem body_ok (c : Dev nD) : BodyObligationRel (dats (F := F) m 0 c) (defs₀ (F := F)) Variants.none () Set.univ held (Meets m c) := fun t => by
  rw [bigSep_W0, bigSep_W0, row_eq, live16]
  exact triple_restated (sound_body m c t) rfl .rfl fun _ => .rfl

theorem hin (c : Dev nD) : Pipeline.ΦA spec0 c ⊢ (dats m 0 c).Φ 0 :=
  (Idealize.SL.BI.Entails.refl _ : Pipeline.ΦA spec0 c ⊢ Pipeline.ΦA spec0 c)

theorem hout (c : Dev nD) : (dats m 0 c).Φ (Fin.last cfg0.N) ⊢ Pipeline.ΦA spec0 c := by
  have hN : cfg0.N ≠ 0 := by have : cfg0.N = 4 := N_0; omega
  rw [show (dats m 0 c).Φ (Fin.last cfg0.N) = Inv m c cfg0.N from rfl, Inv_pos m c cfg0.N hN, any_scratch]
  iintro ⟨⟨HS0, HS1⟩, Hg⟩
  isplitl [HS0 HS1]
  · isplitl [HS0]
    · iexists _; iexact HS0
    iexists _; iexact HS1
  iexact Hg

/-! ## The run -/

/-- The proof data with the held outputs known by what they meet. -/
def rdats (c : Dev nD) : RDat τ (Elt F) Unit ℕ (UR sig nD τ) ℕ cfg0 c := (dats m 0 c).toRRel held (Meets m c)

set_option backward.isDefEq.respectTransparency.types false in
/-- Every fair run of @main ends, with the arrays as the proof data say and every counter at zero. -/
theorem run_main : θ_run defs (onTc (τ := τ) (main (F := F))) (s₀ m ρ)
    (fun r => Pipeline.RDat.FramePost (cfgs 0) (rdats m) (V m) r ∧ r.2.sem = fun _ => 0) :=
  Pipeline.RDat.θ_run_frame_track_shared (Q' := _) cfgs (0 : Fin 1) launch₀0 defs₀ Variants.none (rdats m) m ρ main
    (hbody := fun c => (body_ok m c).toRRel) (hq := fun _ _ _ => rfl)
    (howed := fun _ _ => rfl) (V := V m) (hmain := hmain m Variants.none) (hA := A_eq m) (hin := hin m) (hout := hout m)

end Cert.KernelIdeal.Mix
-- ==== Proof.MixMath.lean ====
module

public import Idealize.ShloMosaic.Lib.Pointwise

@[expose] public section

noncomputable section

namespace Cert.Mix

open Idealize.ShloMosaic

/-! # The gradient of the per-head normalisation and of the output gate, one row at a time

A row has 512 entries in four heads of 128. The kernel and the reference write the same two gradients differently. -/

/-- Entry `x` of the head that `k` lies in. -/
def hd (k : Fin 512) (x : Fin 128) : Fin 512 := ⟨k.val / 128 * 128 + x.val, by omega⟩

theorem hd_self (k : Fin 512) : hd k ⟨k.val % 128, Nat.mod_lt _ (by decide)⟩ = k := Fin.ext (Nat.div_add_mod' _ _)

theorem hd_hd (k : Fin 512) (x y : Fin 128) : hd (hd k x) y = hd k y := by
  refine Fin.ext ?_
  have := x.isLt
  show (k.val / 128 * 128 + x.val) / 128 * 128 + y.val = k.val / 128 * 128 + y.val
  omega

abbrev width : EReal := Ideal.ofBits .f32 1124073472#32
abbrev eps : EReal := Ideal.ofBits .f32 897988541#32
abbrev minusHalf : EReal := Ideal.ofBits .f32 3204448256#32

theorem width_eq : width = ((128 : ℝ) : EReal) := by
  rw [width]; simp [Ideal.ofBits, Ideal.ieee, ← EReal.coe_mul, ← EReal.coe_add]; norm_num [EReal.coe_eq_coe_iff]

theorem minusHalf_eq : minusHalf = ((-(1 / 2) : ℝ) : EReal) := by
  rw [minusHalf]; simp [Ideal.ofBits, Ideal.ieee, ← EReal.coe_mul, ← EReal.coe_add]; norm_num [EReal.coe_eq_coe_iff]

theorem eps_pos : ∃ e : ℝ, 0 < e ∧ eps = (e : EReal) := by
  refine ⟨_, ?_, by rw [eps]; simp [Ideal.ofBits, Ideal.ieee, ← EReal.coe_mul, ← EReal.coe_add]; rfl⟩
  norm_num

/-- The mean square of a head, and the constant that keeps it from zero. -/
def ms (o : Fin 512 → EReal) (k : Fin 512) : EReal := Ideal.div (∑ x, o (hd k x) * o (hd k x)) width + eps
def rs (o : Fin 512 → EReal) (k : Fin 512) : EReal := Ideal.rsqrt (ms o k)
def nrm (o : Fin 512 → EReal) (k : Fin 512) : EReal := o k * rs o k
def silu (g : EReal) : EReal := g * Ideal.logistic g

theorem ms_hd (o : Fin 512 → EReal) (k : Fin 512) (x : Fin 128) : ms o (hd k x) = ms o k := by simp only [ms, hd_hd]
theorem rs_hd (o : Fin 512 → EReal) (k : Fin 512) (x : Fin 128) : rs o (hd k x) = rs o k := by simp only [rs, ms_hd]

theorem mul_self_nonneg' (x : EReal) : 0 ≤ x * x := by
  induction x with
  | bot => simp
  | top => simp
  | coe r => rw [← EReal.coe_mul]; exact_mod_cast mul_self_nonneg r

theorem div_real (x : EReal) {r : ℝ} (h : r ≠ 0) : Ideal.div x (r : EReal) = x * ((r⁻¹ : ℝ) : EReal) := by
  rw [Ideal.div, if_neg (by exact_mod_cast h), EReal.coe_inv]

theorem div_width (x : EReal) : Ideal.div x width = x * (((128 : ℝ)⁻¹ : ℝ) : EReal) := by
  rw [width_eq, div_real x (by norm_num)]

theorem sumsq_nonneg (o : Fin 512 → EReal) (k : Fin 512) : 0 ≤ ∑ x, o (hd k x) * o (hd k x) :=
  Finset.sum_nonneg fun _ _ => mul_self_nonneg' _

/-- The mean square is infinite or a positive real. -/
theorem ms_cases (o : Fin 512 → EReal) (k : Fin 512) : ms o k = ⊤ ∨ ∃ p : ℝ, 0 < p ∧ ms o k = (p : EReal) := by
  obtain ⟨e, he, hE⟩ := eps_pos
  rw [ms, hE, div_width]
  have h := sumsq_nonneg o k
  generalize (∑ x, o (hd k x) * o (hd k x)) = s at h
  induction s with
  | bot => simp at h
  | top => left; rw [EReal.top_mul_coe_of_pos (by norm_num)]; rfl
  | coe s =>
    right
    have hs : 0 ≤ s := by exact_mod_cast h
    exact ⟨s * 128⁻¹ + e, by positivity, by push_cast; rfl⟩

theorem sum_mul_real {ι : Type} (s : Finset ι) (f : ι → EReal) {c : ℝ} (hc : 0 ≤ c) :
    (∑ x ∈ s, f x * (c : EReal)) = (∑ x ∈ s, f x) * (c : EReal) := by
  classical
  induction s using Finset.induction_on with
  | empty => simp
  | insert a s ha ih =>
    rw [Finset.sum_insert ha, Finset.sum_insert ha, ih, EReal.right_distrib_of_nonneg_of_ne_top (by exact_mod_cast hc) (EReal.coe_ne_top c)]

theorem two_halves (Y : EReal) {t : ℝ} (ht : 0 < t) :
    Y * ((-(t / 2) : ℝ) : EReal) + Y * ((-(t / 2) : ℝ) : EReal) = -(Y * (t : EReal)) := by
  induction Y with
  | bot =>
    rw [EReal.bot_mul_coe_of_neg (by linarith), EReal.bot_mul_coe_of_pos ht]; rfl
  | top =>
    rw [EReal.top_mul_coe_of_neg (by linarith), EReal.top_mul_coe_of_pos ht]; rfl
  | coe y => rw [← EReal.coe_mul, ← EReal.coe_mul, ← EReal.coe_add, ← EReal.coe_neg]; congr 1; ring

/-- The gradient of a normalised row, written two ways. `P` is the mean square with its constant, `o` the row, `d` the cotangent of the
    normalised row, `x` and `y` one entry of each. -/
theorem norm_grad {ι : Type} [Fintype ι] (o d : ι → EReal) {w : ℝ} (hw : 0 < w) {W P : EReal} (hW : W = (w : EReal))
    (hP : P = ⊤ ∨ ∃ p : ℝ, 0 < p ∧ P = (p : EReal)) (x y : EReal) :
    Ideal.rsqrt P * (y - x * Ideal.rsqrt P * Ideal.div (∑ k, d k * (o k * Ideal.rsqrt P)) W)
      = y * Ideal.rsqrt P + x * Ideal.div ((∑ k, o k * d k) * (minusHalf * Ideal.div (Ideal.rsqrt P) P)) W
        + Ideal.div ((∑ k, o k * d k) * (minusHalf * Ideal.div (Ideal.rsqrt P) P)) W * x := by
  subst hW
  rcases hP with rfl | ⟨p, hp, rfl⟩
  · have hr : Ideal.rsqrt ⊤ = 0 := rfl
    have hq : Ideal.div ((∑ k, o k * d k) * (minusHalf * Ideal.div 0 ⊤)) (w : EReal) = 0 := by
      rw [div_real _ hw.ne', Ideal.div, if_neg (by simp)]; simp
    rw [hr, hq]; simp
  · have hs : 0 < (Real.sqrt p)⁻¹ := inv_pos.mpr (Real.sqrt_pos.mpr hp)
    have hr : Ideal.rsqrt (p : EReal) = (((Real.sqrt p)⁻¹ : ℝ) : EReal) := by
      rw [Ideal.rsqrt_coe, if_neg (by linarith), if_neg (by linarith)]
    have hsp : p = Real.sqrt p * Real.sqrt p := (Real.mul_self_sqrt hp.le).symm
    have hd0 : Real.sqrt p ≠ 0 := (Real.sqrt_pos.mpr hp).ne'
    simp only [hr, div_real _ hw.ne', minusHalf_eq]
    generalize Real.sqrt p = q at *
    have e1 : (∑ k, d k * (o k * ((q⁻¹ : ℝ) : EReal))) = (∑ k, o k * d k) * ((q⁻¹ : ℝ) : EReal) := by
      rw [← sum_mul_real _ _ hs.le]; exact Finset.sum_congr rfl fun k _ => by rw [← mul_assoc, mul_comm (d k)]
    rw [e1, div_real _ hp.ne']
    generalize (∑ k, o k * d k) = S
    have ht : 0 < q⁻¹ * q⁻¹ * q⁻¹ * w⁻¹ := by positivity
    have e2 : ((-(1 / 2) : ℝ) : EReal) * (((q⁻¹ : ℝ) : EReal) * ((p⁻¹ : ℝ) : EReal)) * ((w⁻¹ : ℝ) : EReal)
        = ((-(q⁻¹ * q⁻¹ * q⁻¹ * w⁻¹ / 2) : ℝ) : EReal) := by
      rw [← EReal.coe_mul, ← EReal.coe_mul, ← EReal.coe_mul, hsp]; congr 1; field_simp
    rw [mul_assoc S (_ * _), e2, mul_comm (S * _) x, ← mul_assoc x, add_assoc, two_halves _ ht, sub_eq_add_neg,
      EReal.left_distrib_of_nonneg_of_ne_top (by exact_mod_cast hs.le) (EReal.coe_ne_top _), mul_comm _ y, mul_neg]
    congr 2
    simp only [EReal.coe_mul]
    ac_rfl

/-- The gradient of a normalised head as the kernel writes it. -/
def doK (o d : Fin 512 → EReal) (k : Fin 512) : EReal :=
  rs o k * (d k - nrm o k * Ideal.div (∑ x, d (hd k x) * nrm o (hd k x)) width)

/-- What the mean square passes on, in the reference. -/
def doQ (o d : Fin 512 → EReal) (k : Fin 512) : EReal :=
  Ideal.div ((∑ x, o (hd k x) * d (hd k x)) * (minusHalf * Ideal.div (rs o k) (ms o k))) width

/-- The gradient of a normalised head as the reference writes it. -/
def doR (o d : Fin 512 → EReal) (k : Fin 512) : EReal :=
  d k * rs o k + o k * doQ o d k + doQ o d k * o k

theorem doK_eq_doR (o d : Fin 512 → EReal) (k : Fin 512) : doK o d k = doR o d k := by
  unfold doK doR doQ
  simp only [nrm, rs_hd]
  exact norm_grad (fun x => o (hd k x)) (fun x => d (hd k x)) (by norm_num) width_eq (ms_cases o k) (o k) (d k)

/-! ## The output gate -/

/-- The gradient of the gate's input from the cotangent `ct`, as the kernel writes it. -/
def dgK (ct g : EReal) : EReal := ct * (Ideal.logistic g * (1 + g * (1 - Ideal.logistic g)))

/-- As the reference writes it. -/
def dgR (ct g : EReal) : EReal := ct * Ideal.logistic g + g * ct * (Ideal.logistic g * (1 - Ideal.logistic g))

theorem dgK_eq_dgR (ct : ℝ) (g : EReal) : dgK ct g = dgR ct g := by
  rw [dgK, dgR]
  induction g with
  | bot => simp
  | top =>
    have : (1 : EReal) - 1 = 0 := by rw [← EReal.coe_one, ← EReal.coe_sub, sub_self, EReal.coe_zero]
    simp [this]
  | coe g =>
    rw [Ideal.logistic_coe, ← EReal.coe_one]
    generalize (1 + Real.exp (-g))⁻¹ = s
    simp only [← EReal.coe_mul, ← EReal.coe_sub, ← EReal.coe_add]
    congr 1; ring

/-! ## Which values are real -/

/-- `x` is a real number. -/
def IsReal (x : EReal) : Prop := ∃ r : ℝ, x = (r : EReal)

theorem IsReal.zero : IsReal 0 := ⟨0, rfl⟩

theorem IsReal.mul {x y : EReal} (hx : IsReal x) (hy : IsReal y) : IsReal (x * y) := by
  obtain ⟨a, rfl⟩ := hx; obtain ⟨b, rfl⟩ := hy; exact ⟨a * b, (EReal.coe_mul _ _).symm⟩

theorem IsReal.add {x y : EReal} (hx : IsReal x) (hy : IsReal y) : IsReal (x + y) := by
  obtain ⟨a, rfl⟩ := hx; obtain ⟨b, rfl⟩ := hy; exact ⟨a + b, (EReal.coe_add _ _).symm⟩

theorem IsReal.sum {ι : Type} (s : Finset ι) {f : ι → EReal} (h : ∀ x, IsReal (f x)) : IsReal (∑ x ∈ s, f x) := by
  classical
  induction s using Finset.induction_on with
  | empty => exact IsReal.zero
  | insert a s ha ih => rw [Finset.sum_insert ha]; exact (h a).add ih

theorem IsReal.logistic (g : EReal) : IsReal (Ideal.logistic g) := by
  induction g with
  | bot => exact ⟨0, by simp⟩
  | top => exact ⟨1, by simp⟩
  | coe g => exact ⟨_, Ideal.logistic_coe g⟩

/-- A number is real when its magnitude is below infinity. -/
theorem IsReal.of_abs {x : EReal} (h : (EReal.abs x : EReal) < ⊤) : IsReal x := by
  induction x with
  | bot => simp at h
  | top => simp at h
  | coe r => exact ⟨r, rfl⟩

/-- A normalised entry is real whatever the row holds. -/
theorem IsReal.nrm (o : Fin 512 → EReal) (k : Fin 512) : IsReal (nrm o k) := by
  rw [Mix.nrm, rs]
  rcases ms_cases o k with h | ⟨p, hp, h⟩
  · rw [h]; exact ⟨0, by simp⟩
  · have hr : IsReal (Ideal.rsqrt (p : EReal)) := ⟨_, by rw [Ideal.rsqrt_coe, if_neg (by linarith), if_neg (by linarith)]⟩
    rw [h]
    refine IsReal.mul ?_ hr
    have hle : o k * o k ≤ ∑ x, o (hd k x) * o (hd k x) := by
      have := Finset.single_le_sum (f := fun x => o (hd k x) * o (hd k x)) (fun x _ => mul_self_nonneg' _)
        (Finset.mem_univ (⟨k.val % 128, Nat.mod_lt _ (by decide)⟩ : Fin 128))
      simpa only [hd_self] using this
    have hnt : (∑ x, o (hd k x) * o (hd k x)) ≠ ⊤ := by
      intro ht
      obtain ⟨e, he, hE⟩ := eps_pos
      rw [ms, ht, div_width, EReal.top_mul_coe_of_pos (by norm_num), hE] at h
      exact absurd h (by rw [EReal.top_add_coe]; simp)
    have hk : o k * o k ≠ ⊤ := fun e => hnt (top_le_iff.mp (e ▸ hle))
    generalize o k = y at hk
    induction y with
    | bot => simp at hk
    | top => simp at hk
    | coe r => exact ⟨r, rfl⟩

end Cert.Mix
-- ==== Proof.MixSpec.lean ====
module

public import proofs.«01_k».proof.Proof.MixMath
public import Idealize.ShloMosaic.Lib.Pointwise

@[expose] public section

set_option maxRecDepth 16384

noncomputable section

namespace Cert.Mix

open Idealize.ShloMosaic Idealize.ShloMosaic.TcCoe

/-! # What both programs compute, entry by entry, from the eight arguments -/

/-- The arguments, as functions of a row and a column. -/
structure Args where
  na : Fin 2064 → Fin 512 → EReal
  f : Fin 2064 → Fin 512 → EReal
  b : Fin 2064 → Fin 512 → EReal
  gain : Fin 512 → EReal
  wNa : Fin 512 → Fin 1024 → EReal
  wHg : Fin 512 → Fin 1024 → EReal
  p : Fin 2064 → Fin 6144 → EReal
  dm : Fin 2064 → Fin 1024 → EReal

namespace Args

variable (A : Args)

/-- The recurrence's output: the two directions added. -/
def o (R : Fin 2064) (k : Fin 512) : EReal := A.f R k + A.b R k
def g (R : Fin 2064) (k : Fin 512) : EReal := A.p R ⟨3584 + k.val, by omega⟩
def sNa (R : Fin 2064) (j : Fin 1024) : EReal := Ideal.logistic (A.p R ⟨4096 + j.val, by omega⟩)
def sHg (R : Fin 2064) (j : Fin 1024) : EReal := Ideal.logistic (A.p R ⟨5120 + j.val, by omega⟩)
/-- The recurrence branch before its projection. -/
def u (R : Fin 2064) (k : Fin 512) : EReal := nrm (A.o R) k * A.gain k * silu (A.g R k)
/-- Its cotangent. -/
def du (R : Fin 2064) (k : Fin 512) : EReal := ∑ j : Fin 1024, A.dm R j * A.sHg R j * A.wHg k j
def dNa (R : Fin 2064) (k : Fin 512) : EReal := ∑ j : Fin 1024, A.dm R j * A.sNa R j * A.wNa k j
/-- The cotangent of the normalised rows. -/
def dn (R : Fin 2064) (k : Fin 512) : EReal := A.du R k * A.gain k * silu (A.g R k)
def dO (R : Fin 2064) (k : Fin 512) : EReal := doK (A.o R) (A.dn R) k
/-- The cotangent of the gate's silu. -/
def ct (R : Fin 2064) (k : Fin 512) : EReal := A.du R k * nrm (A.o R) k * A.gain k
def dG (R : Fin 2064) (k : Fin 512) : EReal := dgK (A.ct R k) (A.g R k)
def dGateNa (R : Fin 2064) (j : Fin 1024) : EReal := A.dm R j * (∑ k : Fin 512, A.na R k * A.wNa k j) * A.sNa R j * (1 - A.sNa R j)
def dGateHg (R : Fin 2064) (j : Fin 1024) : EReal := A.dm R j * (∑ k : Fin 512, A.u R k * A.wHg k j) * A.sHg R j * (1 - A.sHg R j)
def dWna (k : Fin 512) (j : Fin 1024) : EReal := ∑ R : Fin 2064, A.na R k * (A.dm R j * A.sNa R j)
def dWhg (k : Fin 512) (j : Fin 1024) : EReal := ∑ R : Fin 2064, A.u R k * (A.dm R j * A.sHg R j)
def dGain (k : Fin 512) : EReal := ∑ R : Fin 2064, A.du R k * nrm (A.o R) k * silu (A.g R k)

/-- The columns that this call writes of the gradient of the input projection. -/
def dP (R : Fin 2064) (j : Fin 4608) (hj : 2048 ≤ j.val) : EReal :=
  if h : j.val - 2048 < 512 then A.dG R ⟨j.val - 2048, h⟩
  else if h : j.val - 2048 - 512 < 1024 then A.dGateNa R ⟨j.val - 2048 - 512, h⟩
  else A.dGateHg R ⟨j.val - 2048 - 512 - 1024, by omega⟩

end Args

/-- A row below the true number of rows, and zero in the rows that only pad. -/
def padr (x : Fin 2064 → EReal) (R : ℕ) : EReal := if h : R < 2064 then x ⟨R, h⟩ else 0

theorem padr_lt (x : Fin 2064 → EReal) (R : ℕ) (h : R < 2064) : padr x R = x ⟨R, h⟩ := dif_pos h
theorem padr_ge (x : Fin 2064 → EReal) (R : ℕ) (h : ¬ R < 2064) : padr x R = 0 := dif_neg h

/-- A sum over the four points' rows, the padding's terms zero, is the sum over the true rows. -/
theorem sum_points (x : Fin 2064 → EReal) : (∑ t : Fin 4, ∑ r : Fin 544, padr x (544 * t.val + r.val)) = ∑ R : Fin 2064, x R := by
  have e1 := Fin.sum_univ_tiles 4 544 (N := 2176) rfl (fun i : Fin 2176 => padr x i.val)
  have e2 := Fin.sum_univ_two_halves 2064 112 (N := 2176) rfl (fun i : Fin 2176 => padr x i.val)
  have e3 : (∑ R : Fin 2064, x R) = ∑ i : Fin 2176, padr x i.val := by
    rw [e2]
    have z : (∑ j : Fin 112, padr x (2064 + j.val)) = 0 := Finset.sum_eq_zero fun j _ => padr_ge x _ (by omega)
    have y : (∑ j : Fin 2064, padr x j.val) = ∑ R : Fin 2064, x R := Finset.sum_congr rfl fun j _ => padr_lt x j.val j.isLt
    first
      | rw [z, y, add_zero]
      | (rw [← y]; simp only [z, add_zero])
  rw [e3, e1]
  refine Finset.sum_congr rfl fun t _ => Finset.sum_congr rfl fun r _ => ?_
  rw [Nat.mul_comm]

theorem pad_close {p : Prop} [Decidable p] {φ : FTy} {x : p → EReal} {y : p → EReal} (h : ∀ h : p, x h = y h) :
    (if h : p then x h else (FloatOps.sitofp φ 0#32 : Ideal φ)) = if h : p then y h else (0 : EReal) := by
  by_cases hp : p
  · rw [dif_pos hp, dif_pos hp, h hp]
  · rw [dif_neg hp, dif_neg hp]
    show (((0#32 : BitVec 32).toInt : ℝ) : EReal) = 0
    simp

end Cert.Mix
-- ==== Proof.MixK.lean ====
module

public import proofs.«01_k».proof.Proof.MixVal
public import proofs.«01_k».proof.Proof.MixMath
public import Idealize.ShloMosaic.Lib.Pointwise

@[expose] public section

set_option maxRecDepth 16384

noncomputable section

namespace Cert.KernelIdeal.Mix

open Cert.KernelIdeal.Gen Cert.Mix
open Idealize.ShloMosaic Idealize.ShloMosaic.TcCoe Idealize.ShloMosaic.Tactic

/-! # What one point writes, entry by entry, at the exact numbers -/

theorem gradNa_apply (x6 : S512x1024.Idx → EReal) (x8 : S544x1024.Idx → EReal) (x10 : S544x1024.Idx → EReal) (r : Fin 544) (k : Fin 512) :
    gradNa (F := Ideal) x6 x8 x10 (ix2 r k) = ∑ j : Fin 1024, x10 (ix2 r j) * Ideal.logistic (x8 (ix2 r j)) * x6 (ix2 k j) := by
  pointwise [gradNa, k0_pay7, k0_pay6, k0_pay4, k0_pay2]

theorem gradU_apply (x7 : S512x1024.Idx → EReal) (x9 : S544x1024.Idx → EReal) (x10 : S544x1024.Idx → EReal) (r : Fin 544) (k : Fin 512) :
    gradU (F := Ideal) x7 x9 x10 (ix2 r k) = ∑ j : Fin 1024, x10 (ix2 r j) * Ideal.logistic (x9 (ix2 r j)) * x7 (ix2 k j) := by
  pointwise [gradU, k0_pay16, k0_pay15, k0_pay13, k0_pay2]

theorem gateNa_apply (x0 : S544x512.Idx → EReal) (x6 : S512x1024.Idx → EReal) (x8 : S544x1024.Idx → EReal) (x10 : S544x1024.Idx → EReal)
    (r : Fin 544) (k : Fin 1024) : gateNa (F := Ideal) x0 x6 x8 x10 (ix2 r k)
      = x10 (ix2 r k) * (∑ j : Fin 512, x0 (ix2 r j) * x6 (ix2 j k)) * Ideal.logistic (x8 (ix2 r k)) * (1 - Ideal.logistic (x8 (ix2 r k))) := by
  pointwise [gateNa, k0_pay7, k0_pay6, k0_pay4, k0_pay2, k0_pay5, k0_pay3]

theorem gateHg_apply (x1 : S544x512.Idx → EReal) (x7 : S512x1024.Idx → EReal) (x9 : S544x1024.Idx → EReal) (x10 : S544x1024.Idx → EReal)
    (r : Fin 544) (k : Fin 1024) : gateHg (F := Ideal) x1 x7 x9 x10 (ix2 r k)
      = x10 (ix2 r k) * (∑ j : Fin 512, x1 (ix2 r j) * x7 (ix2 j k)) * Ideal.logistic (x9 (ix2 r k)) * (1 - Ideal.logistic (x9 (ix2 r k))) := by
  pointwise [gateHg, k0_pay14, k0_pay13, k0_pay12, k0_pay2]

theorem partNa_apply (x0 : S544x512.Idx → EReal) (x8 : S544x1024.Idx → EReal) (x10 : S544x1024.Idx → EReal) (j : Fin 512) (k : Fin 1024) :
    k0_pay9 (F := Ideal) x10 x0 x8 (ix2 j k) = ∑ r : Fin 544, x0 (ix2 r j) * (x10 (ix2 r k) * Ideal.logistic (x8 (ix2 r k))) := by
  pointwise [k0_pay9, k0_pay8, k0_pay6, k0_pay4, k0_pay2, k0_pay3]

theorem addNa_apply (x0 : S544x512.Idx → EReal) (x8 : S544x1024.Idx → EReal) (x10 : S544x1024.Idx → EReal) (a : S512x1024.Idx → EReal)
    (j : Fin 512) (k : Fin 1024) : k0_pay10 (F := Ideal) x10 x0 x8 a (ix2 j k)
      = a (ix2 j k) + ∑ r : Fin 544, x0 (ix2 r j) * (x10 (ix2 r k) * Ideal.logistic (x8 (ix2 r k))) := by
  pointwise [k0_pay10, k0_pay8, k0_pay6, k0_pay4, k0_pay2, k0_pay3]

theorem partHg_apply (x1 : S544x512.Idx → EReal) (x9 : S544x1024.Idx → EReal) (x10 : S544x1024.Idx → EReal) (j : Fin 512) (k : Fin 1024) :
    k0_pay18 (F := Ideal) (k0_pay2 (F := Ideal) x10) x1 x9 (ix2 j k) = ∑ r : Fin 544, x1 (ix2 r j) * (x10 (ix2 r k) * Ideal.logistic (x9 (ix2 r k))) := by
  pointwise [k0_pay18, k0_pay17, k0_pay15, k0_pay13, k0_pay12, k0_pay2]

theorem addHg_apply (x1 : S544x512.Idx → EReal) (x9 : S544x1024.Idx → EReal) (x10 : S544x1024.Idx → EReal) (a : S512x1024.Idx → EReal)
    (j : Fin 512) (k : Fin 1024) : k0_pay19 (F := Ideal) (k0_pay2 (F := Ideal) x10) x1 x9 a (ix2 j k)
      = a (ix2 j k) + ∑ r : Fin 544, x1 (ix2 r j) * (x10 (ix2 r k) * Ideal.logistic (x9 (ix2 r k))) := by
  pointwise [k0_pay19, k0_pay17, k0_pay15, k0_pay13, k0_pay12, k0_pay2]

theorem outNa_apply (a : S512x1024.Idx → EReal) (j : Fin 512) (k : Fin 1024) : k0_pay11 (F := Ideal) a (ix2 j k) = a (ix2 j k) := by
  pointwise [k0_pay11]

theorem outHg_apply (a : S512x1024.Idx → EReal) (j : Fin 512) (k : Fin 1024) : k0_pay20 (F := Ideal) a (ix2 j k) = a (ix2 j k) := by
  pointwise [k0_pay20]

theorem addGain_apply (p a : S1x512.Idx → EReal) (j : Fin 1) (k : Fin 512) : k0_pay1 (F := Ideal) p a (ix2 j k) = a (ix2 j k) + p (ix2 j k) := by
  pointwise [k0_pay1]

/-! ## The normalised heads -/

/-- Whether row `r` of a point is one of the rows there are. -/
def valid (a : BitVec 32) (r : Fin 544) : BitVec 1 := IntOp.cmpi .slt (IntOp.addi (BitVec.ofNat 32 r.val) (Scalar.muli a 544#32)) 2064#32

theorem select_valid (a : BitVec 32) (r : Fin 544) (y z : EReal) :
    Scalar.select (IntOp.cmpi .slt (IntOp.addi (BitVec.ofNat 32 r.val) (Scalar.muli a 544#32)) 2064#32) y z = if valid a r = 1#1 then y else z := rfl

/-- The cotangent of the normalised row before the head's own gradient. -/
def dnRow (x4 u : S544x512.Idx → EReal) (x5 : S1x512.Idx → EReal) (r : Fin 544) : Fin 512 → EReal :=
  fun k => u (ix2 r k) * x5 (ix2 0 k) * silu (x4 (ix2 r k))

theorem if_congr_ctx {p : Prop} [Decidable p] {x y z : EReal} (h : p → x = y) : (if p then x else z) = if p then y else z := by
  by_cases hp : p
  · rw [if_pos hp, if_pos hp, h hp]
  · rw [if_neg hp, if_neg hp]

theorem hd_lt0 (k : Fin 512) (h : k.val < 128) (x : Fin 128) : hd k x = ⟨x.val, by omega⟩ := by
  refine Fin.ext ?_; show k.val / 128 * 128 + x.val = x.val; omega

theorem hd_lt1 (k : Fin 512) (h : ¬ k.val < 128) (h' : k.val - 128 < 128) (x : Fin 128) : hd k x = ⟨128 + x.val, by omega⟩ := by
  refine Fin.ext ?_; show k.val / 128 * 128 + x.val = 128 + x.val; omega

theorem hd_lt2 (k : Fin 512) (h : ¬ k.val - 128 < 128) (h' : k.val - 128 - 128 < 128) (x : Fin 128) : hd k x = ⟨256 + x.val, by omega⟩ := by
  refine Fin.ext ?_; show k.val / 128 * 128 + x.val = 256 + x.val; omega

theorem hd_lt3 (k : Fin 512) (h : ¬ k.val - 128 - 128 < 128) (x : Fin 128) : hd k x = ⟨384 + x.val, by omega⟩ := by
  refine Fin.ext ?_; show k.val / 128 * 128 + x.val = 384 + x.val; omega

theorem gradO_apply (a : BitVec 32) (x2 x3 x4 u : S544x512.Idx → EReal) (x5 : S1x512.Idx → EReal) (r : Fin 544) (k : Fin 512) :
    gradO (F := Ideal) a x2 x3 x4 x5 u (ix2 r k) = if valid a r = 1#1 then doK (fun j => x2 (ix2 r j) + x3 (ix2 r j)) (dnRow x4 u x5 r) k else 0 := by
  pointwise [gradO, k0_pay46, k0_pay23, k0_pay27, k0_pay31, k0_pay35, k0_pay21, k0_pay32, k0_pay39, k0_pay40, k0_pay41, k0_pay42, k0_pay28, k0_pay29, k0_pay30, k0_pay24, k0_pay25, k0_pay26, k0_pay22, k0_pay33, k0_pay34, k0_pay36, k0_pay37, k0_pay38, k0_pay43, k0_pay44]
  simp only [select_valid]
  refine if_congr_ctx ?_
  intro hv
  simp only [hv, if_true]
  simp only [doK, nrm, rs_hd]
  simp only [dnRow, rs, ms, silu]
  by_cases h1 : k.val < 128
  · rw [dif_pos h1]; simp only [hd_lt0 k h1]
  · rw [dif_neg h1]
    by_cases h2 : k.val - 128 < 128
    · rw [dif_pos h2]; simp only [hd_lt1 k h1 h2]
      have e : (⟨128 + (k.val - 128), by omega⟩ : Fin 512) = k := Fin.ext (by show 128 + (k.val - 128) = k.val; omega)
      rw [e]
    · rw [dif_neg h2]
      by_cases h3 : k.val - 128 - 128 < 128
      · rw [dif_pos h3]; simp only [hd_lt2 k h2 h3]
        have e : (⟨256 + (k.val - 128 - 128), by omega⟩ : Fin 512) = k := Fin.ext (by show 256 + (k.val - 128 - 128) = k.val; omega)
        rw [e]
      · rw [dif_neg h3]; simp only [hd_lt3 k h3]
        have e : (⟨384 + (k.val - 128 - 128 - 128), by omega⟩ : Fin 512) = k := Fin.ext (by show 384 + (k.val - 128 - 128 - 128) = k.val; omega)
        rw [e]

/-- A normalised row, as the kernel's four pieces. -/
theorem nrm_pieces (o : Fin 512 → EReal) (k : Fin 512) :
    (if h : k.val < 128 then o k * Ideal.rsqrt (Ideal.div (∑ x : Fin 128, o ⟨x.val, by omega⟩ * o ⟨x.val, by omega⟩) width + eps)
      else if h : k.val - 128 < 128 then o ⟨128 + (k.val - 128), by omega⟩ * Ideal.rsqrt (Ideal.div (∑ x : Fin 128, o ⟨128 + x.val, by omega⟩ * o ⟨128 + x.val, by omega⟩) width + eps)
      else if h : k.val - 128 - 128 < 128 then o ⟨256 + (k.val - 128 - 128), by omega⟩ * Ideal.rsqrt (Ideal.div (∑ x : Fin 128, o ⟨256 + x.val, by omega⟩ * o ⟨256 + x.val, by omega⟩) width + eps)
      else o ⟨384 + (k.val - 128 - 128 - 128), by omega⟩ * Ideal.rsqrt (Ideal.div (∑ x : Fin 128, o ⟨384 + x.val, by omega⟩ * o ⟨384 + x.val, by omega⟩) width + eps))
    = nrm o k := by
  simp only [nrm, rs, ms]
  by_cases h1 : k.val < 128
  · rw [dif_pos h1]; simp only [hd_lt0 k h1]
  · rw [dif_neg h1]
    by_cases h2 : k.val - 128 < 128
    · rw [dif_pos h2]; simp only [hd_lt1 k h1 h2]
      have e : (⟨128 + (k.val - 128), by omega⟩ : Fin 512) = k := Fin.ext (by show 128 + (k.val - 128) = k.val; omega)
      rw [e]
    · rw [dif_neg h2]
      by_cases h3 : k.val - 128 - 128 < 128
      · rw [dif_pos h3]; simp only [hd_lt2 k h2 h3]
        have e : (⟨256 + (k.val - 128 - 128), by omega⟩ : Fin 512) = k := Fin.ext (by show 256 + (k.val - 128 - 128) = k.val; omega)
        rw [e]
      · rw [dif_neg h3]; simp only [hd_lt3 k h3]
        have e : (⟨384 + (k.val - 128 - 128 - 128), by omega⟩ : Fin 512) = k := Fin.ext (by show 384 + (k.val - 128 - 128 - 128) = k.val; omega)
        rw [e]

theorem gradG_apply (a : BitVec 32) (x2 x3 x4 u : S544x512.Idx → EReal) (x5 : S1x512.Idx → EReal) (r : Fin 544) (k : Fin 512) :
    gradG (F := Ideal) a x2 x3 x4 x5 u (ix2 r k)
      = if valid a r = 1#1 then dgK (u (ix2 r k) * nrm (fun j => x2 (ix2 r j) + x3 (ix2 r j)) k * x5 (ix2 0 k)) (x4 (ix2 r k)) else 0 := by
  pointwise [gradG, k0_pay48, k0_pay45, k0_pay46, k0_pay23, k0_pay27, k0_pay31, k0_pay35, k0_pay21, k0_pay32, k0_pay39, k0_pay40, k0_pay41, k0_pay42, k0_pay28, k0_pay29, k0_pay30, k0_pay24, k0_pay25, k0_pay26, k0_pay22, k0_pay33, k0_pay34, k0_pay36, k0_pay37, k0_pay38, k0_pay43, k0_pay44]
  simp only [select_valid]
  refine if_congr_ctx ?_
  intro hv
  simp only [hv, if_true]
  rw [dgK, ← nrm_pieces]

theorem gainPart_apply (a : BitVec 32) (x2 x3 x4 u : S544x512.Idx → EReal) (r : Fin 1) (k : Fin 512) :
    gainPart (F := Ideal) a x2 x3 x4 u (ix2 r k)
      = ∑ r : Fin 544, if valid a r = 1#1 then u (ix2 r k) * nrm (fun j => x2 (ix2 r j) + x3 (ix2 r j)) k * silu (x4 (ix2 r k)) else 0 := by
  pointwise [gainPart, k0_pay47, k0_pay45, k0_pay46, k0_pay23, k0_pay27, k0_pay31, k0_pay35, k0_pay21, k0_pay32, k0_pay39, k0_pay40, k0_pay41, k0_pay42, k0_pay28, k0_pay29, k0_pay30, k0_pay24, k0_pay25, k0_pay26, k0_pay22, k0_pay33, k0_pay34, k0_pay36, k0_pay37, k0_pay38, k0_pay43, k0_pay44]
  simp only [select_valid]
  refine Finset.sum_congr rfl fun r _ => if_congr_ctx ?_
  intro hv
  simp only [hv, if_true]
  rw [silu, ← nrm_pieces]

end Cert.KernelIdeal.Mix
-- ==== Proof.MixV.lean ====
module

public import proofs.«01_k».proof.Proof.MixFrame
public import proofs.«01_k».proof.Proof.MixSpec
public import proofs.«01_k».proof.Proof.MixK

@[expose] public section

set_option maxRecDepth 16384

noncomputable section

namespace Cert.KernelIdeal.Mix

open Cert.KernelIdeal Cert.KernelIdeal.Gen Cert.Mix
open Idealize.ShloMosaic Idealize.ShloMosaic.TcCoe Idealize.ShloMosaic.Tactic Idealize.SL.Sem Idealize.ShloMosaic.StableHlo

variable (m : (ℓ : Loc nD τ sig) → Buf (Elt Ideal) ℓ) (c : Dev nD)

/-- The arguments, as the device finds them. -/
def args : Args where
  na R k := m ((c : Thread nD τ).loc main_arg0) (ix2 R k)
  f R k := m ((c : Thread nD τ).loc main_arg1) (ix2 R k)
  b R k := m ((c : Thread nD τ).loc main_arg2) (ix2 R k)
  gain k := m ((c : Thread nD τ).loc main_arg3) (ix2 0 k)
  wNa k j := m ((c : Thread nD τ).loc main_arg4) (ix2 k j)
  wHg k j := m ((c : Thread nD τ).loc main_arg5) (ix2 k j)
  p R k := m ((c : Thread nD τ).loc main_arg6) (ix2 R k)
  dm R j := m ((c : Thread nD τ).loc main_arg7) (ix2 R j)

/-! ## The call's arrays -/

set_option maxHeartbeats 4000000 in
theorem V21 (R : Fin 2176) (k : Fin 512) : V m c main_v21 (ix2 R k) = padr (fun R => (args m c).na R k) R.val := by
  unfold V
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append, TRef.binary, TRef.nullary, TRef.unary, TRef.toBuf, TRef.ofBuf, cast_eq]
  after_results_simp <;> (try dsimp only [Matrix.cons_val]) <;> (try after_results_simp)
  pointwise
  exact pad_close fun h => rfl

set_option maxHeartbeats 4000000 in
theorem V23 (R : Fin 2176) (k : Fin 512) : V m c main_v23 (ix2 R k) = padr (fun R => (args m c).u R k) R.val := by
  unfold V
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append, TRef.binary, TRef.nullary, TRef.unary, TRef.toBuf, TRef.ofBuf, cast_eq]
  after_results_simp <;> (try dsimp only [Matrix.cons_val]) <;> (try after_results_simp)
  pointwise
  refine pad_close fun h => ?_
  have e : (⟨k.val / 128 * 128 + k.val % 128, by omega⟩ : Fin 512) = k := Fin.ext (Nat.div_add_mod' _ _)
  simp only [e]
  simp only [Args.u, nrm, rs, ms, silu, Args.o, Args.g, args, hd, Ideal.logistic]

set_option maxHeartbeats 4000000 in
theorem V24 (R : Fin 2176) (k : Fin 512) : V m c main_v24 (ix2 R k) = padr (fun R => (args m c).f R k) R.val := by
  unfold V
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append, TRef.binary, TRef.nullary, TRef.unary, TRef.toBuf, TRef.ofBuf, cast_eq]
  after_results_simp <;> (try dsimp only [Matrix.cons_val]) <;> (try after_results_simp)
  pointwise
  exact pad_close fun h => rfl

set_option maxHeartbeats 4000000 in
theorem V25 (R : Fin 2176) (k : Fin 512) : V m c main_v25 (ix2 R k) = padr (fun R => (args m c).b R k) R.val := by
  unfold V
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append, TRef.binary, TRef.nullary, TRef.unary, TRef.toBuf, TRef.ofBuf, cast_eq]
  after_results_simp <;> (try dsimp only [Matrix.cons_val]) <;> (try after_results_simp)
  pointwise
  exact pad_close fun h => rfl

set_option maxHeartbeats 4000000 in
theorem V28 (R : Fin 2176) (k : Fin 6144) : V m c main_v28 (ix2 R k) = padr (fun R => (args m c).p R k) R.val := by
  unfold V
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append, TRef.binary, TRef.nullary, TRef.unary, TRef.toBuf, TRef.ofBuf, cast_eq]
  after_results_simp <;> (try dsimp only [Matrix.cons_val]) <;> (try after_results_simp)
  pointwise
  exact pad_close fun h => rfl

set_option maxHeartbeats 4000000 in
theorem V30 (R : Fin 2176) (k : Fin 1024) : V m c main_v30 (ix2 R k) = padr (fun R => (args m c).dm R k) R.val := by
  unfold V
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append, TRef.binary, TRef.nullary, TRef.unary, TRef.toBuf, TRef.ofBuf, cast_eq]
  after_results_simp <;> (try dsimp only [Matrix.cons_val]) <;> (try after_results_simp)
  pointwise
  exact pad_close fun h => rfl

set_option maxHeartbeats 4000000 in
theorem V26 (k : Fin 512) (j : Fin 1024) : V m c main_v26 (ix2 k j) = (args m c).wNa k j := by
  unfold V
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append, TRef.binary, TRef.nullary, TRef.unary, TRef.toBuf, TRef.ofBuf, cast_eq]
  after_results_simp <;> (try dsimp only [Matrix.cons_val]) <;> (try after_results_simp)
  rfl

set_option maxHeartbeats 4000000 in
theorem V27 (k : Fin 512) (j : Fin 1024) : V m c main_v27 (ix2 k j) = (args m c).wHg k j := by
  unfold V
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append, TRef.binary, TRef.nullary, TRef.unary, TRef.toBuf, TRef.ofBuf, cast_eq]
  after_results_simp <;> (try dsimp only [Matrix.cons_val]) <;> (try after_results_simp)
  rfl

theorem index0 : ∀ t : Fin cfg0.N, (cfg0.win 0).index t = ![t.val, 0] := by decide
theorem index1 : ∀ t : Fin cfg0.N, (cfg0.win 1).index t = ![t.val, 0] := by decide
theorem index2 : ∀ t : Fin cfg0.N, (cfg0.win 2).index t = ![t.val, 0] := by decide
theorem index3 : ∀ t : Fin cfg0.N, (cfg0.win 3).index t = ![t.val, 0] := by decide
theorem index4 : ∀ t : Fin cfg0.N, (cfg0.win 4).index t = ![t.val, 7] := by decide
theorem index8 : ∀ t : Fin cfg0.N, (cfg0.win 8).index t = ![t.val, 4] := by decide
theorem index9 : ∀ t : Fin cfg0.N, (cfg0.win 9).index t = ![t.val, 5] := by decide
theorem index10 : ∀ t : Fin cfg0.N, (cfg0.win 10).index t = ![t.val, 0] := by decide
theorem index5 : ∀ t : Fin cfg0.N, (cfg0.win 5).index t = ![0, 0] := by decide
theorem index6 : ∀ t : Fin cfg0.N, (cfg0.win 6).index t = ![0, 0] := by decide
theorem index7 : ∀ t : Fin cfg0.N, (cfg0.win 7).index t = ![0, 0] := by decide

theorem row_lt (t : Fin cfg0.N) (r : Fin 544) : 544 * t.val + r.val < 2176 := by
  have h : t.val < 4 := lt_of_lt_of_eq t.isLt N_0
  omega

theorem iblk0 (t : Fin cfg0.N) (r : Fin 544) (k : Fin 512) :
    iblk m c 0 t (ix2 r k) = padr (fun R => (args m c).na R k) (544 * t.val + r.val) := by
  refine Eq.trans ?_ (V21 m c ⟨544 * t.val + r.val, row_lt t r⟩ k)
  unfold iblk
  rw [View.read_apply, cast_eq]
  refine congrArg (V m c main_v21) (Shape.idx_ext₂ ?_ ?_)
  · refine (Pipeline.Window.rect_emb_val (cfg0.win 0) t (ix2 r k) 0 rfl).trans ?_
    rw [index0]
    show t.val * 544 + r.val = 544 * t.val + r.val
    omega
  · refine (Pipeline.Window.rect_emb_val (cfg0.win 0) t (ix2 r k) 1 rfl).trans ?_
    rw [index0]
    show 0 * 512 + k.val = k.val
    omega

theorem iblk1 (t : Fin cfg0.N) (r : Fin 544) (k : Fin 512) :
    iblk m c 1 t (ix2 r k) = padr (fun R => (args m c).u R k) (544 * t.val + r.val) := by
  refine Eq.trans ?_ (V23 m c ⟨544 * t.val + r.val, row_lt t r⟩ k)
  unfold iblk
  rw [View.read_apply, cast_eq]
  refine congrArg (V m c main_v23) (Shape.idx_ext₂ ?_ ?_)
  · refine (Pipeline.Window.rect_emb_val (cfg0.win 1) t (ix2 r k) 0 rfl).trans ?_
    rw [index1]
    show t.val * 544 + r.val = 544 * t.val + r.val
    omega
  · refine (Pipeline.Window.rect_emb_val (cfg0.win 1) t (ix2 r k) 1 rfl).trans ?_
    rw [index1]
    show 0 * 512 + k.val = k.val
    omega

theorem iblk2 (t : Fin cfg0.N) (r : Fin 544) (k : Fin 512) :
    iblk m c 2 t (ix2 r k) = padr (fun R => (args m c).f R k) (544 * t.val + r.val) := by
  refine Eq.trans ?_ (V24 m c ⟨544 * t.val + r.val, row_lt t r⟩ k)
  unfold iblk
  rw [View.read_apply, cast_eq]
  refine congrArg (V m c main_v24) (Shape.idx_ext₂ ?_ ?_)
  · refine (Pipeline.Window.rect_emb_val (cfg0.win 2) t (ix2 r k) 0 rfl).trans ?_
    rw [index2]
    show t.val * 544 + r.val = 544 * t.val + r.val
    omega
  · refine (Pipeline.Window.rect_emb_val (cfg0.win 2) t (ix2 r k) 1 rfl).trans ?_
    rw [index2]
    show 0 * 512 + k.val = k.val
    omega

theorem iblk3 (t : Fin cfg0.N) (r : Fin 544) (k : Fin 512) :
    iblk m c 3 t (ix2 r k) = padr (fun R => (args m c).b R k) (544 * t.val + r.val) := by
  refine Eq.trans ?_ (V25 m c ⟨544 * t.val + r.val, row_lt t r⟩ k)
  unfold iblk
  rw [View.read_apply, cast_eq]
  refine congrArg (V m c main_v25) (Shape.idx_ext₂ ?_ ?_)
  · refine (Pipeline.Window.rect_emb_val (cfg0.win 3) t (ix2 r k) 0 rfl).trans ?_
    rw [index3]
    show t.val * 544 + r.val = 544 * t.val + r.val
    omega
  · refine (Pipeline.Window.rect_emb_val (cfg0.win 3) t (ix2 r k) 1 rfl).trans ?_
    rw [index3]
    show 0 * 512 + k.val = k.val
    omega

theorem iblk4 (t : Fin cfg0.N) (r : Fin 544) (k : Fin 512) :
    iblk m c 4 t (ix2 r k) = padr (fun R => (args m c).p R ⟨3584 + k.val, by omega⟩) (544 * t.val + r.val) := by
  refine Eq.trans ?_ (V28 m c ⟨544 * t.val + r.val, row_lt t r⟩ ⟨3584 + k.val, by omega⟩)
  unfold iblk
  rw [View.read_apply, cast_eq]
  refine congrArg (V m c main_v28) (Shape.idx_ext₂ ?_ ?_)
  · refine (Pipeline.Window.rect_emb_val (cfg0.win 4) t (ix2 r k) 0 rfl).trans ?_
    rw [index4]
    show t.val * 544 + r.val = 544 * t.val + r.val
    omega
  · refine (Pipeline.Window.rect_emb_val (cfg0.win 4) t (ix2 r k) 1 rfl).trans ?_
    rw [index4]
    show 7 * 512 + k.val = 3584 + k.val
    omega

theorem iblk8 (t : Fin cfg0.N) (r : Fin 544) (k : Fin 1024) :
    iblk m c 8 t (ix2 r k) = padr (fun R => (args m c).p R ⟨4096 + k.val, by omega⟩) (544 * t.val + r.val) := by
  refine Eq.trans ?_ (V28 m c ⟨544 * t.val + r.val, row_lt t r⟩ ⟨4096 + k.val, by omega⟩)
  unfold iblk
  rw [View.read_apply, cast_eq]
  refine congrArg (V m c main_v28) (Shape.idx_ext₂ ?_ ?_)
  · refine (Pipeline.Window.rect_emb_val (cfg0.win 8) t (ix2 r k) 0 rfl).trans ?_
    rw [index8]
    show t.val * 544 + r.val = 544 * t.val + r.val
    omega
  · refine (Pipeline.Window.rect_emb_val (cfg0.win 8) t (ix2 r k) 1 rfl).trans ?_
    rw [index8]
    show 4 * 1024 + k.val = 4096 + k.val
    omega

theorem iblk9 (t : Fin cfg0.N) (r : Fin 544) (k : Fin 1024) :
    iblk m c 9 t (ix2 r k) = padr (fun R => (args m c).p R ⟨5120 + k.val, by omega⟩) (544 * t.val + r.val) := by
  refine Eq.trans ?_ (V28 m c ⟨544 * t.val + r.val, row_lt t r⟩ ⟨5120 + k.val, by omega⟩)
  unfold iblk
  rw [View.read_apply, cast_eq]
  refine congrArg (V m c main_v28) (Shape.idx_ext₂ ?_ ?_)
  · refine (Pipeline.Window.rect_emb_val (cfg0.win 9) t (ix2 r k) 0 rfl).trans ?_
    rw [index9]
    show t.val * 544 + r.val = 544 * t.val + r.val
    omega
  · refine (Pipeline.Window.rect_emb_val (cfg0.win 9) t (ix2 r k) 1 rfl).trans ?_
    rw [index9]
    show 5 * 1024 + k.val = 5120 + k.val
    omega

theorem iblk10 (t : Fin cfg0.N) (r : Fin 544) (k : Fin 1024) :
    iblk m c 10 t (ix2 r k) = padr (fun R => (args m c).dm R k) (544 * t.val + r.val) := by
  refine Eq.trans ?_ (V30 m c ⟨544 * t.val + r.val, row_lt t r⟩ k)
  unfold iblk
  rw [View.read_apply, cast_eq]
  refine congrArg (V m c main_v30) (Shape.idx_ext₂ ?_ ?_)
  · refine (Pipeline.Window.rect_emb_val (cfg0.win 10) t (ix2 r k) 0 rfl).trans ?_
    rw [index10]
    show t.val * 544 + r.val = 544 * t.val + r.val
    omega
  · refine (Pipeline.Window.rect_emb_val (cfg0.win 10) t (ix2 r k) 1 rfl).trans ?_
    rw [index10]
    show 0 * 1024 + k.val = k.val
    omega

theorem iblk6 (t : Fin cfg0.N) (k : Fin 512) (j : Fin 1024) : iblk m c 6 t (ix2 k j) = (args m c).wNa k j := by
  refine Eq.trans ?_ (V26 m c k j)
  unfold iblk
  rw [View.read_apply, cast_eq]
  refine congrArg (V m c main_v26) (Shape.idx_ext₂ ?_ ?_)
  · refine (Pipeline.Window.rect_emb_val (cfg0.win 6) t (ix2 k j) 0 rfl).trans ?_
    rw [index6]
    show 0 * 512 + k.val = k.val
    omega
  · refine (Pipeline.Window.rect_emb_val (cfg0.win 6) t (ix2 k j) 1 rfl).trans ?_
    rw [index6]
    show 0 * 1024 + j.val = j.val
    omega

theorem iblk7 (t : Fin cfg0.N) (k : Fin 512) (j : Fin 1024) : iblk m c 7 t (ix2 k j) = (args m c).wHg k j := by
  refine Eq.trans ?_ (V27 m c k j)
  unfold iblk
  rw [View.read_apply, cast_eq]
  refine congrArg (V m c main_v27) (Shape.idx_ext₂ ?_ ?_)
  · refine (Pipeline.Window.rect_emb_val (cfg0.win 7) t (ix2 k j) 0 rfl).trans ?_
    rw [index7]
    show 0 * 512 + k.val = k.val
    omega
  · refine (Pipeline.Window.rect_emb_val (cfg0.win 7) t (ix2 k j) 1 rfl).trans ?_
    rw [index7]
    show 0 * 1024 + j.val = j.val
    omega

theorem iblk5 (t : Fin cfg0.N) (k : Fin 512) : iblk m c 5 t (ix2 0 k) = (args m c).gain k := by
  refine Eq.trans ?_ (congrFun (V_main_arg3 m c) (ix2 0 k))
  unfold iblk
  rw [View.read_apply, cast_eq]
  refine congrArg (V m c main_arg3) (Shape.idx_ext₂ ?_ ?_)
  · refine (Pipeline.Window.rect_emb_val (cfg0.win 5) t (ix2 0 k) 0 rfl).trans ?_
    rw [index5]
    rfl
  · refine (Pipeline.Window.rect_emb_val (cfg0.win 5) t (ix2 0 k) 1 rfl).trans ?_
    rw [index5]
    show 0 * 512 + k.val = k.val
    omega

theorem valid_iff (t : Fin cfg0.N) (r : Fin 544) : valid (word t) r = 1#1 ↔ 544 * t.val + r.val < 2064 := by
  have h : t.val < 4 := lt_of_lt_of_eq t.isLt N_0
  have e : (grid0.coords t 0).val = t.val := by revert t; decide
  have hw : (IntOp.addi (BitVec.ofNat 32 r.val) (Scalar.muli (word t) 544#32) : BitVec 32).toInt = ((544 * t.val + r.val : ℕ) : ℤ) := by
    have : (IntOp.addi (BitVec.ofNat 32 r.val) (Scalar.muli (word t) 544#32) : BitVec 32) = BitVec.ofNat 32 (544 * t.val + r.val) := by
      unfold word
      rw [e]
      apply BitVec.eq_of_toNat_eq
      show (BitVec.ofNat 32 r.val + BitVec.ofNat 32 t.val * 544#32).toNat = _
      simp only [BitVec.toNat_add, BitVec.toNat_mul, BitVec.toNat_ofNat]
      omega
    have hm : (544 * t.val + r.val) % 2 ^ 32 = 544 * t.val + r.val := Nat.mod_eq_of_lt (by omega)
    rw [this, BitVec.toInt_eq_toNat_of_lt, BitVec.toNat_ofNat, hm]
    rw [BitVec.toNat_ofNat, hm]; omega
  show IntOp.cmpi .slt _ 2064#32 = 1#1 ↔ _
  unfold IntOp.cmpi
  show BitVec.ofBool (BitVec.slt _ 2064#32) = 1#1 ↔ _
  rw [BitVec.slt, hw]
  have h2 : (2064#32 : BitVec 32).toInt = 2064 := by decide
  rw [h2]
  by_cases hh : 544 * t.val + r.val < 2064
  · have : (((544 * t.val + r.val : ℕ) : ℤ) < 2064) := by exact_mod_cast hh
    simp only [this, hh, decide_true]; decide
  · have : ¬ (((544 * t.val + r.val : ℕ) : ℤ) < 2064) := by exact_mod_cast hh
    simp only [this, hh, decide_false]; decide

end Cert.KernelIdeal.Mix
-- ==== Proof.MixArr.lean ====
module

public import proofs.«01_k».proof.Proof.MixV

@[expose] public section

set_option maxRecDepth 16384

noncomputable section

namespace Cert.KernelIdeal.Mix

open Cert.KernelIdeal Cert.KernelIdeal.Gen Cert.Mix
open Idealize.ShloMosaic Idealize.ShloMosaic.TcCoe Idealize.ShloMosaic.Tactic Idealize.SL.Sem Idealize.ShloMosaic.StableHlo

variable (m : (ℓ : Loc nD τ sig) → Buf (Elt Ideal) ℓ) (c : Dev nD)

/-! # What the blocks hold after each point, in the arguments -/

theorem duAt_apply (t : Fin cfg0.N) (r : Fin 544) (k : Fin 512) :
    duAt m c t (ix2 r k) = padr (fun R => (args m c).du R k) (544 * t.val + r.val) := by
  unfold duAt
  rw [gradU_apply]
  simp only [iblk10, iblk9, iblk7]
  by_cases h : 544 * t.val + r.val < 2064
  · simp only [padr_lt _ _ h]; rfl
  · simp only [padr_ge _ _ h, zero_mul, Finset.sum_const_zero]

theorem dnaAt_apply (t : Fin cfg0.N) (r : Fin 544) (k : Fin 512) :
    dnaAt m c t (ix2 r k) = padr (fun R => (args m c).dNa R k) (544 * t.val + r.val) := by
  unfold dnaAt
  rw [gradNa_apply]
  simp only [iblk10, iblk8, iblk6]
  by_cases h : 544 * t.val + r.val < 2064
  · simp only [padr_lt _ _ h]; rfl
  · simp only [padr_ge _ _ h, zero_mul, Finset.sum_const_zero]

theorem gnaAt_apply (t : Fin cfg0.N) (r : Fin 544) (k : Fin 1024) :
    gnaAt m c t (ix2 r k) = padr (fun R => (args m c).dGateNa R k) (544 * t.val + r.val) := by
  unfold gnaAt
  rw [gateNa_apply]
  simp only [iblk10, iblk8, iblk6, iblk0]
  by_cases h : 544 * t.val + r.val < 2064
  · simp only [padr_lt _ _ h]; rfl
  · simp only [padr_ge _ _ h, zero_mul]

theorem ghgAt_apply (t : Fin cfg0.N) (r : Fin 544) (k : Fin 1024) :
    ghgAt m c t (ix2 r k) = padr (fun R => (args m c).dGateHg R k) (544 * t.val + r.val) := by
  unfold ghgAt
  rw [gateHg_apply]
  simp only [iblk10, iblk9, iblk7, iblk1]
  by_cases h : 544 * t.val + r.val < 2064
  · simp only [padr_lt _ _ h]; rfl
  · simp only [padr_ge _ _ h, zero_mul]

theorem doAt_apply (t : Fin cfg0.N) (r : Fin 544) (k : Fin 512) :
    doAt m c t (ix2 r k) = padr (fun R => (args m c).dO R k) (544 * t.val + r.val) := by
  unfold doAt
  rw [gradO_apply]
  by_cases h : 544 * t.val + r.val < 2064
  · rw [if_pos ((valid_iff t r).2 h), padr_lt _ _ h]
    have e : dnRow (iblk m c 4 t) (duAt m c t) (iblk m c 5 t) r = (args m c).dn ⟨544 * t.val + r.val, h⟩ := by
      funext j
      simp only [dnRow, iblk4, iblk5, duAt_apply, padr_lt _ _ h]
      rfl
    rw [e]
    simp only [iblk2, iblk3, padr_lt _ _ h]
    rfl
  · rw [if_neg (fun hv => h ((valid_iff t r).1 hv)), padr_ge _ _ h]

theorem dgAt_apply (t : Fin cfg0.N) (r : Fin 544) (k : Fin 512) :
    dgAt m c t (ix2 r k) = padr (fun R => (args m c).dG R k) (544 * t.val + r.val) := by
  unfold dgAt
  rw [gradG_apply]
  by_cases h : 544 * t.val + r.val < 2064
  · rw [if_pos ((valid_iff t r).2 h), padr_lt _ _ h]
    simp only [iblk2, iblk3, iblk4, iblk5, duAt_apply, padr_lt _ _ h]
    rfl
  · rw [if_neg (fun hv => h ((valid_iff t r).1 hv)), padr_ge _ _ h]

theorem gainAt_apply (t : Fin cfg0.N) (k : Fin 512) : gainAt m c t (ix2 0 k)
      = ∑ r : Fin 544, padr (fun R => (args m c).du R k * nrm ((args m c).o R) k * silu ((args m c).g R k)) (544 * t.val + r.val) := by
  unfold gainAt
  rw [gainPart_apply]
  refine Finset.sum_congr rfl fun r _ => ?_
  by_cases h : 544 * t.val + r.val < 2064
  · rw [if_pos ((valid_iff t r).2 h), padr_lt _ _ h]
    simp only [iblk2, iblk3, iblk4, duAt_apply, padr_lt _ _ h]
    rfl
  · rw [if_neg (fun hv => h ((valid_iff t r).1 hv)), padr_ge _ _ h]

/-- One row's share of a weight gradient, in a padded row as well. -/
theorem share_pad (x y z : Fin 2064 → EReal) (R : ℕ) :
    padr x R * (padr y R * Ideal.logistic (padr z R)) = padr (fun R => x R * (y R * Ideal.logistic (z R))) R := by
  by_cases h : R < 2064
  · simp only [padr_lt _ _ h]
  · simp only [padr_ge _ _ h, zero_mul]

theorem accNa_last (k : Fin 512) (j : Fin 1024) : accNa m c 3 (ix2 k j) = (args m c).dWna k j := by
  unfold Args.dWna Args.sNa
  rw [← sum_points, Fin.sum_univ_four]
  simp only [accNa, addNa_apply, partNa_apply, iblk0, iblk10, iblk8, share_pad]
  rfl

theorem accHg_last (k : Fin 512) (j : Fin 1024) : accHg m c 3 (ix2 k j) = (args m c).dWhg k j := by
  unfold Args.dWhg Args.sHg
  rw [← sum_points, Fin.sum_univ_four]
  simp only [accHg, addHg_apply, partHg_apply, iblk1, iblk10, iblk9, share_pad]
  rfl

theorem accGain_last (k : Fin 512) : accGain m c 3 (ix2 0 k) = (args m c).dGain k := by
  unfold Args.dGain
  rw [← sum_points, Fin.sum_univ_four]
  simp only [accGain, addGain_apply, gainAt_apply]
  rfl

/-! # What the call's results hold after the run -/

theorem left11 (t : Fin cfg0.N) {X} (h : (rdats m c).Leaves 11 t X) : ∃ d : Vec Ideal S544x4608 .bf16, X = rest d (dgAt m c t) (gnaAt m c t) (ghgAt m c t) :=
  (dats m 0 c).toRRel_leaves (fgt := held) (Rl := Meets m c) (w := 11) rfl h

theorem left12 (t : Fin cfg0.N) {X} (h : (rdats m c).Leaves 12 t X) (ht : t.val = 3) : X = (k0_pay11 (accNa m c t.val) : Vec Ideal S512x1024 .bf16) :=
  (dats m 0 c).toRRel_leaves (fgt := held) (Rl := Meets m c) (w := 12) rfl h ht

theorem left13 (t : Fin cfg0.N) {X} (h : (rdats m c).Leaves 13 t X) (ht : t.val = 3) : X = (k0_pay20 (accHg m c t.val) : Vec Ideal S512x1024 .bf16) :=
  (dats m 0 c).toRRel_leaves (fgt := held) (Rl := Meets m c) (w := 13) rfl h ht

theorem left14 (t : Fin cfg0.N) {X} (h : (rdats m c).Leaves 14 t X) : X = dnaAt m c t := by
  obtain ⟨Y, _, h⟩ := h
  unfold rdats at h
  rw [(dats m 0 c).toRRel_after_of_eq_false (fgt := held) (Rl := Meets m c) (w := 14) rfl] at h
  exact Eq.trans h (after14 m c t)

theorem left15 (t : Fin cfg0.N) {X} (h : (rdats m c).Leaves 15 t X) : X = doAt m c t := by
  obtain ⟨Y, _, h⟩ := h
  unfold rdats at h
  rw [(dats m 0 c).toRRel_after_of_eq_false (fgt := held) (Rl := Meets m c) (w := 15) rfl] at h
  exact Eq.trans h (after15 m c t)

theorem left16 (t : Fin cfg0.N) {X} (h : (rdats m c).Leaves 16 t X) : X = accGain m c t.val := by
  obtain ⟨Y, _, h⟩ := h
  unfold rdats at h
  rw [(dats m 0 c).toRRel_after_of_eq_false (fgt := held) (Rl := Meets m c) (w := 16) rfl] at h
  change (dats m 0 c).Leaves 16 t X at h
  unfold Pipeline.Dat.Leaves at h
  rw [live16 (cfg0.grid.coords t)] at h
  exact Eq.trans h (after16 m c t)

theorem index11 : ∀ t : Fin cfg0.N, (cfg0.win 11).index t = ![t.val, 0] := by decide
theorem index14 : ∀ t : Fin cfg0.N, (cfg0.win 14).index t = ![t.val, 0] := by decide
theorem index15 : ∀ t : Fin cfg0.N, (cfg0.win 15).index t = ![t.val, 0] := by decide
theorem index12 : ∀ t : Fin cfg0.N, (cfg0.win 12).index t = ![0, 0] := by decide
theorem index13 : ∀ t : Fin cfg0.N, (cfg0.win 13).index t = ![0, 0] := by decide
theorem index16 : ∀ t : Fin cfg0.N, (cfg0.win 16).index t = ![0, 0] := by decide

theorem last12 (t : Fin cfg0.N) (h : (cfg0.win 12).flush t = true) : t.val = 3 := by
  have := (flush0_12 _).mp h
  have hN : t.val < 4 := lt_of_lt_of_eq t.isLt N_0
  omega

theorem last13 (t : Fin cfg0.N) (h : (cfg0.win 13).flush t = true) : t.val = 3 := by
  have := (flush0_13 _).mp h
  have hN : t.val < 4 := lt_of_lt_of_eq t.isLt N_0
  omega

theorem last16 (t : Fin cfg0.N) (h : (cfg0.win 16).flush t = true) : t.val = 3 := by
  have := (flush0_16 _).mp h
  have hN : t.val < 4 := lt_of_lt_of_eq t.isLt N_0
  omega

theorem put_in {α : Type} (x : S544x4608.Idx → α) (o n : ℕ) (w : (⟨2, ![544, n]⟩ : Shape).Idx → α) (r : Fin 544) (j : Fin 4608)
    (h : o ≤ j.val) (h' : j.val - o < n) : VecWindow.put x ![0, o] (⟨2, ![544, n]⟩ : Shape).size w (ix2 r j) = w (ix2 r ⟨j.val - o, h'⟩) := by
  have hr := r.isLt
  have hall : ∀ a, (![0, o] : Fin 2 → ℕ) a ≤ ((ix2 r j : S544x4608.Idx) a).val
      ∧ ((ix2 r j : S544x4608.Idx) a).val < (![0, o] : Fin 2 → ℕ) a + (⟨2, ![544, n]⟩ : Shape).size a := by
    intro a
    match a with
    | ⟨0, _⟩ => show 0 ≤ r.val ∧ r.val < 0 + 544; omega
    | ⟨1, _⟩ => show o ≤ j.val ∧ j.val < o + n; omega
  refine (dif_pos hall).trans (congrArg w (Shape.idx_ext₂ ?_ ?_))
  · rfl
  · rfl

theorem put_out {α : Type} (x : S544x4608.Idx → α) (o n : ℕ) (w : (⟨2, ![544, n]⟩ : Shape).Idx → α) (r : Fin 544) (j : Fin 4608)
    (h : ¬ (o ≤ j.val ∧ j.val < o + n)) : VecWindow.put x ![0, o] (⟨2, ![544, n]⟩ : Shape).size w (ix2 r j) = x (ix2 r j) :=
  dif_neg fun hall => h (hall 1)

/-- The three written ranges of columns of the wide block. -/
theorem rest_apply (d : Vec Ideal S544x4608 .bf16) (t : Fin cfg0.N) (r : Fin 544) (j : Fin 4608) (hj : 2048 ≤ j.val) :
    rest d (dgAt m c t) (gnaAt m c t) (ghgAt m c t) (ix2 r j) = padr (fun R => (args m c).dP R j hj) (544 * t.val + r.val) := by
  unfold rest Args.dP
  by_cases h1 : j.val - 2048 < 512
  · simp only [dif_pos h1]
    exact (put_in _ 2048 512 _ r j hj h1).trans (dgAt_apply m c t r ⟨j.val - 2048, h1⟩)
  · refine (put_out _ 2048 512 _ r j (by omega)).trans ?_
    simp only [dif_neg h1]
    by_cases h2 : j.val - 2048 - 512 < 1024
    · simp only [dif_pos h2]
      refine (put_out _ 3584 1024 _ r j (by omega)).trans ?_
      refine (put_in _ 2560 1024 _ r j (by omega) (by omega)).trans ((gnaAt_apply m c t r ⟨j.val - 2560, by omega⟩).trans ?_)
      have e : (⟨j.val - 2560, by omega⟩ : Fin 1024) = ⟨j.val - 2048 - 512, h2⟩ := Fin.ext (by show j.val - 2560 = j.val - 2048 - 512; omega)
      rw [e]
    · simp only [dif_neg h2]
      refine (put_in _ 3584 1024 _ r j (by omega) (by omega)).trans ((ghgAt_apply m c t r ⟨j.val - 3584, by omega⟩).trans ?_)
      have e : (⟨j.val - 3584, by omega⟩ : Fin 1024) = ⟨j.val - 2048 - 512 - 1024, by omega⟩ := Fin.ext (by show j.val - 3584 = j.val - 2048 - 512 - 1024; omega)
      rw [e]

theorem cover11 : (cfg0.win 11).Covers := by decide +kernel
theorem cover12 : (cfg0.win 12).Covers := by decide +kernel
theorem cover13 : (cfg0.win 13).Covers := by decide +kernel
theorem cover14 : (cfg0.win 14).Covers := by decide +kernel
theorem cover15 : (cfg0.win 15).Covers := by decide +kernel
theorem cover16 : (cfg0.win 16).Covers := by decide +kernel

variable {m} {r : PUnit × MemSt nD τ sig (Elt Ideal)}

theorem arr14 (h : Pipeline.RDat.FramePost (cfgs 0) (rdats m) (V m) r) (R : Fin 2176) (k : Fin 512) :
    r.2.mem ((c : Thread nD τ).loc main_v31_3) (ix2 R k) = padr (fun R => (args m c).dNa R k) R.val := by
  obtain ⟨after, hL, hA⟩ := h.exists_exact c
  refine (congrFun (hA 14) (ix2 R k)).trans ?_
  refine Pipeline.Dat.arrAt_forall_of_covers (cfg := cfg0) ((rdats m c).withAfter after) 14
    (fun (i : S2176x512.Idx) (v : EReal) => v = padr (fun R => (args m c).dNa R (i 1)) (i 0).val) cover14 (fun t hf y => ?_) (ix2 R k)
  rw [cast_eq, Pipeline.RDat.withAfter_after]
  have e : after 14 t = dnaAt m c t := left14 m c t (hL 14 t hf)
  have a0 : ((((cfg0.win 14).blk t).view.emb y : S2176x512.Idx) 0).val = 544 * t.val + (y 0).val := by
    refine (Pipeline.Window.rect_emb_val (cfg0.win 14) t y 0 rfl).trans ?_
    rw [index14]
    show t.val * 544 + (y 0).val = 544 * t.val + (y 0).val
    omega
  have a1 : ((((cfg0.win 14).blk t).view.emb y : S2176x512.Idx) 1) = (⟨(y 1).val, (y 1).isLt⟩ : Fin 512) := by
    refine Fin.ext ((Pipeline.Window.rect_emb_val (cfg0.win 14) t y 1 rfl).trans ?_)
    rw [index14]
    show 0 * 512 + (y 1).val = (y 1).val
    omega
  have ey : ((cfg0.win 14).xinj (cfg0.grid.coords t) y : S544x512.Idx) = ix2 (⟨(y 0).val, (y 0).isLt⟩ : Fin 544) (⟨(y 1).val, (y 1).isLt⟩ : Fin 512) := Shape.idx_ext₂ rfl rfl
  have eY : after 14 t ((cfg0.win 14).xinj (cfg0.grid.coords t) y) = after 14 t (ix2 (⟨(y 0).val, (y 0).isLt⟩ : Fin 544) (⟨(y 1).val, (y 1).isLt⟩ : Fin 512)) := congrArg (after 14 t) ey
  show after 14 t ((cfg0.win 14).xinj (cfg0.grid.coords t) y)
    = padr (fun R => (args m c).dNa R ((((cfg0.win 14).blk t).view.emb y : S2176x512.Idx) 1)) ((((cfg0.win 14).blk t).view.emb y : S2176x512.Idx) 0).val
  rw [eY, e, a0, a1, dnaAt_apply]

theorem arr15 (h : Pipeline.RDat.FramePost (cfgs 0) (rdats m) (V m) r) (R : Fin 2176) (k : Fin 512) :
    r.2.mem ((c : Thread nD τ).loc main_v31_4) (ix2 R k) = padr (fun R => (args m c).dO R k) R.val := by
  obtain ⟨after, hL, hA⟩ := h.exists_exact c
  refine (congrFun (hA 15) (ix2 R k)).trans ?_
  refine Pipeline.Dat.arrAt_forall_of_covers (cfg := cfg0) ((rdats m c).withAfter after) 15
    (fun (i : S2176x512.Idx) (v : EReal) => v = padr (fun R => (args m c).dO R (i 1)) (i 0).val) cover15 (fun t hf y => ?_) (ix2 R k)
  rw [cast_eq, Pipeline.RDat.withAfter_after]
  have e : after 15 t = doAt m c t := left15 m c t (hL 15 t hf)
  have a0 : ((((cfg0.win 15).blk t).view.emb y : S2176x512.Idx) 0).val = 544 * t.val + (y 0).val := by
    refine (Pipeline.Window.rect_emb_val (cfg0.win 15) t y 0 rfl).trans ?_
    rw [index15]
    show t.val * 544 + (y 0).val = 544 * t.val + (y 0).val
    omega
  have a1 : ((((cfg0.win 15).blk t).view.emb y : S2176x512.Idx) 1) = (⟨(y 1).val, (y 1).isLt⟩ : Fin 512) := by
    refine Fin.ext ((Pipeline.Window.rect_emb_val (cfg0.win 15) t y 1 rfl).trans ?_)
    rw [index15]
    show 0 * 512 + (y 1).val = (y 1).val
    omega
  have ey : ((cfg0.win 15).xinj (cfg0.grid.coords t) y : S544x512.Idx) = ix2 (⟨(y 0).val, (y 0).isLt⟩ : Fin 544) (⟨(y 1).val, (y 1).isLt⟩ : Fin 512) := Shape.idx_ext₂ rfl rfl
  have eY : after 15 t ((cfg0.win 15).xinj (cfg0.grid.coords t) y) = after 15 t (ix2 (⟨(y 0).val, (y 0).isLt⟩ : Fin 544) (⟨(y 1).val, (y 1).isLt⟩ : Fin 512)) := congrArg (after 15 t) ey
  show after 15 t ((cfg0.win 15).xinj (cfg0.grid.coords t) y)
    = padr (fun R => (args m c).dO R ((((cfg0.win 15).blk t).view.emb y : S2176x512.Idx) 1)) ((((cfg0.win 15).blk t).view.emb y : S2176x512.Idx) 0).val
  rw [eY, e, a0, a1, doAt_apply]

theorem arr11 (h : Pipeline.RDat.FramePost (cfgs 0) (rdats m) (V m) r) (R : Fin 2176) (j : Fin 4608) (hj : 2048 ≤ j.val) :
    r.2.mem ((c : Thread nD τ).loc main_v31_0) (ix2 R j) = padr (fun R => (args m c).dP R j hj) R.val := by
  obtain ⟨after, hL, hA⟩ := h.exists_exact c
  refine (congrFun (hA 11) (ix2 R j)).trans ?_
  refine Pipeline.Dat.arrAt_forall_of_covers (cfg := cfg0) ((rdats m c).withAfter after) 11
    (fun (i : S2176x4608.Idx) (v : EReal) => ∀ hj : 2048 ≤ (i 1).val, v = padr (fun R => (args m c).dP R (i 1) hj) (i 0).val) cover11 (fun t hf y => ?_) (ix2 R j) (Memref.isWhole_whole _) hj
  rw [cast_eq, Pipeline.RDat.withAfter_after]
  obtain ⟨d, e⟩ := left11 m c t (hL 11 t hf)
  have a0 : ((((cfg0.win 11).blk t).view.emb y : S2176x4608.Idx) 0).val = 544 * t.val + (y 0).val := by
    refine (Pipeline.Window.rect_emb_val (cfg0.win 11) t y 0 rfl).trans ?_
    rw [index11]
    show t.val * 544 + (y 0).val = 544 * t.val + (y 0).val
    omega
  have a1 : ((((cfg0.win 11).blk t).view.emb y : S2176x4608.Idx) 1) = (⟨(y 1).val, (y 1).isLt⟩ : Fin 4608) := by
    refine Fin.ext ((Pipeline.Window.rect_emb_val (cfg0.win 11) t y 1 rfl).trans ?_)
    rw [index11]
    show 0 * 4608 + (y 1).val = (y 1).val
    omega
  have ey : ((cfg0.win 11).xinj (cfg0.grid.coords t) y : S544x4608.Idx) = ix2 (⟨(y 0).val, (y 0).isLt⟩ : Fin 544) (⟨(y 1).val, (y 1).isLt⟩ : Fin 4608) := Shape.idx_ext₂ rfl rfl
  have eY : after 11 t ((cfg0.win 11).xinj (cfg0.grid.coords t) y) = after 11 t (ix2 (⟨(y 0).val, (y 0).isLt⟩ : Fin 544) (⟨(y 1).val, (y 1).isLt⟩ : Fin 4608)) := congrArg (after 11 t) ey
  show ∀ hj : 2048 ≤ ((((cfg0.win 11).blk t).view.emb y : S2176x4608.Idx) 1).val, after 11 t ((cfg0.win 11).xinj (cfg0.grid.coords t) y)
    = padr (fun R => (args m c).dP R ((((cfg0.win 11).blk t).view.emb y : S2176x4608.Idx) 1) hj) ((((cfg0.win 11).blk t).view.emb y : S2176x4608.Idx) 0).val
  rw [eY, e, a0, a1]
  exact fun hj => rest_apply m c d t _ _ hj

theorem arr12 (h : Pipeline.RDat.FramePost (cfgs 0) (rdats m) (V m) r) (k : Fin 512) (j : Fin 1024) :
    r.2.mem ((c : Thread nD τ).loc main_v31_1) (ix2 k j) = (args m c).dWna k j := by
  obtain ⟨after, hL, hA⟩ := h.exists_exact c
  refine (congrFun (hA 12) (ix2 k j)).trans ?_
  refine Pipeline.Dat.arrAt_forall_of_covers (cfg := cfg0) ((rdats m c).withAfter after) 12
    (fun (i : S512x1024.Idx) (v : EReal) => v = (args m c).dWna (i 0) (i 1)) cover12 (fun t hf y => ?_) (ix2 k j)
  rw [cast_eq, Pipeline.RDat.withAfter_after]
  have ht := last12 t hf
  have e := left12 m c t (hL 12 t hf) ht
  rw [ht] at e
  have a0 : ((((cfg0.win 12).blk t).view.emb y : S512x1024.Idx) 0) = (⟨(y 0).val, (y 0).isLt⟩ : Fin 512) := by
    refine Fin.ext ((Pipeline.Window.rect_emb_val (cfg0.win 12) t y 0 rfl).trans ?_)
    rw [index12]
    show 0 * 512 + (y 0).val = (y 0).val
    omega
  have a1 : ((((cfg0.win 12).blk t).view.emb y : S512x1024.Idx) 1) = (⟨(y 1).val, (y 1).isLt⟩ : Fin 1024) := by
    refine Fin.ext ((Pipeline.Window.rect_emb_val (cfg0.win 12) t y 1 rfl).trans ?_)
    rw [index12]
    show 0 * 1024 + (y 1).val = (y 1).val
    omega
  have ey : ((cfg0.win 12).xinj (cfg0.grid.coords t) y : S512x1024.Idx) = ix2 (⟨(y 0).val, (y 0).isLt⟩ : Fin 512) (⟨(y 1).val, (y 1).isLt⟩ : Fin 1024) := Shape.idx_ext₂ rfl rfl
  have eY : after 12 t ((cfg0.win 12).xinj (cfg0.grid.coords t) y) = after 12 t (ix2 (⟨(y 0).val, (y 0).isLt⟩ : Fin 512) (⟨(y 1).val, (y 1).isLt⟩ : Fin 1024)) := congrArg (after 12 t) ey
  show after 12 t ((cfg0.win 12).xinj (cfg0.grid.coords t) y)
    = (args m c).dWna ((((cfg0.win 12).blk t).view.emb y : S512x1024.Idx) 0) ((((cfg0.win 12).blk t).view.emb y : S512x1024.Idx) 1)
  rw [eY, e, a0, a1, outNa_apply, accNa_last]

theorem arr13 (h : Pipeline.RDat.FramePost (cfgs 0) (rdats m) (V m) r) (k : Fin 512) (j : Fin 1024) :
    r.2.mem ((c : Thread nD τ).loc main_v31_2) (ix2 k j) = (args m c).dWhg k j := by
  obtain ⟨after, hL, hA⟩ := h.exists_exact c
  refine (congrFun (hA 13) (ix2 k j)).trans ?_
  refine Pipeline.Dat.arrAt_forall_of_covers (cfg := cfg0) ((rdats m c).withAfter after) 13
    (fun (i : S512x1024.Idx) (v : EReal) => v = (args m c).dWhg (i 0) (i 1)) cover13 (fun t hf y => ?_) (ix2 k j)
  rw [cast_eq, Pipeline.RDat.withAfter_after]
  have ht := last13 t hf
  have e := left13 m c t (hL 13 t hf) ht
  rw [ht] at e
  have a0 : ((((cfg0.win 13).blk t).view.emb y : S512x1024.Idx) 0) = (⟨(y 0).val, (y 0).isLt⟩ : Fin 512) := by
    refine Fin.ext ((Pipeline.Window.rect_emb_val (cfg0.win 13) t y 0 rfl).trans ?_)
    rw [index13]
    show 0 * 512 + (y 0).val = (y 0).val
    omega
  have a1 : ((((cfg0.win 13).blk t).view.emb y : S512x1024.Idx) 1) = (⟨(y 1).val, (y 1).isLt⟩ : Fin 1024) := by
    refine Fin.ext ((Pipeline.Window.rect_emb_val (cfg0.win 13) t y 1 rfl).trans ?_)
    rw [index13]
    show 0 * 1024 + (y 1).val = (y 1).val
    omega
  have ey : ((cfg0.win 13).xinj (cfg0.grid.coords t) y : S512x1024.Idx) = ix2 (⟨(y 0).val, (y 0).isLt⟩ : Fin 512) (⟨(y 1).val, (y 1).isLt⟩ : Fin 1024) := Shape.idx_ext₂ rfl rfl
  have eY : after 13 t ((cfg0.win 13).xinj (cfg0.grid.coords t) y) = after 13 t (ix2 (⟨(y 0).val, (y 0).isLt⟩ : Fin 512) (⟨(y 1).val, (y 1).isLt⟩ : Fin 1024)) := congrArg (after 13 t) ey
  show after 13 t ((cfg0.win 13).xinj (cfg0.grid.coords t) y)
    = (args m c).dWhg ((((cfg0.win 13).blk t).view.emb y : S512x1024.Idx) 0) ((((cfg0.win 13).blk t).view.emb y : S512x1024.Idx) 1)
  rw [eY, e, a0, a1, outHg_apply, accHg_last]

theorem arr16 (h : Pipeline.RDat.FramePost (cfgs 0) (rdats m) (V m) r) (k : Fin 1) (j : Fin 512) :
    r.2.mem ((c : Thread nD τ).loc main_v31_5) (ix2 k j) = (args m c).dGain j := by
  obtain ⟨after, hL, hA⟩ := h.exists_exact c
  refine (congrFun (hA 16) (ix2 k j)).trans ?_
  refine Pipeline.Dat.arrAt_forall_of_covers (cfg := cfg0) ((rdats m c).withAfter after) 16
    (fun (i : S1x512.Idx) (v : EReal) => v = (args m c).dGain (i 1)) cover16 (fun t hf y => ?_) (ix2 k j)
  rw [cast_eq, Pipeline.RDat.withAfter_after]
  have ht := last16 t hf
  have e := left16 m c t (hL 16 t hf)
  rw [ht] at e
  have a0 : ((((cfg0.win 16).blk t).view.emb y : S1x512.Idx) 0) = (⟨(y 0).val, (y 0).isLt⟩ : Fin 1) := by
    refine Fin.ext ((Pipeline.Window.rect_emb_val (cfg0.win 16) t y 0 rfl).trans ?_)
    rw [index16]
    show 0 * 1 + (y 0).val = (y 0).val
    omega
  have a1 : ((((cfg0.win 16).blk t).view.emb y : S1x512.Idx) 1) = (⟨(y 1).val, (y 1).isLt⟩ : Fin 512) := by
    refine Fin.ext ((Pipeline.Window.rect_emb_val (cfg0.win 16) t y 1 rfl).trans ?_)
    rw [index16]
    show 0 * 512 + (y 1).val = (y 1).val
    omega
  have ey : ((cfg0.win 16).xinj (cfg0.grid.coords t) y : S1x512.Idx) = ix2 (⟨(y 0).val, (y 0).isLt⟩ : Fin 1) (⟨(y 1).val, (y 1).isLt⟩ : Fin 512) := Shape.idx_ext₂ rfl rfl
  have eY : after 16 t ((cfg0.win 16).xinj (cfg0.grid.coords t) y) = after 16 t (ix2 (⟨(y 0).val, (y 0).isLt⟩ : Fin 1) (⟨(y 1).val, (y 1).isLt⟩ : Fin 512)) := congrArg (after 16 t) ey
  show after 16 t ((cfg0.win 16).xinj (cfg0.grid.coords t) y)
    = (args m c).dGain ((((cfg0.win 16).blk t).view.emb y : S1x512.Idx) 1)
  rw [eY, e, a1, ← accGain_last]
  exact congrArg (accGain m c 3) (Shape.idx_ext₂ (by show (y 0).val = 0; have : (y 0).val < 1 := (y 0).isLt; omega) rfl)

end Cert.KernelIdeal.Mix
-- ==== Proof.MixR.lean ====
module

public import proofs.«01_k».proof.Proof.Gen.ReferenceIdeal.Read
public import proofs.«01_k».proof.Proof.MixSpec
public import Idealize.ShloMosaic.Lib.Pointwise

@[expose] public section

set_option maxRecDepth 16384

noncomputable section

namespace Cert.ReferenceIdeal.Mix

open Cert.ReferenceIdeal Cert.ReferenceIdeal.Gen Cert.ReferenceIdeal.Read Cert.Mix
open Idealize.ShloMosaic Idealize.ShloMosaic.TcCoe Idealize.ShloMosaic.Tactic

/-! # The reference's operations, entry by entry -/

variable (x0 x1 x2 : S2064x512.Idx → EReal) (x3 : S1x512.Idx → EReal) (x4 x5 : S512x1024.Idx → EReal) (x6 : S2064x6144.Idx → EReal) (x7 : S2064x1024.Idx → EReal)

/-- The arguments, as functions of a row and a column. -/
def args : Args where
  na R k := x0 (ix2 R k)
  f R k := x1 (ix2 R k)
  b R k := x2 (ix2 R k)
  gain k := x3 (ix2 0 k)
  wNa k j := x4 (ix2 k j)
  wHg k j := x5 (ix2 k j)
  p R k := x6 (ix2 R k)
  dm R j := x7 (ix2 R j)

theorem t11 (R : Fin 2064) (k : Fin 512) (h : k.val / 128 < 4) :
    val_main_v11 (F := Ideal) x1 x2 (ix3 R ⟨k.val / 128, h⟩ 0) = ms ((args x0 x1 x2 x3 x4 x5 x6 x7).o R) k := by
  pointwise [val_main_v11, val_main_v10, val_main_cst_1, val_main_v9, val_main_v8, val_main_cst_0, val_main_v7, val_main_v6, val_main_cst, val_main_v5, val_main_v4, val_main_v3]
  rfl

theorem t18 (R : Fin 2064) (k : Fin 512) : val_main_v18 (F := Ideal) x1 x2 (ix2 R k) = nrm ((args x0 x1 x2 x3 x4 x5 x6 x7).o R) k := by
  pointwise [val_main_v18, val_main_v17, val_main_v16, val_main_v12, val_main_v11, val_main_v10, val_main_cst_1, val_main_v9, val_main_v8, val_main_cst_0, val_main_v7, val_main_v6, val_main_cst, val_main_v5, val_main_v4, val_main_v3]
  rfl

theorem sig (R : Fin 2064) (k : Fin 512) : val_main_v23_2 (F := Ideal) x6 (ix2 R k) = Ideal.logistic ((args x0 x1 x2 x3 x4 x5 x6 x7).g R k) := by
  pointwise [val_main_v23_2, val_main_call0_v4, val_main_call0_cst_0, val_main_call0_v3, val_main_call0_v2, val_main_call0_cst, val_main_call0_v1, val_main_call0_v0, val_main_v0]
  rfl

theorem slu (R : Fin 2064) (k : Fin 512) : val_main_v23_0 (F := Ideal) x6 (ix2 R k) = silu ((args x0 x1 x2 x3 x4 x5 x6 x7).g R k) := by
  pointwise [val_main_v23_0, val_main_v23_2, val_main_call0_v4, val_main_call0_cst_0, val_main_call0_v3, val_main_call0_v2, val_main_call0_cst, val_main_call0_v1, val_main_call0_v0, val_main_v0]
  rfl

theorem dsig (R : Fin 2064) (k : Fin 512) : val_main_v23_1 (F := Ideal) x6 (ix2 R k) = Ideal.logistic ((args x0 x1 x2 x3 x4 x5 x6 x7).g R k) * (1 - Ideal.logistic ((args x0 x1 x2 x3 x4 x5 x6 x7).g R k)) := by
  pointwise [val_main_v23_1, val_main_call0_v7, val_main_call0_v6, val_main_call0_cst_1, val_main_v23_2, val_main_call0_v4, val_main_call0_cst_0, val_main_call0_v3, val_main_call0_v2, val_main_call0_cst, val_main_call0_v1, val_main_call0_v0, val_main_v0]
  rfl

theorem t22 (R : Fin 2064) (k : Fin 512) : val_main_v22 (F := Ideal) x1 x2 x3 (ix2 R k) = nrm ((args x0 x1 x2 x3 x4 x5 x6 x7).o R) k * (args x0 x1 x2 x3 x4 x5 x6 x7).gain k := by
  pointwise [val_main_v22, val_main_v21, val_main_v20, val_main_v19]
  rw [t18 x0 x1 x2 x3 x4 x5 x6 x7 R k]
  rfl

theorem t24 (R : Fin 2064) (k : Fin 512) : val_main_v24 (F := Ideal) x1 x2 x3 x6 (ix2 R k) = (args x0 x1 x2 x3 x4 x5 x6 x7).u R k := by
  pointwise [val_main_v24]
  rw [t22 x0 x1 x2 x3 x4 x5 x6 x7 R k, slu x0 x1 x2 x3 x4 x5 x6 x7 R k]
  rfl

theorem t32 (R : Fin 2064) (j : Fin 1024) : val_main_v32 (F := Ideal) x6 (ix2 R j) = (args x0 x1 x2 x3 x4 x5 x6 x7).sNa R j := by
  pointwise [val_main_v32, val_main_v31, val_main_v30, val_main_v29, val_main_v28, val_main_v27, val_main_v1, val_main_cst_3, val_main_cst_4]
  rfl

theorem t42 (R : Fin 2064) (j : Fin 1024) : val_main_v42 (F := Ideal) x6 (ix2 R j) = (args x0 x1 x2 x3 x4 x5 x6 x7).sHg R j := by
  pointwise [val_main_v42, val_main_v41, val_main_v40, val_main_v39, val_main_v38, val_main_v37, val_main_v2, val_main_cst_6, val_main_cst_7]
  rfl

theorem t35 (R : Fin 2064) (j : Fin 1024) : val_main_v35 (F := Ideal) x6 (ix2 R j) = (args x0 x1 x2 x3 x4 x5 x6 x7).sNa R j * (1 - (args x0 x1 x2 x3 x4 x5 x6 x7).sNa R j) := by
  pointwise [val_main_v35, val_main_v34, val_main_v33, val_main_cst_5]
  rw [t32 x0 x1 x2 x3 x4 x5 x6 x7 R j]

theorem t45 (R : Fin 2064) (j : Fin 1024) : val_main_v45 (F := Ideal) x6 (ix2 R j) = (args x0 x1 x2 x3 x4 x5 x6 x7).sHg R j * (1 - (args x0 x1 x2 x3 x4 x5 x6 x7).sHg R j) := by
  pointwise [val_main_v45, val_main_v44, val_main_v43, val_main_cst_8]
  rw [t42 x0 x1 x2 x3 x4 x5 x6 x7 R j]

theorem t55 (R : Fin 2064) (j : Fin 1024) : val_main_v55 (F := Ideal) x0 x4 x6 x7 (ix2 R j) = (args x0 x1 x2 x3 x4 x5 x6 x7).dGateNa R j := by
  pointwise [val_main_v55, val_main_v54, val_main_v25, val_main_v48]
  rw [t35 x0 x1 x2 x3 x4 x5 x6 x7 R j, ← mul_assoc]
  rfl

theorem t52 (R : Fin 2064) (j : Fin 1024) : val_main_v52 (F := Ideal) x1 x2 x3 x5 x6 x7 (ix2 R j) = (args x0 x1 x2 x3 x4 x5 x6 x7).dGateHg R j := by
  pointwise [val_main_v52, val_main_v51, val_main_v26, val_main_v49]
  rw [t45 x0 x1 x2 x3 x4 x5 x6 x7 R j, ← mul_assoc]
  simp only [t24 x0 x1 x2 x3 x4 x5 x6 x7]
  rfl

theorem t53 (R : Fin 2064) (j : Fin 1024) : val_main_v53 (F := Ideal) x6 x7 (ix2 R j) = (args x0 x1 x2 x3 x4 x5 x6 x7).dm R j * (args x0 x1 x2 x3 x4 x5 x6 x7).sNa R j := by
  pointwise [val_main_v53, val_main_v48]
  rw [t32 x0 x1 x2 x3 x4 x5 x6 x7 R j, mul_comm]
  rfl

theorem t50 (R : Fin 2064) (j : Fin 1024) : val_main_v50 (F := Ideal) x6 x7 (ix2 R j) = (args x0 x1 x2 x3 x4 x5 x6 x7).dm R j * (args x0 x1 x2 x3 x4 x5 x6 x7).sHg R j := by
  pointwise [val_main_v50, val_main_v49]
  rw [t42 x0 x1 x2 x3 x4 x5 x6 x7 R j, mul_comm]
  rfl

theorem t61 (R : Fin 2064) (k : Fin 512) : val_main_v61 (F := Ideal) x4 x6 x7 (ix2 R k) = (args x0 x1 x2 x3 x4 x5 x6 x7).dNa R k := by
  pointwise [val_main_v61]
  simp only [t53 x0 x1 x2 x3 x4 x5 x6 x7]
  rfl

theorem t58 (R : Fin 2064) (k : Fin 512) : val_main_v58 (F := Ideal) x5 x6 x7 (ix2 R k) = (args x0 x1 x2 x3 x4 x5 x6 x7).du R k := by
  pointwise [val_main_v58]
  simp only [t50 x0 x1 x2 x3 x4 x5 x6 x7]
  rfl

theorem t60 (k : Fin 512) (j : Fin 1024) : val_main_v60 (F := Ideal) x0 x6 x7 (ix2 k j) = (args x0 x1 x2 x3 x4 x5 x6 x7).dWna k j := by
  pointwise [val_main_v60, val_main_v59]
  simp only [t53 x0 x1 x2 x3 x4 x5 x6 x7]
  exact Finset.sum_congr rfl fun R _ => mul_comm _ _

theorem t57 (k : Fin 512) (j : Fin 1024) : val_main_v57 (F := Ideal) x1 x2 x3 x6 x7 (ix2 k j) = (args x0 x1 x2 x3 x4 x5 x6 x7).dWhg k j := by
  pointwise [val_main_v57, val_main_v56]
  simp only [t50 x0 x1 x2 x3 x4 x5 x6 x7, t24 x0 x1 x2 x3 x4 x5 x6 x7]
  exact Finset.sum_congr rfl fun R _ => mul_comm _ _

theorem t63 (R : Fin 2064) (k : Fin 512) : val_main_v63 (F := Ideal) x5 x6 x7 (ix2 R k) = (args x0 x1 x2 x3 x4 x5 x6 x7).du R k * silu ((args x0 x1 x2 x3 x4 x5 x6 x7).g R k) := by
  pointwise [val_main_v63]
  rw [t58 x0 x1 x2 x3 x4 x5 x6 x7 R k, slu x0 x1 x2 x3 x4 x5 x6 x7 R k]

theorem t62 (R : Fin 2064) (k : Fin 512) : val_main_v62 (F := Ideal) x1 x2 x3 x5 x6 x7 (ix2 R k) = (args x0 x1 x2 x3 x4 x5 x6 x7).ct R k := by
  pointwise [val_main_v62]
  rw [t58 x0 x1 x2 x3 x4 x5 x6 x7 R k, t22 x0 x1 x2 x3 x4 x5 x6 x7 R k, mul_comm, ← mul_assoc]
  rfl

theorem t64 (R : Fin 2064) (k : Fin 512) : val_main_v64 (F := Ideal) x1 x2 x3 x5 x6 x7 (ix2 R k) = dgR ((args x0 x1 x2 x3 x4 x5 x6 x7).ct R k) ((args x0 x1 x2 x3 x4 x5 x6 x7).g R k) := by
  pointwise [val_main_v64, val_main_call1_v2, val_main_call1_v1, val_main_call1_v0, val_main_v0]
  rw [t62 x0 x1 x2 x3 x4 x5 x6 x7 R k, sig x0 x1 x2 x3 x4 x5 x6 x7 R k, dsig x0 x1 x2 x3 x4 x5 x6 x7 R k]
  rfl

theorem t71 (k : Fin 512) : val_main_v71 (F := Ideal) x1 x2 x5 x6 x7 (ix2 0 k) = (args x0 x1 x2 x3 x4 x5 x6 x7).dGain k := by
  pointwise [val_main_v71, val_main_v70, val_main_cst_10, val_main_v67, val_main_v66, val_main_cst_9, val_main_v65]
  simp only [t18 x0 x1 x2 x3 x4 x5 x6 x7, t63 x0 x1 x2 x3 x4 x5 x6 x7]
  rw [Fin.sum_univ_one]
  exact Finset.sum_congr rfl fun R _ => by rw [← mul_assoc, mul_comm (nrm _ _)]

theorem t69 (R : Fin 2064) (k : Fin 512) : val_main_v69 (F := Ideal) x3 x5 x6 x7 (ix2 R k) = (args x0 x1 x2 x3 x4 x5 x6 x7).dn R k := by
  pointwise [val_main_v69, val_main_v68, val_main_v20, val_main_v19]
  rw [t63 x0 x1 x2 x3 x4 x5 x6 x7 R k, mul_right_comm]
  rfl

theorem t87 (R : Fin 2064) (k : Fin 512) : val_main_v87 (F := Ideal) x1 x2 x3 x5 x6 x7 (ix2 R k) = doR ((args x0 x1 x2 x3 x4 x5 x6 x7).o R) ((args x0 x1 x2 x3 x4 x5 x6 x7).dn R) k := by
  pointwise [val_main_v87, val_main_v86, val_main_v85, val_main_v84, val_main_v83, val_main_v82, val_main_v81, val_main_cst_13, val_main_v80, val_main_v79, val_main_cst_12, val_main_v78, val_main_v77, val_main_v76, val_main_v75, val_main_v74, val_main_cst_11, val_main_v73, val_main_v72, val_main_v15, val_main_v14, val_main_cst_2, val_main_v13, val_main_v12, val_main_v4, val_main_v3]
  simp only [Fin.sum_univ_one, t11 x0 x1 x2 x3 x4 x5 x6 x7, t69 x0 x1 x2 x3 x4 x5 x6 x7]
  rfl

theorem t91 (hct : ∀ R k, IsReal ((args x0 x1 x2 x3 x4 x5 x6 x7).ct R k)) (R : Fin 2176) (j : Fin 4608) (hj : 2048 ≤ j.val) :
    val_main_v91 (F := Ideal) x0 x1 x2 x3 x4 x5 x6 x7 (ix2 R j) = padr (fun R => (args x0 x1 x2 x3 x4 x5 x6 x7).dP R j hj) R.val := by
  pointwise [val_main_v91, val_main_v90, val_main_v89, val_main_call2_v0, val_main_c]
  refine pad_close fun h => ?_
  rw [dif_neg (by omega)]
  show _ = (args x0 x1 x2 x3 x4 x5 x6 x7).dP ⟨R.val, h⟩ j hj
  unfold Args.dP
  by_cases h1 : j.val - 2048 < 512
  · rw [dif_pos h1, dif_pos h1, t64 x0 x1 x2 x3 x4 x5 x6 x7]
    obtain ⟨r, hr⟩ := hct ⟨R.val, h⟩ ⟨j.val - 2048, h1⟩
    rw [Args.dG, hr, dgK_eq_dgR]
  · rw [dif_neg h1, dif_neg h1]
    by_cases h2 : j.val - 2048 - 512 < 1024
    · rw [dif_pos h2, dif_pos h2, t55 x0 x1 x2 x3 x4 x5 x6 x7]
    · rw [dif_neg h2, dif_neg h2, t52 x0 x1 x2 x3 x4 x5 x6 x7]

theorem t95 (R : Fin 2176) (k : Fin 512) : val_main_v95 (F := Ideal) x1 x2 x3 x5 x6 x7 (ix2 R k) = padr (fun R => (args x0 x1 x2 x3 x4 x5 x6 x7).dO R k) R.val := by
  pointwise [val_main_v95, val_main_call4_v0, val_main_c_16]
  exact pad_close fun h => by rw [t87 x0 x1 x2 x3 x4 x5 x6 x7, ← doK_eq_doR]; rfl

theorem t94 (R : Fin 2176) (k : Fin 512) : val_main_v94 (F := Ideal) x4 x6 x7 (ix2 R k) = padr (fun R => (args x0 x1 x2 x3 x4 x5 x6 x7).dNa R k) R.val := by
  pointwise [val_main_v94, val_main_call3_v0, val_main_c_15]
  exact pad_close fun h => t61 x0 x1 x2 x3 x4 x5 x6 x7 _ k

theorem t92 (k : Fin 512) (j : Fin 1024) : val_main_v92 (F := Ideal) x0 x6 x7 (ix2 k j) = (args x0 x1 x2 x3 x4 x5 x6 x7).dWna k j := by
  pointwise [val_main_v92]
  exact t60 x0 x1 x2 x3 x4 x5 x6 x7 k j

theorem t93 (k : Fin 512) (j : Fin 1024) : val_main_v93 (F := Ideal) x1 x2 x3 x6 x7 (ix2 k j) = (args x0 x1 x2 x3 x4 x5 x6 x7).dWhg k j := by
  pointwise [val_main_v93]
  exact t57 x0 x1 x2 x3 x4 x5 x6 x7 k j

end Cert.ReferenceIdeal.Mix
-- ==== Proof.MixEnd.lean ====
module

public import proofs.«01_k».proof.Defs
public import proofs.«01_k».proof.Proof.Gen.Kernel
public import proofs.«01_k».proof.Proof.Gen.On_written
public import proofs.«01_k».proof.Proof.Gen.ReferenceIdeal.Run
public import proofs.«01_k».proof.Proof.MixArr
public import proofs.«01_k».proof.Proof.MixR
public import Idealize.ShloMosaic.Lib.KernelVsHost

@[expose] public section

set_option maxRecDepth 16384

noncomputable section

namespace Cert.KernelIdeal.Mix

open Cert.KernelIdeal Cert.KernelIdeal.Gen Cert.Mix
open Idealize.ShloMosaic Idealize.ShloMosaic.TcCoe Idealize.ShloMosaic.Tactic Idealize.SL.Sem Idealize.ShloMosaic.StableHlo

/-! # The certificate's claims -/

/-- The predicate's side conditions. -/
theorem finite_facts : Cert.Pre_finite.Facts where
  bcast_S_S1x512 := by decide
  bcast_S_S512x1024 := by decide
  bcast_S_S2064x1024 := by decide

section
variable {F : FTy → Type} [FloatOps F] (m : (ℓ : Loc nD τ sig) → Buf (Elt F) ℓ) (ρ : Dev nD → PrngReg)

/-- The arguments end as they were. -/
def Kept (r : PUnit × MemSt nD τ sig (Elt F)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)
  ∧ r.2.mem ((c.tc : Thread nD τ).loc main_arg7) = m ((c.tc : Thread nD τ).loc main_arg7)

theorem kept_of (r : PUnit × MemSt nD τ sig (Elt F)) (h : Pipeline.RDat.FramePost (cfgs 0) (rdats m) (V m) r) (c : Dev nD) : Kept m r c :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    (Pipeline.RDat.FramePost.arr_in h c 5 rfl).trans ((A_eq m c 5).trans (V_main_arg3 m c)),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c)⟩

theorem frame : θ_run (defs (F := F)) (onTc (τ := τ) (main (F := F))) ⟨m, fun _ => 0, ρ⟩ (fun r => (∀ c, Kept m r c) ∧ r.2.sem = fun _ => 0) :=
  (θ_run defs _ _).mono (fun r h => ⟨kept_of m r h.1, h.2⟩) (run_main m ρ)

end

variable (m : (ℓ : Loc nD τ sig) → Buf (Elt Ideal) ℓ)

/-! ## What the results hold, as arrays -/

def out0 (A : Args) : S2176x4608.Idx → EReal := fun i => if h : 2048 ≤ (i 1).val then padr (fun R => A.dP R (i 1) h) (i 0).val else 0
def outW (w : Fin 512 → Fin 1024 → EReal) : S512x1024.Idx → EReal := fun i => w (i 0) (i 1)
def outR (x : Fin 2064 → Fin 512 → EReal) : S2176x512.Idx → EReal := fun i => padr (fun R => x R (i 1)) (i 0).val
def outG (x : Fin 512 → EReal) : S1x512.Idx → EReal := fun i => x (i 1)

theorem out0_of (A : Args) (i : S2176x4608.Idx) (h : 2048 ≤ (i 1).val) : out0 A i = padr (fun R => A.dP R (i 1) h) (i 0).val := dif_pos h

theorem written_col (j : Fin 4608) (h : IntOp.cmpi .sge (BitVec.ofNat 32 j.val) 2048#32 = 1#1) : 2048 ≤ j.val := by
  have hj := j.isLt
  have hm : j.val % 2 ^ 32 = j.val := Nat.mod_eq_of_lt (by omega)
  have e : (BitVec.ofNat 32 j.val).toInt = (j.val : ℤ) := by
    rw [BitVec.toInt_eq_toNat_of_lt, BitVec.toNat_ofNat, hm]
    rw [BitVec.toNat_ofNat, hm]; omega
  by_contra hn
  have : IntOp.cmpi .sge (BitVec.ofNat 32 j.val) 2048#32 = 0#1 := by
    have hb : BitVec.sle 2048#32 (BitVec.ofNat 32 j.val) = false := by
      rw [BitVec.sle_eq_decide, e]
      exact decide_eq_false (by show ¬ (2048 : ℤ) ≤ _; omega)
    show BitVec.ofBool (BitVec.sle 2048#32 (BitVec.ofNat 32 j.val)) = 0#1
    rw [hb]; rfl
  rw [this] at h
  exact absurd h (by decide)

theorem real_of_finite (x : EReal) (h : FloatOps.cmpf (F := Ideal) .olt (FloatOps.hostAbsf (F := Ideal) (φ := .f32) x) (FloatOps.ofBits (F := Ideal) .f32 0x7F800000#32) = 1#1) :
    IsReal x := by
  rw [← Ideal.xori_weird_eq_hostAbsf_olt_inf] at h
  by_cases hx : x = ⊤ ∨ x = ⊥
  · have e : FloatOps.weird (F := Ideal) (x : Ideal .f32) = 1#1 := by
      show BitVec.ofBool (decide (x = ⊤ ∨ x = ⊥)) = 1#1
      rw [decide_eq_true hx]; rfl
    rw [e] at h
    exact absurd h (by decide)
  · exact ⟨x.toReal, (EReal.coe_toReal (fun e => hx (.inl e)) (fun e => hx (.inr e))).symm⟩

/-- Where the gain, the recurrence branch's weights and the cotangent are finite, so is the cotangent of the gate's silu. -/
theorem ct_real (A : Args) (hg : ∀ k, IsReal (A.gain k)) (hw : ∀ k j, IsReal (A.wHg k j)) (hd : ∀ R j, IsReal (A.dm R j)) (R : Fin 2064) (k : Fin 512) :
    IsReal (A.ct R k) := by
  unfold Args.ct Args.du Args.sHg
  exact .mul (.mul (.sum _ fun j => .mul (.mul (hd R j) (.logistic _)) (hw k j)) (.nrm _ k)) (hg k)

theorem frame_ref : Cert.quiescent_ReferenceIdeal := fun m ρ _ =>
  (θ_run Cert.ReferenceIdeal.defs _ _).mono (fun r h => ⟨fun c => (h c).2.2.2.2.2.2, sem_eq_zero_of_no_sems (by decide) r.2⟩)
    (Cert.ReferenceIdeal.Value.run (F := Ideal) m ρ)

section
attribute [local instance] finite_facts

theorem ct_real_of_pre (hp : Cert.Pre_KernelIdeal_finite m) (c : Dev nD) (R : Fin 2064) (k : Fin 512) : IsReal ((args m c).ct R k) :=
  ct_real (args m c) (fun k => real_of_finite _ (congrFun (hp c).1 (ix2 0 k))) (fun k j => real_of_finite _ (congrFun (hp c).2.1 (ix2 k j)))
    (fun R j => real_of_finite _ (congrFun (hp c).2.2 (ix2 R j))) R k

theorem algebraic : Cert.algebraic_KernelIdeal_ReferenceIdeal_on_written_pre_finite := by
  intro m g m' g' hp hm
  refine ⟨fun c => out0 (args m c), fun c => outW (args m c).dWna, fun c => outW (args m c).dWhg, fun c => outR (args m c).dNa,
    fun c => outR (args m c).dO, fun c => outG (args m c).dGain, ?_, ?_⟩
  · refine (θ_run _ _ _).mono (fun r h c => ⟨fun i hi => ?_, fun i _ => ?_, fun i _ => ?_, fun i _ => ?_, fun i _ => ?_, fun i _ => ?_, kept_of m r h.1 c⟩) (run_main m g)
    · have hj : 2048 ≤ (i 1).val := written_col (i 1) hi
      refine (congrArg _ (eq_ix2 i)).trans ((arr11 c h.1 (i 0) (i 1) hj).trans ?_)
      exact (out0_of _ i hj).symm
    · exact (congrArg _ (eq_ix2 i)).trans (arr12 c h.1 (i 0) (i 1))
    · exact (congrArg _ (eq_ix2 i)).trans (arr13 c h.1 (i 0) (i 1))
    · exact (congrArg _ (eq_ix2 i)).trans (arr14 c h.1 (i 0) (i 1))
    · exact (congrArg _ (eq_ix2 i)).trans (arr15 c h.1 (i 0) (i 1))
    · exact (congrArg _ (eq_ix2 i)).trans (arr16 c h.1 (i 0) (i 1))
  · refine (θ_run _ _ _).mono (fun r h c => ?_) (Cert.ReferenceIdeal.Value.run m' g')
    obtain ⟨e0, e1, e2, e3, e4, e5, e6, e7⟩ := hm c
    obtain ⟨h91, h92, h93, h94, h95, h71, k0, k1, k2, k3, k4, k5, k6, k7⟩ := h c
    have eA : Cert.ReferenceIdeal.Mix.args (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) = args m c := by
      rw [e0, e1, e2, e3, e4, e5, e6, e7]; rfl
    refine ⟨fun i hi => ?_, fun i _ => ?_, fun i _ => ?_, fun i _ => ?_, fun i _ => ?_, fun i _ => ?_, k0, k1, k2, k3, k4, k5, k6, k7⟩
    · have hj : 2048 ≤ (i 1).val := written_col (i 1) hi
      refine (congrFun (h91.trans (Cert.ReferenceIdeal.Read.val_main_v91_eq m' c)) i).trans ?_
      refine (congrArg _ (eq_ix2 i)).trans ((Cert.ReferenceIdeal.Mix.t91 _ _ _ _ _ _ _ _ (by rw [eA]; exact ct_real_of_pre m hp c) (i 0) (i 1) hj).trans ?_)
      rw [eA]
      exact (out0_of _ i hj).symm
    · refine (congrFun (h92.trans (Cert.ReferenceIdeal.Read.val_main_v92_eq _ _ _)) i).trans ?_
      refine (congrArg _ (eq_ix2 i)).trans ((Cert.ReferenceIdeal.Mix.t92 _ (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) _ _ (i 0) (i 1)).trans ?_)
      rw [eA]; rfl
    · refine (congrFun (h93.trans (Cert.ReferenceIdeal.Read.val_main_v93_eq _ _ _ _ _)) i).trans ?_
      refine (congrArg _ (eq_ix2 i)).trans ((Cert.ReferenceIdeal.Mix.t93 (m' ((c.tc : Thread Cert.ReferenceIdeal.nD Cert.ReferenceIdeal.τ).loc Cert.ReferenceIdeal.main_arg0)) _ _ _ (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) _ _ (i 0) (i 1)).trans ?_)
      rw [eA]; rfl
    · refine (congrFun (h94.trans (Cert.ReferenceIdeal.Read.val_main_v94_eq _ _ _)) i).trans ?_
      refine (congrArg _ (eq_ix2 i)).trans ((Cert.ReferenceIdeal.Mix.t94 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) _ (m' ((c.tc : Thread Cert.ReferenceIdeal.nD Cert.ReferenceIdeal.τ).loc Cert.ReferenceIdeal.main_arg5)) _ _ (i 0) (i 1)).trans ?_)
      rw [eA]; rfl
    · refine (congrFun (h95.trans (Cert.ReferenceIdeal.Read.val_main_v95_eq m' c)) i).trans ?_
      refine (congrArg _ (eq_ix2 i)).trans ((Cert.ReferenceIdeal.Mix.t95 (m' ((c.tc : Thread Cert.ReferenceIdeal.nD Cert.ReferenceIdeal.τ).loc Cert.ReferenceIdeal.main_arg0)) _ _ _ (m' ((c.tc : Thread Cert.ReferenceIdeal.nD Cert.ReferenceIdeal.τ).loc Cert.ReferenceIdeal.main_arg4)) _ _ _ (i 0) (i 1)).trans ?_)
      rw [eA]; rfl
    · refine (congrFun (h71.trans (Cert.ReferenceIdeal.Read.val_main_v71_eq _ _ _ _ _)) i).trans ?_
      have ei : i = ix2 0 (i 1) := Shape.idx_ext₂ (by show (i 0).val = 0; have : (i 0).val < 1 := (i 0).isLt; omega) rfl
      refine (congrArg _ ei).trans ((Cert.ReferenceIdeal.Mix.t71 (m' ((c.tc : Thread Cert.ReferenceIdeal.nD Cert.ReferenceIdeal.τ).loc Cert.ReferenceIdeal.main_arg0)) _ _ (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) _ _ _ (i 1)).trans ?_)
      rw [eA]; rfl

end

end Cert.KernelIdeal.Mix
-- ==== Proof.MixWords.lean ====
module
public import proofs.«01_k».proof.Proof.MixEnd
public import proofs.«01_k».proof.Proof.Gen.Kernel
@[expose] public section
set_option maxRecDepth 65536
set_option maxHeartbeats 2000000
noncomputable section
namespace Cert.KernelIdeal.Mix
open Idealize.ShloMosaic Idealize.ShloMosaic.TcCoe Idealize.ShloMosaic.Tactic Idealize.SL.Sem Idealize.ShloMosaic.StableHlo
variable {F : FTy → Type} [FloatOps F]

/-! The two programs have one text; their bodies, region by region, are one program. -/

theorem part1_words : @Cert.Kernel.k0_part1 F _ _ = @Cert.KernelIdeal.k0_part1 F _ _ := by unfold Cert.Kernel.k0_part1 Cert.KernelIdeal.k0_part1; rfl
theorem part2_words : @Cert.Kernel.k0_part2 F _ _ = @Cert.KernelIdeal.k0_part2 F _ _ := by unfold Cert.Kernel.k0_part2 Cert.KernelIdeal.k0_part2; rfl
theorem part3_words : @Cert.Kernel.k0_part3 F _ _ = @Cert.KernelIdeal.k0_part3 F _ _ := by unfold Cert.Kernel.k0_part3 Cert.KernelIdeal.k0_part3; rfl
theorem part4_words : @Cert.Kernel.k0_part4 F _ _ = @Cert.KernelIdeal.k0_part4 F _ _ := by unfold Cert.Kernel.k0_part4 Cert.KernelIdeal.k0_part4; rfl
theorem part5_words : @Cert.Kernel.k0_part5 F _ _ = @Cert.KernelIdeal.k0_part5 F _ _ := by unfold Cert.Kernel.k0_part5 Cert.KernelIdeal.k0_part5; rfl
theorem body_words : @Cert.Kernel.cc0_mix_bwd F _ _ = @Cert.KernelIdeal.cc0_mix_bwd F _ _ := by
  unfold Cert.Kernel.cc0_mix_bwd Cert.KernelIdeal.cc0_mix_bwd
  rw [part1_words, part2_words, part3_words, part4_words, part5_words]
  rfl

end Cert.KernelIdeal.Mix
-- ==== Proof.MixLaunch.lean ====
module
public import proofs.«01_k».proof.Proof.MixWords
public import proofs.«01_k».proof.Proof.Gen.Kernel
@[expose] public section
set_option maxRecDepth 65536
set_option maxHeartbeats 2000000
noncomputable section
namespace Cert.KernelIdeal.Mix
open Idealize.ShloMosaic Idealize.ShloMosaic.TcCoe Idealize.ShloMosaic.Tactic Idealize.SL.Sem Idealize.ShloMosaic.StableHlo
variable {F : FTy → Type} [FloatOps F]

/-- The body label of the two programs. -/
theorem defs₀_words : Cert.Kernel.defs₀ (F := F) = Cert.KernelIdeal.defs₀ (F := F) := by
  unfold Cert.Kernel.defs₀ Cert.KernelIdeal.defs₀
  rw [body_words]
  refine congrArg Defs.onTc (funext fun l => funext fun x => ?_)
  match l, x with
  | 0, (t, s) => rfl
  | ⟨_ + 1, h⟩, _ => exact absurd h (Nat.not_lt.2 (Nat.le_add_left _ _))

/-- The labels of the two programs. -/
theorem defs_words : Cert.Kernel.defs (F := F) = Cert.KernelIdeal.defs (F := F) := by
  unfold Cert.Kernel.defs Cert.KernelIdeal.defs
  rw [defs₀_words]
  rfl

/-- The two programs' host text. -/
theorem main_words : Cert.Kernel.main (F := F) = Cert.KernelIdeal.main (F := F) := by
  unfold Cert.Kernel.main Cert.KernelIdeal.main
  rfl

/-- The frame of the program over words: the frame over any float values, at words. -/
theorem frame_words : Cert.quiescent_Kernel := by
  intro m ρ _
  rw [defs_words, main_words]
  exact frame (F := Bits) m ρ

end Cert.KernelIdeal.Mix
-- ==== Proof.MlpVal.lean ====
module

public import proofs.«01_k».proof.Proof.Gen.Kernel5Ideal.Frame
public import proofs.«01_k».proof.Proof.Gen.Kernel5Ideal.Skeleton
public import Idealize.ShloMosaic.Lib.VecWindow
public import Idealize.ShloMosaic.Lib.WholeRead

@[expose] public section

set_option maxRecDepth 16384

noncomputable section

namespace Cert.Kernel5Ideal.Mlp

open Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! What one grid point computes. `x2` … `x8` are the blocks of the normed rows, of the incoming gradient in words, of the up and down
weights, of the residual rows, of the gain and of the incoming gradient; `S` holds the rows' gradient as far as it is summed. -/

theorem rows_inb : ∀ i : grid0.Coords, ∀ a, (![544 * (i 1).val, 0] : Fin 2 → ℕ) a + S544x1024.size a ≤ S2176x1024.size a := by decide +kernel
theorem half_inb : ∀ i : grid0.Coords, ∀ s : Fin 2, ∀ a, (![544 * (i 1).val + 272 * s.val, 0] : Fin 2 → ℕ) a + S272x1024.size a ≤ S2176x1024.size a := by decide +kernel

/-- The up weights' gradient summed over the row blocks so far. -/
def sumU (i : grid0.Coords) (x2 x3 : Vec F S544x1024 .bf16) (x4 : Vec F S1x1024x512 .bf16) (x5 : Vec F S1x512x1024 .bf16) (s : Vec F S1024x512 .f32) :
    Vec F S1024x512 .f32 := if k0_cond7 i = 1#1 then k0_pay24 x2 x3 x4 x5 else k0_pay26 x2 x3 x4 x5 s

/-- The down weights' gradient summed over the row blocks so far. -/
def sumD (i : grid0.Coords) (x2 x3 : Vec F S544x1024 .bf16) (x4 : Vec F S1x1024x512 .bf16) (s : Vec F S512x1024 .f32) :
    Vec F S512x1024 .f32 := if k0_cond7 i = 1#1 then k0_pay25 x2 x3 x4 else k0_pay27 x2 x3 x4 s

/-- The rows' gradient with this point's column block added to this point's rows. -/
def rows (i : grid0.Coords) (x2 x3 : Vec F S544x1024 .bf16) (x4 : Vec F S1x1024x512 .bf16) (x5 : Vec F S1x512x1024 .bf16) (S : Vec F S2176x1024 .f32) :
    Vec F S2176x1024 .f32 :=
  if k0_cond4 i = 1#1 then VecWindow.put S ![544 * (i 1).val, 0] S544x1024.size (k0_pay3 (k0_pay23 x2 x3 x4 x5 x4))
  else VecWindow.put S ![544 * (i 1).val, 0] S544x1024.size (k0_pay4 (k0_pay23 x2 x3 x4 x5 x4) (VecWindow.window S ![544 * (i 1).val, 0] S544x1024.size (rows_inb i)))

/-- Half of this point's rows of the gradient. -/
def half (i : grid0.Coords) (s : Fin 2) (S : Vec F S2176x1024 .f32) : Vec F S272x1024 .f32 :=
  VecWindow.window S ![544 * (i 1).val + 272 * s.val, 0] S272x1024.size (half_inb i s)

/-- The two halves of a row block. -/
def lo (x : Vec F S544x1024 .f32) : Vec F S272x1024 .f32 := VecWindow.window x ![0, 0] S272x1024.size inb_S544x1024_S272x1024_0_0
def hi (x : Vec F S544x1024 .f32) : Vec F S272x1024 .f32 := VecWindow.window x ![272, 0] S272x1024.size inb_S544x1024_S272x1024_272_0

/-- The gradient of the residual rows, over what the block held. -/
def outH (d : Vec F S544x1024 .f32) (i : grid0.Coords) (S : Vec F S2176x1024 .f32) (x6 : Vec F S544x1024 .f32) (x7 : Vec F S1x1024 .f32) (x8 : Vec F S544x1024 .f32) :
    Vec F S544x1024 .f32 :=
  VecWindow.put (VecWindow.put d ![0, 0] S272x1024.size (k0_pay9 (half i 0 S) (lo x6) x7 (lo x8))) ![272, 0] S272x1024.size (k0_pay14 (half i 1 S) (hi x6) x7 (hi x8))

/-- The same in words. -/
def outB (d : Vec F S544x1024 .bf16) (i : grid0.Coords) (S : Vec F S2176x1024 .f32) (x6 : Vec F S544x1024 .f32) (x7 : Vec F S1x1024 .f32) (x8 : Vec F S544x1024 .f32) :
    Vec F S544x1024 .bf16 :=
  VecWindow.put (VecWindow.put d ![0, 0] S272x1024.size (k0_pay11 (half i 0 S) (lo x6) x7 (lo x8))) ![272, 0] S272x1024.size (k0_pay15 (half i 1 S) (hi x6) x7 (hi x8))

/-- This row block's part of the gain's gradient. -/
def part (i : grid0.Coords) (S : Vec F S2176x1024 .f32) (x6 : Vec F S544x1024 .f32) : FVec F S1x1024 .f32 :=
  k0_pay16 k0_pay6 (k0_pay10 (half i 0 S) (lo x6)) (half i 1 S) (hi x6)

/-- The gain's gradient summed over the row blocks so far. -/
def sumG (i : grid0.Coords) (S : Vec F S2176x1024 .f32) (x6 : Vec F S544x1024 .f32) (g : Vec F S1x1024 .f32) : Vec F S1x1024 .f32 :=
  if k0_cond7 i = 1#1 then part i S x6 else k0_pay5 (part i S x6) g

/-- A load of a whole buffer reads what it is held at. -/
theorem load_whole {sp : Space} {s : Shape} {e : EltTy} {m : Memref sig .tc sp s e} (h : m.IsWhole) (X : s.Idx → Elt F e) {off : Fin s.rank → ℕ}
    (inb : ∀ a, off a + s.size a ≤ s.size a) : View.readAt (Elt F) m.view (Rect.unit off s.size inb).toLoadRect (h.unread X) = X := by
  rw [View.readAt_full, h.read_unread]

/-- A load of a part of a buffer reads that part of what was held, with what was stored put in. -/
theorem load_put {sp : Space} {s : Shape} {e : EltTy} (v : View sig .tc sp s e) (f : v.ty.Contents (Elt F)) {X : s.Idx → Elt F e} (hf : v.read (Elt F) f = X)
    {off off' size o o' z : Fin s.rank → ℕ} (inb : ∀ a, off a + size a ≤ s.size a) (ho : off = off') (inb' : ∀ a, o a + z a ≤ s.size a) (ho' : o = o')
    (w : ((a : Fin s.rank) → Fin (z a)) → Elt F e) :
    v.readAt (Elt F) (Rect.unit off size inb).toLoadRect (v.writes (Elt F) f [⟨Rect.unit o z inb', w⟩])
      = VecWindow.window (VecWindow.put X o' z w) off' size (fun a => ho ▸ inb a) := by
  subst ho ho' hf
  rw [View.readAt_unit _ _ inb rfl, View.read_writes_cons_put _ _ _ _ _ rfl, View.writes_nil]

/-- A load of a part of a buffer reads that part of what it is held at. -/
theorem load_part {sp : Space} {s : Shape} {e : EltTy} {m : Memref sig .tc sp s e} (h : m.IsWhole) (X : s.Idx → Elt F e) {off off' size : Fin s.rank → ℕ}
    (inb : ∀ a, off a + size a ≤ s.size a) (ho : off = off') : View.readAt (Elt F) m.view (Rect.unit off size inb).toLoadRect (h.unread X)
      = VecWindow.window X off' size (fun a => ho ▸ inb a) := by
  subst ho
  rw [View.readAt_unit _ _ inb rfl, h.read_unread]

end Cert.Kernel5Ideal.Mlp
-- ==== Proof.MlpRun.lean ====
module

public import proofs.«01_k».proof.Proof.Gen.Kernel5Ideal.Frame
public import proofs.«01_k».proof.Proof.Gen.Kernel5Ideal.Skeleton
public import proofs.«01_k».proof.Proof.MlpVal
public import Idealize.ShloMosaic.Lib.VecWindow
public import Idealize.ShloMosaic.Lib.WholeRead

@[expose] public section

set_option maxRecDepth 16384

noncomputable section

namespace Cert.Kernel5Ideal.Mlp

open Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
/-- One grid point, whatever its place in the grid: what each buffer holds afterwards, from what it held. -/
theorem body (c : Dev nD) (i : grid0.Coords) (a2 : Memref sig .tc .vmem S544x1024 .bf16) (h2 : a2.IsWhole) (a3 : Memref sig .tc .vmem S544x1024 .bf16) (h3 : a3.IsWhole) (a4 : Memref sig .tc .vmem S1x1024x512 .bf16) (h4 : a4.IsWhole) (a5 : Memref sig .tc .vmem S1x512x1024 .bf16) (h5 : a5.IsWhole) (a6 : Memref sig .tc .vmem S544x1024 .f32) (h6 : a6.IsWhole) (a7 : Memref sig .tc .vmem S1x1024 .f32) (h7 : a7.IsWhole) (a8 : Memref sig .tc .vmem S544x1024 .f32) (h8 : a8.IsWhole) (a9 : Memref sig .tc .vmem S1x1024x512 .bf16) (h9 : a9.IsWhole) (a10 : Memref sig .tc .vmem S1x512x1024 .bf16) (h10 : a10.IsWhole) (a11 : Memref sig .tc .vmem S544x1024 .f32) (h11 : a11.IsWhole) (a12 : Memref sig .tc .vmem S544x1024 .bf16) (h12 : a12.IsWhole) (a13 : Memref sig .tc .vmem S1x1024 .f32) (h13 : a13.IsWhole) (a14 : Memref sig .tc .vmem S2176x1024 .f32) (h14 : a14.IsWhole) (a15 : Memref sig .tc .vmem S1024x512 .f32) (h15 : a15.IsWhole) (a16 : Memref sig .tc .vmem S512x1024 .f32) (h16 : a16.IsWhole)
  (x2 : Vec F S544x1024 .bf16) (x3 : Vec F S544x1024 .bf16) (x4 : Vec F S1x1024x512 .bf16) (x5 : Vec F S1x512x1024 .bf16) (x6 : Vec F S544x1024 .f32) (x7 : Vec F S1x1024 .f32) (x8 : Vec F S544x1024 .f32) (x9 : Vec F S1x1024x512 .bf16) (x10 : Vec F S1x512x1024 .bf16) (x11 : Vec F S544x1024 .f32) (x12 : Vec F S544x1024 .bf16) (x13 : Vec F S1x1024 .f32) (x14 : Vec F S2176x1024 .f32) (x15 : Vec F S1024x512 .f32) (x16 : Vec F S512x1024 .f32)
  (h78 : k0_cond8 i = 1#1 ↔ ¬ k0_cond7 i = 1#1) (h45 : k0_cond5 i = 1#1 ↔ ¬ k0_cond4 i = 1#1) (E : Set ℕ) (K : PUnit → sProp 𝕄) :
  iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ owns (c : Thread nD τ) a15 fullShare x15 ∗ owns (c : Thread nD τ) a16 fullShare x16
    ∗ ((owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare (if k0_cond3 i = 1#1 then k0_pay1 (sumU i x2 x3 x4 x5 x15) else x9) ∗ owns (c : Thread nD τ) a10 fullShare (if k0_cond3 i = 1#1 then k0_pay2 (sumD i x2 x3 x4 x16) else x10) ∗ owns (c : Thread nD τ) a11 fullShare (if k0_cond6 i = 1#1 then outH x11 i (rows i x2 x3 x4 x5 x14) x6 x7 x8 else x11) ∗ owns (c : Thread nD τ) a12 fullShare (if k0_cond6 i = 1#1 then outB x12 i (rows i x2 x3 x4 x5 x14) x6 x7 x8 else x12) ∗ owns (c : Thread nD τ) a13 fullShare (if k0_cond6 i = 1#1 then sumG i (rows i x2 x3 x4 x5 x14) x6 x13 else x13) ∗ owns (c : Thread nD τ) a14 fullShare (rows i x2 x3 x4 x5 x14) ∗ owns (c : Thread nD τ) a15 fullShare (sumU i x2 x3 x4 x5 x15) ∗ owns (c : Thread nD τ) a16 fullShare (sumD i x2 x3 x4 x16)) -∗ K ⟨⟩))
  ⊢ wp frame (wpE (defs₀ (F := F)) Variants.none c none) E (cc0_mlp_bwd i a2 h2 a3 h3 a4 h4 a5 h5 a6 h6 a7 h7 a8 h8 a9 h9 a10 h10 a11 h11 a12 h12 a13 h13 a14 h14 a15 h15 a16 h16) K := by
  simp only [cc0_mlp_bwd_eq_skeleton]; unfold cc0_mlp_bwd_skel
  simp only [k0_part1_eq_skeleton, k0_part2_eq_skeleton, k0_part3_eq_skeleton]
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, HK⟩
  sl_exec
  sl_step
  iapply HK
  obtain rfl := h2.eq_unread e2
  obtain rfl := h3.eq_unread e3
  obtain rfl := h4.eq_unread e4
  obtain rfl := h5.eq_unread e5
  obtain rfl := h6.eq_unread e6
  obtain rfl := h7.eq_unread e7
  obtain rfl := h8.eq_unread e8
  obtain rfl := h9.eq_unread e9
  obtain rfl := h10.eq_unread e10
  obtain rfl := h11.eq_unread e11
  obtain rfl := h12.eq_unread e12
  obtain rfl := h13.eq_unread e13
  obtain rfl := h14.eq_unread e14
  obtain rfl := h15.eq_unread e15
  obtain rfl := h16.eq_unread e16
  have L2 := load_whole h2 x2 inb_S544x1024_S544x1024_0_0
  have L3 := load_whole h3 x3 inb_S544x1024_S544x1024_0_0
  have L4 := load_whole h4 x4 inb_S1x1024x512_S1x1024x512_0_0_0
  have L5 := load_whole h5 x5 inb_S1x512x1024_S1x512x1024_0_0_0
  have L7 := load_whole h7 x7 inb_S1x1024_S1x1024_0_0
  have L13 := load_whole h13 x13 inb_S1x1024_S1x1024_0_0
  have L15 := load_whole h15 x15 inb_S1024x512_S1024x512_0_0
  have L16 := load_whole h16 x16 inb_S512x1024_S512x1024_0_0
  have M6 := (load_part h6 x6 inb_S544x1024_S272x1024_0_0 rfl).trans (show _ = lo x6 from rfl)
  have N6 := (load_part h6 x6 inb_S544x1024_S272x1024_272_0 rfl).trans (show _ = hi x6 from rfl)
  have M8 := (load_part h8 x8 inb_S544x1024_S272x1024_0_0 rfl).trans (show _ = lo x8 from rfl)
  have N8 := (load_part h8 x8 inb_S544x1024_S272x1024_272_0 rfl).trans (show _ = hi x8 from rfl)
  have O0 : k0_off3 i 0#32 = ![544 * (i 1).val + 272 * (0 : Fin 2).val, 0] := k0_off3_eq i 0
  have O1 : k0_off3 i 272#32 = ![544 * (i 1).val + 272 * (1 : Fin 2).val, 0] := k0_off3_eq i 1
  have c1 : Scalar.cmpi .ne (Scalar.extui (Scalar.cmpi .eq (BitVec.ofNat 32 (i 1).val) 0#32)) 0#32 = 1#1 ↔ k0_cond7 i = 1#1 := Iff.rfl
  have c2 : Scalar.cmpi .ne (Scalar.extui (Scalar.cmpi .sgt (BitVec.ofNat 32 (i 1).val) 0#32)) 0#32 = 1#1 ↔ k0_cond8 i = 1#1 := Iff.rfl
  sl_unfold_run_names
  simp only [c1, c2, h78, h45]
  isplitl [H2]
  · iexists _; isplitr; swap; · iexact H2
    ipureintro
    exact h2.read_unread _
  isplitl [H3]
  · iexists _; isplitr; swap; · iexact H3
    ipureintro
    exact h3.read_unread _
  isplitl [H4]
  · iexists _; isplitr; swap; · iexact H4
    ipureintro
    exact h4.read_unread _
  isplitl [H5]
  · iexists _; isplitr; swap; · iexact H5
    ipureintro
    exact h5.read_unread _
  isplitl [H6]
  · iexists _; isplitr; swap; · iexact H6
    ipureintro
    exact h6.read_unread _
  isplitl [H7]
  · iexists _; isplitr; swap; · iexact H7
    ipureintro
    exact h7.read_unread _
  isplitl [H8]
  · iexists _; isplitr; swap; · iexact H8
    ipureintro
    exact h8.read_unread _
  isplitl [H9]
  · iexists _; isplitr; swap; · iexact H9
    ipureintro
    unfold sumU
    by_cases k3 : k0_cond3 i = 1#1 <;> by_cases k7 : k0_cond7 i = 1#1 <;>
      simp only [k3, k7, dite_true, dite_false, if_true, if_false, not_true_eq_false, not_false_eq_true, dite_eq_ite, ite_self]
    · refine (View.read_writes_full _ _ _ _ _).trans ?_; rw [View.readAt_writes_full]; (conv => rhs; rw [← L2, ← L3, ← L4, ← L5]); try rfl
    · refine (View.read_writes_full _ _ _ _ _).trans ?_; rw [View.readAt_writes_full]; (conv => rhs; rw [← L2, ← L3, ← L4, ← L5, ← L15]); try rfl
    · exact e9
    · exact e9
  isplitl [H10]
  · iexists _; isplitr; swap; · iexact H10
    ipureintro
    unfold sumD
    by_cases k3 : k0_cond3 i = 1#1 <;> by_cases k7 : k0_cond7 i = 1#1 <;>
      simp only [k3, k7, dite_true, dite_false, if_true, if_false, not_true_eq_false, not_false_eq_true, dite_eq_ite, ite_self]
    · refine (View.read_writes_full _ _ _ _ _).trans ?_; rw [View.readAt_writes_full]; (conv => rhs; rw [← L2, ← L3, ← L4]); try rfl
    · refine (View.read_writes_full _ _ _ _ _).trans ?_; rw [View.readAt_writes_full]; (conv => rhs; rw [← L2, ← L3, ← L4, ← L16]); try rfl
    · exact e10
    · exact e10
  isplitl [H11]
  · iexists _; isplitr; swap; · iexact H11
    ipureintro
    by_cases k6 : k0_cond6 i = 1#1
    · by_cases k4 : k0_cond4 i = 1#1
      · simp only [k6, k4, dite_true, dite_false, if_true, if_false, not_true_eq_false, not_false_eq_true, dite_eq_ite, ite_self]
        refine (View.read_writes_cons_put _ _ _ _ _ rfl).trans ?_
        rw [View.read_writes_cons_put _ _ _ _ _ (rfl : ![0, 0] = ![0, 0]), View.writes_nil, e11, load_put a14.view _ e14 _ O0 _ (k0_off1_eq i), load_put a14.view _ e14 _ O1 _ (k0_off1_eq i)]
        unfold outH rows half
        rw [if_pos k4]
        (conv => rhs; rw [← L2, ← L3, ← L4, ← L5, ← L7, ← M6, ← N6, ← M8, ← N8]); try rfl
      · simp only [k6, k4, dite_true, dite_false, if_true, if_false, not_true_eq_false, not_false_eq_true, dite_eq_ite, ite_self]
        have P14 := load_part h14 x14 (k0_off2_inb i (h45.mpr k4)) (k0_off2_eq i)
        refine (View.read_writes_cons_put _ _ _ _ _ rfl).trans ?_
        rw [View.read_writes_cons_put _ _ _ _ _ (rfl : ![0, 0] = ![0, 0]), View.writes_nil, e11, load_put a14.view _ e14 _ O0 _ (k0_off2_eq i), load_put a14.view _ e14 _ O1 _ (k0_off2_eq i)]
        unfold outH rows half
        rw [if_neg k4]
        (conv => rhs; rw [← L2, ← L3, ← L4, ← L5, ← L7, ← M6, ← N6, ← M8, ← N8, ← P14]); try rfl
    · simp only [k6, dite_true, dite_false, if_true, if_false, not_true_eq_false, not_false_eq_true, dite_eq_ite, ite_self]; exact e11
  isplitl [H12]
  · iexists _; isplitr; swap; · iexact H12
    ipureintro
    by_cases k6 : k0_cond6 i = 1#1
    · by_cases k4 : k0_cond4 i = 1#1
      · simp only [k6, k4, dite_true, dite_false, if_true, if_false, not_true_eq_false, not_false_eq_true, dite_eq_ite, ite_self]
        refine (View.read_writes_cons_put _ _ _ _ _ rfl).trans ?_
        rw [View.read_writes_cons_put _ _ _ _ _ (rfl : ![0, 0] = ![0, 0]), View.writes_nil, e12, load_put a14.view _ e14 _ O0 _ (k0_off1_eq i), load_put a14.view _ e14 _ O1 _ (k0_off1_eq i)]
        unfold outB rows half
        rw [if_pos k4]
        (conv => rhs; rw [← L2, ← L3, ← L4, ← L5, ← L7, ← M6, ← N6, ← M8, ← N8]); try rfl
      · simp only [k6, k4, dite_true, dite_false, if_true, if_false, not_true_eq_false, not_false_eq_true, dite_eq_ite, ite_self]
        have P14 := load_part h14 x14 (k0_off2_inb i (h45.mpr k4)) (k0_off2_eq i)
        refine (View.read_writes_cons_put _ _ _ _ _ rfl).trans ?_
        rw [View.read_writes_cons_put _ _ _ _ _ (rfl : ![0, 0] = ![0, 0]), View.writes_nil, e12, load_put a14.view _ e14 _ O0 _ (k0_off2_eq i), load_put a14.view _ e14 _ O1 _ (k0_off2_eq i)]
        unfold outB rows half
        rw [if_neg k4]
        (conv => rhs; rw [← L2, ← L3, ← L4, ← L5, ← L7, ← M6, ← N6, ← M8, ← N8, ← P14]); try rfl
    · simp only [k6, dite_true, dite_false, if_true, if_false, not_true_eq_false, not_false_eq_true, dite_eq_ite, ite_self]; exact e12
  isplitl [H13]
  · iexists _; isplitr; swap; · iexact H13
    ipureintro
    unfold sumG
    by_cases k6 : k0_cond6 i = 1#1
    · by_cases k4 : k0_cond4 i = 1#1 <;> by_cases k7 : k0_cond7 i = 1#1 <;>
        simp only [k6, k4, k7, dite_true, dite_false, if_true, if_false, not_true_eq_false, not_false_eq_true, dite_eq_ite, ite_self]
      · refine (View.read_writes_full _ _ _ _ _).trans ?_
        rw [load_put a14.view _ e14 _ O0 _ (k0_off1_eq i), load_put a14.view _ e14 _ O1 _ (k0_off1_eq i)]
        unfold part rows half
        rw [if_pos k4]
        (conv => rhs; rw [← L2, ← L3, ← L4, ← L5, ← M6, ← N6]); try rfl
      · refine (View.read_writes_full _ _ _ _ _).trans ?_
        rw [load_put a14.view _ e14 _ O0 _ (k0_off1_eq i), load_put a14.view _ e14 _ O1 _ (k0_off1_eq i)]
        unfold part rows half
        rw [if_pos k4]
        (conv => rhs; rw [← L2, ← L3, ← L4, ← L5, ← M6, ← N6, ← L13]); try rfl
      · have P14 := load_part h14 x14 (k0_off2_inb i (h45.mpr k4)) (k0_off2_eq i)
        refine (View.read_writes_full _ _ _ _ _).trans ?_
        rw [load_put a14.view _ e14 _ O0 _ (k0_off2_eq i), load_put a14.view _ e14 _ O1 _ (k0_off2_eq i)]
        unfold part rows half
        rw [if_neg k4]
        (conv => rhs; rw [← L2, ← L3, ← L4, ← L5, ← M6, ← N6, ← P14]); try rfl
      · have P14 := load_part h14 x14 (k0_off2_inb i (h45.mpr k4)) (k0_off2_eq i)
        refine (View.read_writes_full _ _ _ _ _).trans ?_
        rw [load_put a14.view _ e14 _ O0 _ (k0_off2_eq i), load_put a14.view _ e14 _ O1 _ (k0_off2_eq i)]
        unfold part rows half
        rw [if_neg k4]
        (conv => rhs; rw [← L2, ← L3, ← L4, ← L5, ← M6, ← N6, ← P14, ← L13]); try rfl
    · simp only [k6, dite_true, dite_false, if_true, if_false, not_true_eq_false, not_false_eq_true, dite_eq_ite, ite_self]; exact e13
  isplitl [H14]
  · iexists _; isplitr; swap; · iexact H14
    ipureintro
    unfold rows
    by_cases k4 : k0_cond4 i = 1#1
    · simp only [k4, dite_true, dite_false, if_true, if_false, not_true_eq_false, not_false_eq_true, dite_eq_ite, ite_self]
      refine (View.read_writes_cons_put _ _ _ _ _ (k0_off1_eq i)).trans ?_
      rw [View.writes_nil, e14]; (conv => rhs; rw [← L2, ← L3, ← L4, ← L5]); try rfl
    · simp only [k4, dite_true, dite_false, if_true, if_false, not_true_eq_false, not_false_eq_true, dite_eq_ite, ite_self]
      refine (View.read_writes_cons_put _ _ _ _ _ (k0_off2_eq i)).trans ?_
      rw [View.writes_nil, e14]; (conv => rhs; rw [← L2, ← L3, ← L4, ← L5, ← load_part h14 x14 (k0_off2_inb i (h45.mpr k4)) (k0_off2_eq i)]); try rfl
  isplitl [H15]
  · iexists _; isplitr; swap; · iexact H15
    ipureintro
    unfold sumU
    by_cases k7 : k0_cond7 i = 1#1
    · simp only [k7, dite_true, dite_false, if_true, if_false, not_true_eq_false, not_false_eq_true, dite_eq_ite, ite_self]
      refine (View.read_writes_full _ _ _ _ _).trans ?_; (conv => rhs; rw [← L2, ← L3, ← L4, ← L5]); try rfl
    · simp only [k7, dite_true, dite_false, if_true, if_false, not_true_eq_false, not_false_eq_true, dite_eq_ite, ite_self]
      refine (View.read_writes_full _ _ _ _ _).trans ?_; (conv => rhs; rw [← L2, ← L3, ← L4, ← L5, ← L15]); try rfl
  iexists _; isplitr; swap; · iexact H16
  ipureintro
  unfold sumD
  by_cases k7 : k0_cond7 i = 1#1
  · simp only [k7, dite_true, dite_false, if_true, if_false, not_true_eq_false, not_false_eq_true, dite_eq_ite, ite_self]
    refine (View.read_writes_full _ _ _ _ _).trans ?_; (conv => rhs; rw [← L2, ← L3, ← L4]); try rfl
  · simp only [k7, dite_true, dite_false, if_true, if_false, not_true_eq_false, not_false_eq_true, dite_eq_ite, ite_self]
    refine (View.read_writes_full _ _ _ _ _).trans ?_; (conv => rhs; rw [← L2, ← L3, ← L4, ← L16]); try rfl

end Cert.Kernel5Ideal.Mlp
-- ==== Proof.MlpFrame.lean ====
module

public import proofs.«01_k».proof.Proof.Gen.Kernel5Ideal.Frame
public import proofs.«01_k».proof.Proof.Gen.Kernel5Ideal.Skeleton
public import proofs.«01_k».proof.Proof.MlpRun
public import Idealize.ShloMosaic.Lib.Pipeline.DatRel
public import Idealize.ShloMosaic.Lib.Pipeline.ArrRel
public import Idealize.ShloMosaic.Lib.WholeRead

@[expose] public section

set_option maxRecDepth 16384

noncomputable section

namespace Cert.Kernel5Ideal.Mlp

open Cert.Kernel5Ideal.Gen
open Idealize.ShloMosaic Idealize.ShloMosaic.TcCoe Idealize.ShloMosaic.Tactic
open Idealize.SL Idealize.SL.RA Idealize.SL.BI
open scoped Idealize.SL.BI
open Idealize.ShloMosaic.Pipeline (Dat RDat BodyObligationRel)
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each point leaves -/

/-- Point `n`, for a number read modulo the grid. -/
def pt (n : ℕ) : Fin cfg0.N := ⟨n % 32, lt_of_lt_of_eq (Nat.mod_lt _ (by decide)) N_0.symm⟩

theorem pt_val (t : Fin cfg0.N) : pt t.val = t :=
  Fin.ext (Nat.mod_eq_of_lt (lt_of_lt_of_eq t.isLt N_0))

/-- What a point makes of the three scratch buffers. -/
def step (c : Dev nD) (t : Fin cfg0.N) (S : Vec F S2176x1024 .f32 × Vec F S1024x512 .f32 × Vec F S512x1024 .f32) :
    Vec F S2176x1024 .f32 × Vec F S1024x512 .f32 × Vec F S512x1024 .f32 :=
  (rows (grid0.coords t) (iblk m c 0 t) (iblk m c 1 t) (iblk m c 2 t) (iblk m c 3 t) S.1,
    sumU (grid0.coords t) (iblk m c 0 t) (iblk m c 1 t) (iblk m c 2 t) (iblk m c 3 t) S.2.1,
    sumD (grid0.coords t) (iblk m c 0 t) (iblk m c 1 t) (iblk m c 2 t) S.2.2)

/-- The three scratch buffers before point `n`, from what they held before the first. -/
def held3 (c : Dev nD) (S : Vec F S2176x1024 .f32 × Vec F S1024x512 .f32 × Vec F S512x1024 .f32) :
    ℕ → Vec F S2176x1024 .f32 × Vec F S1024x512 .f32 × Vec F S512x1024 .f32
  | 0 => S
  | n + 1 => step m c (pt n) (held3 c S n)

theorem held3_succ (c : Dev nD) (S) (t : Fin cfg0.N) : held3 m c S (t.val + 1) = step m c t (held3 m c S t.val) := by
  rw [held3, pt_val]

/-- What the gain's buffer may hold after point `28 + n`. -/
def Gain (c : Dev nD) : ℕ → Vec F S1x1024 .f32 → Prop
  | 0 => fun X => ∃ S g, X = sumG (grid0.coords (pt 28)) (held3 m c S 29).1 (iblk m c 4 (pt 28)) g
  | n + 1 => fun X => ∃ S g, Gain c n g ∧ X = sumG (grid0.coords (pt (29 + n))) (held3 m c S (30 + n)).1 (iblk m c 4 (pt (29 + n))) g

theorem last_iff : ∀ t : Fin cfg0.N, k0_cond3 (grid0.coords t) = 1#1 ↔ t.val % 4 = 3 :=
  (by decide +kernel : ∀ t : Fin grid0.N, k0_cond3 (grid0.coords t) = 1#1 ↔ t.val % 4 = 3)
theorem out_iff : ∀ t : Fin cfg0.N, k0_cond6 (grid0.coords t) = 1#1 ↔ 28 ≤ t.val :=
  (by decide +kernel : ∀ t : Fin grid0.N, k0_cond6 (grid0.coords t) = 1#1 ↔ 28 ≤ t.val)
theorem first7_iff : ∀ t : Fin cfg0.N, k0_cond7 (grid0.coords t) = 1#1 ↔ t.val % 4 = 0 :=
  (by decide +kernel : ∀ t : Fin grid0.N, k0_cond7 (grid0.coords t) = 1#1 ↔ t.val % 4 = 0)
theorem first4_iff : ∀ t : Fin cfg0.N, k0_cond4 (grid0.coords t) = 1#1 ↔ t.val < 4 :=
  (by decide +kernel : ∀ t : Fin grid0.N, k0_cond4 (grid0.coords t) = 1#1 ↔ t.val < 4)
theorem cond78 : ∀ i : grid0.Coords, k0_cond8 i = 1#1 ↔ ¬ k0_cond7 i = 1#1 := by decide +kernel
theorem cond45 : ∀ i : grid0.Coords, k0_cond5 i = 1#1 ↔ ¬ k0_cond4 i = 1#1 := by decide +kernel

/-! ## The buffers -/

abbrev ms0 (t : Fin cfg0.N) : Memref sig .tc .vmem S544x1024 .bf16 := win0_0.stage (cfg0.slots t 0)
abbrev ms1 (t : Fin cfg0.N) : Memref sig .tc .vmem S544x1024 .bf16 := win0_1.stage (cfg0.slots t 1)
abbrev ms2 (t : Fin cfg0.N) : Memref sig .tc .vmem S1x1024x512 .bf16 := win0_2.stage (cfg0.slots t 2)
abbrev ms3 (t : Fin cfg0.N) : Memref sig .tc .vmem S1x512x1024 .bf16 := win0_3.stage (cfg0.slots t 3)
abbrev ms4 (t : Fin cfg0.N) : Memref sig .tc .vmem S544x1024 .f32 := win0_4.stage (cfg0.slots t 4)
abbrev ms5 (t : Fin cfg0.N) : Memref sig .tc .vmem S1x1024 .f32 := win0_5.stage (cfg0.slots t 5)
abbrev ms6 (t : Fin cfg0.N) : Memref sig .tc .vmem S544x1024 .f32 := win0_6.stage (cfg0.slots t 6)
abbrev ms7 (t : Fin cfg0.N) : Memref sig .tc .vmem S1x1024x512 .bf16 := win0_7.stage (cfg0.slots t 7)
abbrev ms8 (t : Fin cfg0.N) : Memref sig .tc .vmem S1x512x1024 .bf16 := win0_8.stage (cfg0.slots t 8)
abbrev ms9 (t : Fin cfg0.N) : Memref sig .tc .vmem S544x1024 .f32 := win0_9.stage (cfg0.slots t 9)
abbrev ms10 (t : Fin cfg0.N) : Memref sig .tc .vmem S544x1024 .bf16 := win0_10.stage (cfg0.slots t 10)
abbrev ms11 (t : Fin cfg0.N) : Memref sig .tc .vmem S1x1024 .f32 := win0_11.stage (cfg0.slots t 11)
abbrev hs0 (t : Fin cfg0.N) : (ms0 t).IsWhole := hstage0_0 ((cfg0.slots t 0).cast nbuf0_0)
abbrev hs1 (t : Fin cfg0.N) : (ms1 t).IsWhole := hstage0_1 ((cfg0.slots t 1).cast nbuf0_1)
abbrev hs2 (t : Fin cfg0.N) : (ms2 t).IsWhole := hstage0_2 ((cfg0.slots t 2).cast nbuf0_2)
abbrev hs3 (t : Fin cfg0.N) : (ms3 t).IsWhole := hstage0_3 ((cfg0.slots t 3).cast nbuf0_3)
abbrev hs4 (t : Fin cfg0.N) : (ms4 t).IsWhole := hstage0_4 ((cfg0.slots t 4).cast nbuf0_4)
abbrev hs5 (t : Fin cfg0.N) : (ms5 t).IsWhole := hstage0_5 ((cfg0.slots t 5).cast nbuf0_5)
abbrev hs6 (t : Fin cfg0.N) : (ms6 t).IsWhole := hstage0_6 ((cfg0.slots t 6).cast nbuf0_6)
abbrev hs7 (t : Fin cfg0.N) : (ms7 t).IsWhole := hstage0_7 ((cfg0.slots t 7).cast nbuf0_7)
abbrev hs8 (t : Fin cfg0.N) : (ms8 t).IsWhole := hstage0_8 ((cfg0.slots t 8).cast nbuf0_8)
abbrev hs9 (t : Fin cfg0.N) : (ms9 t).IsWhole := hstage0_9 ((cfg0.slots t 9).cast nbuf0_9)
abbrev hs10 (t : Fin cfg0.N) : (ms10 t).IsWhole := hstage0_10 ((cfg0.slots t 10).cast nbuf0_10)
abbrev hs11 (t : Fin cfg0.N) : (ms11 t).IsWhole := hstage0_11 ((cfg0.slots t 11).cast nbuf0_11)

/-- The rows' gradient and the two weights' accumulators. -/
abbrev sc0 : Memref sig .tc .vmem S2176x1024 .f32 := Memref.whole cc0_scratch0
abbrev sc1 : Memref sig .tc .vmem S1024x512 .f32 := Memref.whole cc0_scratch1
abbrev sc2 : Memref sig .tc .vmem S512x1024 .f32 := Memref.whole cc0_scratch2

theorem any_scratch (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

/-- Before point `n` the scratch holds what the points before made of something. -/
def Inv (c : Dev nD) (n : ℕ) : sProp 𝕄 :=
  iprop((∃ S, owns (c : Thread nD τ) sc0 fullShare (held3 m c S n).1 ∗ owns (c : Thread nD τ) sc1 fullShare (held3 m c S n).2.1 ∗ owns (c : Thread nD τ) sc2 fullShare (held3 m c S n).2.2) ∗ (∃ r, prngReg c r))

/-! ## The proof data -/

/-- The outputs, held to a predicate: each is written at some points only. -/
def held : Fin 12 → Bool := fun w => decide (7 ≤ w.val)

/-- What the outputs meet after point `t`. -/
def Meets (c : Dev nD) (w : Fin cfg0.W) (t : Fin cfg0.N) : ((cfg0.win w).block.Idx → Elt F (cfg0.win w).elt) → Prop :=
  match w with
  | ⟨7, _⟩ => fun X => t.val % 4 = 3 → ∃ S, X = (k0_pay1 (held3 m c S (t.val + 1)).2.1 : Vec F S1x1024x512 .bf16)
  | ⟨8, _⟩ => fun X => t.val % 4 = 3 → ∃ S, X = (k0_pay2 (held3 m c S (t.val + 1)).2.2 : Vec F S1x512x1024 .bf16)
  | ⟨9, _⟩ => fun X => 28 ≤ t.val → ∃ S d, X = (outH d (grid0.coords t) (held3 m c S (t.val + 1)).1 (iblk m c 4 t) (iblk m c 5 t) (iblk m c 6 t) : Vec F S544x1024 .f32)
  | ⟨10, _⟩ => fun X => 28 ≤ t.val → ∃ S d, X = (outB d (grid0.coords t) (held3 m c S (t.val + 1)).1 (iblk m c 4 t) (iblk m c 5 t) (iblk m c 6 t) : Vec F S544x1024 .bf16)
  | ⟨11, _⟩ => fun X => 28 ≤ t.val → Gain m c (t.val - 28) X
  | _ => fun _ => True

/-- The arrays as the call finds them, and the scratch between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => Dat.unnamed (cfg := cfg0) 7 t
    | ⟨8, _⟩ => Dat.unnamed (cfg := cfg0) 8 t
    | ⟨9, _⟩ => Dat.unnamed (cfg := cfg0) 9 t
    | ⟨10, _⟩ => Dat.unnamed (cfg := cfg0) 10 t
    | ⟨11, _⟩ => Dat.unnamed (cfg := cfg0) 11 t
    | ⟨k + 12, h⟩ => absurd (show k + 12 < 12 from h) (by omega)
  Φ t := Inv m c t.val
  q _ := fullShare
  owed _ := 0

theorem A_eq (c : Dev nD) (w : Fin cfg0.W) : (dats m 0 c).A w = V m c (Pipeline.arrRef spec0 w) := by
  dsimp only [dats]

theorem before0 (c : Dev nD) (t : Fin cfg0.N) (d) : (dats m 0 c).before 0 t d = iblk m c 0 t :=
  before0_0_of m (dats m 0 c) (A_eq m c 0) (fun t => by dsimp only [dats]) t d
theorem before1 (c : Dev nD) (t : Fin cfg0.N) (d) : (dats m 0 c).before 1 t d = iblk m c 1 t :=
  before0_1_of m (dats m 0 c) (A_eq m c 1) (fun t => by dsimp only [dats]) t d
theorem before2 (c : Dev nD) (t : Fin cfg0.N) (d) : (dats m 0 c).before 2 t d = iblk m c 2 t :=
  before0_2_of m (dats m 0 c) (A_eq m c 2) (fun t => by dsimp only [dats]) t d
theorem before3 (c : Dev nD) (t : Fin cfg0.N) (d) : (dats m 0 c).before 3 t d = iblk m c 3 t :=
  before0_3_of m (dats m 0 c) (A_eq m c 3) (fun t => by dsimp only [dats]) t d
theorem before4 (c : Dev nD) (t : Fin cfg0.N) (d) : (dats m 0 c).before 4 t d = iblk m c 4 t :=
  before0_4_of m (dats m 0 c) (A_eq m c 4) (fun t => by dsimp only [dats]) t d
theorem before5 (c : Dev nD) (t : Fin cfg0.N) (d) : (dats m 0 c).before 5 t d = iblk m c 5 t :=
  before0_5_of m (dats m 0 c) (A_eq m c 5) (fun t => by dsimp only [dats]) t d
theorem before6 (c : Dev nD) (t : Fin cfg0.N) (d) : (dats m 0 c).before 6 t d = iblk m c 6 t :=
  before0_6_of m (dats m 0 c) (A_eq m c 6) (fun t => by dsimp only [dats]) t d
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]

/-- From the second of the last four points on the gain's buffer holds what the point before left. -/
theorem found11 (c : Dev nD) (t : Fin cfg0.N) (h : 29 ≤ t.val) (Y) (hY : ((dats m 0 c).toRRel held (Meets m c)).Finds 11 t Y) :
    Gain m c (t.val - 1 - 28) Y := by
  have hN : t.val < 32 := lt_of_lt_of_eq t.isLt N_0
  rcases (RDat.finds_of_pos _ (rfl) (by omega) Y).mp hY with hf | hl
  · have := (flush0_11 _).mp hf
    change (t.val - 1) % 32 = 31 at this
    omega
  · exact (Dat.toRRel_leaves (dat := dats m 0 c) (fgt := held) (Rl := Meets m c) rfl hl) (show 28 ≤ t.val - 1 by omega)

theorem gain_step (c : Dev nD) (t : Fin cfg0.N) (S) (Y) (hY : ((dats m 0 c).toRRel held (Meets m c)).Finds 11 t Y) (h : 28 ≤ t.val) :
    Gain m c (t.val - 28) (sumG (grid0.coords t) (held3 m c S (t.val + 1)).1 (iblk m c 4 t) Y) := by
  by_cases h0 : t.val = 28
  · have ht : t = pt 28 := by rw [← h0, pt_val]
    subst ht
    exact ⟨S, Y, rfl⟩
  · have g := found11 m c t (by omega) Y hY
    obtain ⟨n, hn⟩ : ∃ n, t.val = 29 + n := ⟨t.val - 29, by omega⟩
    have ht : t = pt (29 + n) := by rw [← hn, pt_val]
    rw [show t.val - 1 - 28 = n by omega] at g
    rw [show t.val - 28 = n + 1 by omega, show t.val + 1 = 30 + n by omega]
    refine ⟨S, Y, g, ?_⟩
    rw [← ht]

/-- What the body is handed at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ Y, ⌜((dats m 0 c).toRRel held (Meets m c)).Finds 7 t Y⌝ ∗ owns (c : Thread nD τ) (ms7 t) fullShare Y)
    ∗ (∃ Y, ⌜((dats m 0 c).toRRel held (Meets m c)).Finds 8 t Y⌝ ∗ owns (c : Thread nD τ) (ms8 t) fullShare Y)
    ∗ (∃ Y, ⌜((dats m 0 c).toRRel held (Meets m c)).Finds 9 t Y⌝ ∗ owns (c : Thread nD τ) (ms9 t) fullShare Y)
    ∗ (∃ Y, ⌜((dats m 0 c).toRRel held (Meets m c)).Finds 10 t Y⌝ ∗ owns (c : Thread nD τ) (ms10 t) fullShare Y)
    ∗ (∃ Y, ⌜((dats m 0 c).toRRel held (Meets m c)).Finds 11 t Y⌝ ∗ owns (c : Thread nD τ) (ms11 t) fullShare Y))

/-- What it hands back. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ (∃ X, ⌜Meets m c 7 t X⌝ ∗ owns (c : Thread nD τ) (ms7 t) fullShare X)
    ∗ (∃ X, ⌜Meets m c 8 t X⌝ ∗ owns (c : Thread nD τ) (ms8 t) fullShare X)
    ∗ (∃ X, ⌜Meets m c 9 t X⌝ ∗ owns (c : Thread nD τ) (ms9 t) fullShare X)
    ∗ (∃ X, ⌜Meets m c 10 t X⌝ ∗ owns (c : Thread nD τ) (ms10 t) fullShare X)
    ∗ (∃ X, ⌜Meets m c 11 t X⌝ ∗ owns (c : Thread nD τ) (ms11 t) fullShare X))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, after0, after1, after2, after3, after4, after5, after6]
  rw [show (dats m 0 c).owesAt () t.succ = (dats m 0 c).owesAt () t.castSucc from rfl]
  rw [show (dats m 0 c).Φ t.succ = Inv m c (t.val + 1) from rfl, show (dats m 0 c).Φ t.castSucc = Inv m c t.val from rfl, Inv, Inv]
  iintro ⟨⟨⟨%S, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%Y7, %F7, H7⟩, ⟨%Y8, %F8, H8⟩, ⟨%Y9, %F9, H9⟩, ⟨%Y10, %F10, H10⟩, ⟨%Y11, %F11, H11⟩⟩
  have hr : (held3 m c S (t.val + 1)).1 = rows (grid0.coords t) (iblk m c 0 t) (iblk m c 1 t) (iblk m c 2 t) (iblk m c 3 t) (held3 m c S t.val).1 := by rw [held3_succ]; rfl
  have hu : (held3 m c S (t.val + 1)).2.1 = sumU (grid0.coords t) (iblk m c 0 t) (iblk m c 1 t) (iblk m c 2 t) (iblk m c 3 t) (held3 m c S t.val).2.1 := by rw [held3_succ]; rfl
  have hd : (held3 m c S (t.val + 1)).2.2 = sumD (grid0.coords t) (iblk m c 0 t) (iblk m c 1 t) (iblk m c 2 t) (held3 m c S t.val).2.2 := by rw [held3_succ]; rfl
  iapply (body c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) sc2 (Memref.isWhole_whole _) (iblk m c 0 t) (iblk m c 1 t) (iblk m c 2 t) (iblk m c 3 t) (iblk m c 4 t) (iblk m c 5 t) (iblk m c 6 t) Y7 Y8 Y9 Y10 Y11 (held3 m c S t.val).1 (held3 m c S t.val).2.1 (held3 m c S t.val).2.2 (cond78 _) (cond45 _) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  isplitl [HS1]; · iexact HS1
  isplitl [HS2]; · iexact HS2
  rw [← hr, ← hu, ← hd]
  iintro ⟨H0, H1, H2, H3, H4, H5, H6, H7, H8, H9, H10, H11, HS0, HS1, HS2⟩
  isplitl [HS0 HS1 HS2 Hg]
  · isplitl [HS0 HS1 HS2]
    · iexists S
      isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists _; isplitr; swap; · iexact H7
    ipureintro; exact fun h => ⟨S, if_pos ((last_iff t).mpr h)⟩
  isplitl [H8]
  · iexists _; isplitr; swap; · iexact H8
    ipureintro; exact fun h => ⟨S, if_pos ((last_iff t).mpr h)⟩
  isplitl [H9]
  · iexists _; isplitr; swap; · iexact H9
    ipureintro; exact fun h => ⟨S, Y9, if_pos ((out_iff t).mpr h)⟩
  isplitl [H10]
  · iexists _; isplitr; swap; · iexact H10
    ipureintro; exact fun h => ⟨S, Y10, if_pos ((out_iff t).mpr h)⟩
  iexists _; isplitr; swap; · iexact H11
  ipureintro; exact fun h => by rw [if_pos ((out_iff t).mpr h)]; exact gain_step m c t S Y11 F11 h

theorem row_eq (t : Fin cfg0.N) : defs₀ (F := F) .tc cfg0.body (cfg0.bodyArgs t (cfg0.slots t)) = bodyAt0 t := by
  unfold defs₀; rw [Defs.onTc_tc]

theorem body_ok (c : Dev nD) : BodyObligationRel (dats (F := F) m 0 c) (defs₀ (F := F)) Variants.none () Set.univ held (Meets m c) := fun t => by
  rw [bigSep_W0, bigSep_W0, row_eq]
  exact triple_restated (sound_body m c t) rfl .rfl fun _ => .rfl

theorem hin (c : Dev nD) : Pipeline.ΦA spec0 c ⊢ (dats m 0 c).Φ 0 := by
  rw [show (dats m 0 c).Φ 0 = Inv m c 0 from rfl, Inv, any_scratch]
  iintro ⟨⟨⟨%s0, HS0⟩, ⟨%s1, HS1⟩, ⟨%s2, HS2⟩⟩, Hg⟩
  isplitl [HS0 HS1 HS2]
  · iexists (s0, s1, s2)
    isplitl [HS0]; · iexact HS0
    isplitl [HS1]; · iexact HS1
    iexact HS2
  iexact Hg

theorem hout (c : Dev nD) : (dats m 0 c).Φ (Fin.last cfg0.N) ⊢ Pipeline.ΦA spec0 c := by
  rw [show (dats m 0 c).Φ (Fin.last cfg0.N) = Inv m c cfg0.N from rfl, Inv, any_scratch]
  iintro ⟨⟨%S, HS0, HS1, HS2⟩, Hg⟩
  isplitl [HS0 HS1 HS2]
  · isplitl [HS0]
    · iexists _; iexact HS0
    isplitl [HS1]
    · iexists _; iexact HS1
    iexists _; iexact HS2
  iexact Hg

/-! ## The run -/

/-- The proof data with the held outputs known by what they meet. -/
def rdats (c : Dev nD) : RDat τ (Elt F) Unit ℕ (UR sig nD τ) ℕ cfg0 c := (dats m 0 c).toRRel held (Meets m c)

set_option backward.isDefEq.respectTransparency.types false in
/-- Every fair run of @main ends, with the arrays as the proof data say and every counter at zero. -/
theorem run_main : θ_run defs (onTc (τ := τ) (main (F := F))) (s₀ m ρ)
    (fun r => Pipeline.RDat.FramePost (cfgs 0) (rdats m) (V m) r ∧ r.2.sem = fun _ => 0) :=
  Pipeline.RDat.θ_run_frame_track (Q' := _) cfgs (0 : Fin 1) launch0 defs₀ Variants.none (rdats m) m ρ main
    (hbody := fun c => (body_ok m c).toRRel) (hshare := fun c => (dats m 0 c).share_full fun _ => rfl)
    (howed := fun _ _ => rfl) (V := V m) (hmain := hmain m Variants.none) (hA := A_eq m) (hin := hin m) (hout := hout m)

end Cert.Kernel5Ideal.Mlp
-- ==== Proof.MlpSpec.lean ====
module

public import proofs.«01_k».proof.Proof.MixMath
public import Idealize.ShloMosaic.Lib.Pointwise

@[expose] public section

set_option maxRecDepth 16384

noncomputable section

namespace Cert.Mlp

open Idealize.ShloMosaic Idealize.ShloMosaic.TcCoe

/-! # The feed-forward layer's backward, entry by entry, from the five arguments -/

abbrev width : EReal := Ideal.ofBits .f32 1149239296#32
abbrev eps : EReal := Ideal.ofBits .f32 897988541#32
abbrev two : EReal := Ideal.ofBits .f32 1073741824#32

theorem width_eq : width = ((1024 : ℝ) : EReal) := by
  rw [width]; simp [Ideal.ofBits, Ideal.ieee, ← EReal.coe_mul, ← EReal.coe_add]; norm_num [EReal.coe_eq_coe_iff]

/-- The arguments, as functions of a row and a column. -/
structure Args where
  h : Fin 2176 → Fin 1024 → EReal
  gain : Fin 1024 → EReal
  wu : Fin 1024 → Fin 4096 → EReal
  wd : Fin 4096 → Fin 1024 → EReal
  d : Fin 2176 → Fin 1024 → EReal

/-- The mean square of a row, and the constant that keeps it from zero. -/
def ms (x : Fin 1024 → EReal) : EReal := Ideal.div (∑ k, x k * x k) width + eps
def rs (x : Fin 1024 → EReal) : EReal := Ideal.rsqrt (ms x)
/-- The gradient of a row from its cotangent `dm` after the norm and the gain, added to what passes by. -/
def dRow (x g d dm : Fin 1024 → EReal) (k : Fin 1024) : EReal :=
  d k + rs x * (dm k * g k - x k * rs x * Ideal.div (∑ q, dm q * g q * (x q * rs x)) width)

/-- The mean square is infinite or a positive real. -/
theorem ms_cases (x : Fin 1024 → EReal) : ms x = ⊤ ∨ ∃ p : ℝ, 0 < p ∧ ms x = (p : EReal) := by
  obtain ⟨e, he, hE⟩ := Mix.eps_pos
  have hE' : eps = (e : EReal) := hE
  rw [ms, hE', width_eq, Mix.div_real _ (by norm_num)]
  have h : 0 ≤ ∑ k, x k * x k := Finset.sum_nonneg fun _ _ => Mix.mul_self_nonneg' _
  generalize (∑ k, x k * x k) = s at h
  induction s with
  | bot => simp at h
  | top => left; rw [EReal.top_mul_coe_of_pos (by norm_num)]; rfl
  | coe s =>
    right
    have hs : 0 ≤ s := by exact_mod_cast h
    exact ⟨s * 1024⁻¹ + e, by positivity, by push_cast; rfl⟩

/-- The gradient of a row as the reference writes it. -/
theorem dRow_eq (x g d dm : Fin 1024 → EReal) (k : Fin 1024) : dRow x g d dm k
      = d k + dm k * g k * rs x + x k * Ideal.div ((∑ q, x q * (dm q * g q)) * (Mix.minusHalf * Ideal.div (rs x) (ms x))) width
        + Ideal.div ((∑ q, x q * (dm q * g q)) * (Mix.minusHalf * Ideal.div (rs x) (ms x))) width * x k := by
  unfold dRow rs
  rw [Mix.norm_grad x (fun q => dm q * g q) (by norm_num) width_eq (ms_cases x) (x k) (dm k * g k), ← add_assoc, ← add_assoc]

namespace Args

variable (A : Args)

/-- The normalised rows, and what the layer reads. -/
def n (R : Fin 2176) (k : Fin 1024) : EReal := A.h R k * rs (A.h R)
def m (R : Fin 2176) (k : Fin 1024) : EReal := A.n R k * A.gain k
/-- The rows after the up projection and its cut at zero. -/
def r (R : Fin 2176) (f : Fin 4096) : EReal := max (∑ k : Fin 1024, A.m R k * A.wu k f) 0
/-- The cotangent of the up projection. -/
def u (R : Fin 2176) (f : Fin 4096) : EReal := (∑ k : Fin 1024, A.d R k * A.wd f k) * (two * A.r R f)
def dWd (f : Fin 4096) (k : Fin 1024) : EReal := ∑ R : Fin 2176, A.r R f * A.r R f * A.d R k
def dWu (k : Fin 1024) (f : Fin 4096) : EReal := ∑ R : Fin 2176, A.m R k * A.u R f
def dm (R : Fin 2176) (k : Fin 1024) : EReal := ∑ f : Fin 4096, A.u R f * A.wu k f
def dG (k : Fin 1024) : EReal := ∑ R : Fin 2176, A.dm R k * A.n R k
def dH (R : Fin 2176) (k : Fin 1024) : EReal := dRow (A.h R) A.gain (A.d R) (A.dm R) k

end Args

/-! ## Rows and columns by block -/

/-- Row `r` of row block `i`, and column `f` of column block `j`. -/
def row (i : ℕ) (r : Fin 544) : Fin 2176 := ⟨i % 4 * 544 + r.val, by omega⟩
def col (j : ℕ) (f : Fin 512) : Fin 4096 := ⟨j % 8 * 512 + f.val, by omega⟩

theorem row_mod (i : ℕ) (r : Fin 544) : row (i % 4) r = row i r := Fin.ext (by show i % 4 % 4 * 544 + _ = _; rw [Nat.mod_mod]; rfl)

theorem col_of (j : Fin 8) (f : Fin 512) (h) : (⟨j.val * 512 + f.val, h⟩ : Fin 4096) = col j.val f := Fin.ext (by
  show j.val * 512 + f.val = j.val % 8 * 512 + f.val
  rw [Nat.mod_eq_of_lt j.isLt])

theorem sum_rows (x : Fin 2176 → EReal) : ∑ R, x R = ((∑ r, x (row 0 r)) + ∑ r, x (row 1 r)) + (∑ r, x (row 2 r)) + ∑ r, x (row 3 r) := by
  rw [Fin.sum_univ_tiles 4 544 (N := 2176) rfl x, Fin.sum_univ_four]
  rfl

theorem sum_cols (x : Fin 4096 → EReal) : ∑ f, x f = ∑ j ∈ Finset.range 8, ∑ q, x (col j q) := by
  rw [Fin.sum_univ_tiles 8 512 (N := 4096) rfl x, Finset.sum_range]
  refine Finset.sum_congr rfl fun j _ => Finset.sum_congr rfl fun q _ => congrArg x (Fin.ext ?_)
  show j.val * 512 + q.val = j.val % 8 * 512 + q.val
  rw [Nat.mod_eq_of_lt j.isLt]

end Cert.Mlp
-- ==== Proof.MlpV.lean ====
module

public import proofs.«01_k».proof.Proof.Gen.Kernel5Ideal.Frame
public import proofs.«01_k».proof.Proof.MlpSpec

@[expose] public section

set_option maxRecDepth 16384

noncomputable section

namespace Cert.Kernel5Ideal.Mlp

open Cert.Kernel5Ideal Cert.Kernel5Ideal.Gen Cert.Mlp
open Idealize.ShloMosaic Idealize.ShloMosaic.TcCoe Idealize.ShloMosaic.Tactic Idealize.SL.Sem Idealize.ShloMosaic.StableHlo

variable (m : (ℓ : Loc nD τ sig) → Buf (Elt Ideal) ℓ) (c : Dev nD)

/-- The arguments, as the device finds them. -/
def args : Args where
  h R k := m ((c : Thread nD τ).loc main_arg0) (ix2 R k)
  gain k := m ((c : Thread nD τ).loc main_arg1) (ix2 0 k)
  wu k f := m ((c : Thread nD τ).loc main_arg2) (ix2 k f)
  wd f k := m ((c : Thread nD τ).loc main_arg3) (ix2 f k)
  d R k := m ((c : Thread nD τ).loc main_arg4) (ix2 R k)

/-! ## The call's arrays -/

set_option maxHeartbeats 4000000 in
theorem V12 (R : Fin 2176) (k : Fin 1024) : V m c main_v12 (ix2 R k) = (args m c).m R k := by
  unfold V
  simp only [hostOps0, List.flatten_cons, List.flatten_nil, List.append_nil, List.cons_append, List.nil_append, TRef.binary, TRef.nullary, TRef.unary, TRef.toBuf, TRef.ofBuf, cast_eq]
  after_results_simp <;> (try dsimp only [Matrix.cons_val]) <;> (try after_results_simp)
  pointwise
  simp only [Args.m, Args.n, rs, ms, args]

set_option maxHeartbeats 4000000 in
theorem V13 (R : Fin 2176) (k : Fin 1024) : V m c main_v13 (ix2 R k) = (args m c).d R k := by
  unfold V
  simp only [hostOps0, List.flatten_cons, List.flatten_nil, List.append_nil, List.cons_append, List.nil_append, TRef.binary, TRef.nullary, TRef.unary, TRef.toBuf, TRef.ofBuf, cast_eq]
  after_results_simp <;> (try dsimp only [Matrix.cons_val]) <;> (try after_results_simp)
  rfl

set_option maxHeartbeats 4000000 in
theorem V16 (j : Fin 8) (k : Fin 1024) (f : Fin 512) : V m c main_v16 (ix3 j k f) = (args m c).wu k (col j.val f) := by
  unfold V
  simp only [hostOps0, List.flatten_cons, List.flatten_nil, List.append_nil, List.cons_append, List.nil_append, TRef.binary, TRef.nullary, TRef.unary, TRef.toBuf, TRef.ofBuf, cast_eq]
  after_results_simp <;> (try dsimp only [Matrix.cons_val]) <;> (try after_results_simp)
  pointwise
  rw [col_of]
  rfl

set_option maxHeartbeats 4000000 in
theorem V18 (j : Fin 8) (f : Fin 512) (k : Fin 1024) : V m c main_v18 (ix3 j f k) = (args m c).wd (col j.val f) k := by
  unfold V
  simp only [hostOps0, List.flatten_cons, List.flatten_nil, List.append_nil, List.cons_append, List.nil_append, TRef.binary, TRef.nullary, TRef.unary, TRef.toBuf, TRef.ofBuf, cast_eq]
  after_results_simp <;> (try dsimp only [Matrix.cons_val]) <;> (try after_results_simp)
  pointwise
  rw [col_of]
  rfl

/-! ## The blocks of a grid point -/

theorem index0 : ∀ t : Fin cfg0.N, (cfg0.win 0).index t = ![t.val % 4, 0] := (by decide +kernel : ∀ t : Fin grid0.N, _)
theorem index1 : ∀ t : Fin cfg0.N, (cfg0.win 1).index t = ![t.val % 4, 0] := (by decide +kernel : ∀ t : Fin grid0.N, _)
theorem index2 : ∀ t : Fin cfg0.N, (cfg0.win 2).index t = ![t.val / 4, 0, 0] := (by decide +kernel : ∀ t : Fin grid0.N, _)
theorem index3 : ∀ t : Fin cfg0.N, (cfg0.win 3).index t = ![t.val / 4, 0, 0] := (by decide +kernel : ∀ t : Fin grid0.N, _)
theorem index7 : ∀ t : Fin cfg0.N, (cfg0.win 7).index t = ![t.val / 4, 0, 0] := (by decide +kernel : ∀ t : Fin grid0.N, _)
theorem index8 : ∀ t : Fin cfg0.N, (cfg0.win 8).index t = ![t.val / 4, 0, 0] := (by decide +kernel : ∀ t : Fin grid0.N, _)
theorem index4 : ∀ t : Fin cfg0.N, 28 ≤ t.val → (cfg0.win 4).index t = ![t.val % 4, 0] := (by decide +kernel : ∀ t : Fin grid0.N, _)
theorem index6 : ∀ t : Fin cfg0.N, 28 ≤ t.val → (cfg0.win 6).index t = ![t.val % 4, 0] := (by decide +kernel : ∀ t : Fin grid0.N, _)
theorem index9 : ∀ t : Fin cfg0.N, 28 ≤ t.val → (cfg0.win 9).index t = ![t.val % 4, 0] := (by decide +kernel : ∀ t : Fin grid0.N, _)
theorem index10 : ∀ t : Fin cfg0.N, 28 ≤ t.val → (cfg0.win 10).index t = ![t.val % 4, 0] := (by decide +kernel : ∀ t : Fin grid0.N, _)
theorem index5 : ∀ t : Fin cfg0.N, (cfg0.win 5).index t = ![0, 0] := (by decide +kernel : ∀ t : Fin grid0.N, _)
theorem index11 : ∀ t : Fin cfg0.N, (cfg0.win 11).index t = ![0, 0] := (by decide +kernel : ∀ t : Fin grid0.N, _)

/-- A row block's row in its array, a column in its own, and a block of the weights. -/
theorem row_of {x : Fin 2 → ℕ} {q : ℕ} (h : x = ![q % 4, 0]) (r : Fin 544) : x 0 * 544 + r.val = (row q r).val := by subst h; rfl
theorem zero_of {x : Fin 2 → ℕ} {q n : ℕ} (h : x = ![q, 0]) (k : Fin n) : x 1 * n + k.val = k.val := by
  subst h
  show 0 * n + k.val = k.val
  omega
theorem blk_of {x : Fin 3 → ℕ} {q : ℕ} (h : x = ![q, 0, 0]) : x 0 * 1 + 0 = q := by
  subst h
  show q * 1 + 0 = q
  omega
theorem zero1_of {x : Fin 3 → ℕ} {q n : ℕ} (h : x = ![q, 0, 0]) (k : Fin n) : x 1 * n + k.val = k.val := by
  subst h
  show 0 * n + k.val = k.val
  omega
theorem zero2_of {x : Fin 3 → ℕ} {q n : ℕ} (h : x = ![q, 0, 0]) (k : Fin n) : x 2 * n + k.val = k.val := by
  subst h
  show 0 * n + k.val = k.val
  omega

theorem t_lt (t : Fin cfg0.N) : t.val < 32 := lt_of_lt_of_eq t.isLt N_0
theorem blk_lt (t : Fin cfg0.N) : t.val / 4 < 8 := by have := t_lt t; omega

theorem iblk0_apply (t : Fin cfg0.N) (r : Fin 544) (k : Fin 1024) : iblk m c 0 t (ix2 r k) = (args m c).m (row t.val r) k := by
  refine Eq.trans ?_ (V12 m c (row t.val r) k)
  unfold iblk
  rw [View.read_apply, cast_eq]
  refine congrArg (V m c main_v12) (Shape.idx_ext₂ ?_ ?_)
  · exact (Pipeline.Window.rect_emb_val (cfg0.win 0) t (ix2 r k) 0 rfl).trans (row_of (index0 t) r)
  · exact (Pipeline.Window.rect_emb_val (cfg0.win 0) t (ix2 r k) 1 rfl).trans (zero_of (index0 t) k)

theorem iblk1_apply (t : Fin cfg0.N) (r : Fin 544) (k : Fin 1024) : iblk m c 1 t (ix2 r k) = (args m c).d (row t.val r) k := by
  refine Eq.trans ?_ (V13 m c (row t.val r) k)
  unfold iblk
  rw [View.read_apply, cast_eq]
  refine congrArg (V m c main_v13) (Shape.idx_ext₂ ?_ ?_)
  · exact (Pipeline.Window.rect_emb_val (cfg0.win 1) t (ix2 r k) 0 rfl).trans (row_of (index1 t) r)
  · exact (Pipeline.Window.rect_emb_val (cfg0.win 1) t (ix2 r k) 1 rfl).trans (zero_of (index1 t) k)

theorem iblk4_apply (t : Fin cfg0.N) (h : 28 ≤ t.val) (r : Fin 544) (k : Fin 1024) : iblk m c 4 t (ix2 r k) = (args m c).h (row t.val r) k := by
  refine Eq.trans ?_ (congrFun (V_main_arg0 m c) (ix2 (row t.val r) k))
  unfold iblk
  rw [View.read_apply, cast_eq]
  refine congrArg (V m c main_arg0) (Shape.idx_ext₂ ?_ ?_)
  · exact (Pipeline.Window.rect_emb_val (cfg0.win 4) t (ix2 r k) 0 rfl).trans (row_of (index4 t h) r)
  · exact (Pipeline.Window.rect_emb_val (cfg0.win 4) t (ix2 r k) 1 rfl).trans (zero_of (index4 t h) k)

theorem iblk6_apply (t : Fin cfg0.N) (h : 28 ≤ t.val) (r : Fin 544) (k : Fin 1024) : iblk m c 6 t (ix2 r k) = (args m c).d (row t.val r) k := by
  refine Eq.trans ?_ (congrFun (V_main_arg4 m c) (ix2 (row t.val r) k))
  unfold iblk
  rw [View.read_apply, cast_eq]
  refine congrArg (V m c main_arg4) (Shape.idx_ext₂ ?_ ?_)
  · exact (Pipeline.Window.rect_emb_val (cfg0.win 6) t (ix2 r k) 0 rfl).trans (row_of (index6 t h) r)
  · exact (Pipeline.Window.rect_emb_val (cfg0.win 6) t (ix2 r k) 1 rfl).trans (zero_of (index6 t h) k)

theorem iblk5_apply (t : Fin cfg0.N) (k : Fin 1024) : iblk m c 5 t (ix2 0 k) = (args m c).gain k := by
  refine Eq.trans ?_ (congrFun (V_main_arg1 m c) (ix2 0 k))
  unfold iblk
  rw [View.read_apply, cast_eq]
  refine congrArg (V m c main_arg1) (Shape.idx_ext₂ ?_ ?_)
  · refine (Pipeline.Window.rect_emb_val (cfg0.win 5) t (ix2 0 k) 0 rfl).trans ?_
    rw [index5]
    rfl
  · exact (Pipeline.Window.rect_emb_val (cfg0.win 5) t (ix2 0 k) 1 rfl).trans (zero_of (index5 t) k)

theorem iblk2_apply (t : Fin cfg0.N) (k : Fin 1024) (f : Fin 512) : iblk m c 2 t (ix3 0 k f) = (args m c).wu k (col (t.val / 4) f) := by
  refine Eq.trans ?_ (V16 m c ⟨t.val / 4, blk_lt t⟩ k f)
  unfold iblk
  rw [View.read_apply, cast_eq]
  refine congrArg (V m c main_v16) (funext fun x => Fin.ext ?_)
  fin_cases x
  · exact (Pipeline.Window.rect_emb_val (cfg0.win 2) t (ix3 0 k f) 0 rfl).trans (blk_of (index2 t))
  · exact (Pipeline.Window.rect_emb_val (cfg0.win 2) t (ix3 0 k f) 1 rfl).trans (zero1_of (index2 t) k)
  · exact (Pipeline.Window.rect_emb_val (cfg0.win 2) t (ix3 0 k f) 2 rfl).trans (zero2_of (index2 t) f)

theorem iblk3_apply (t : Fin cfg0.N) (f : Fin 512) (k : Fin 1024) : iblk m c 3 t (ix3 0 f k) = (args m c).wd (col (t.val / 4) f) k := by
  refine Eq.trans ?_ (V18 m c ⟨t.val / 4, blk_lt t⟩ f k)
  unfold iblk
  rw [View.read_apply, cast_eq]
  refine congrArg (V m c main_v18) (funext fun x => Fin.ext ?_)
  fin_cases x
  · exact (Pipeline.Window.rect_emb_val (cfg0.win 3) t (ix3 0 f k) 0 rfl).trans (blk_of (index3 t))
  · exact (Pipeline.Window.rect_emb_val (cfg0.win 3) t (ix3 0 f k) 1 rfl).trans (zero1_of (index3 t) f)
  · exact (Pipeline.Window.rect_emb_val (cfg0.win 3) t (ix3 0 f k) 2 rfl).trans (zero2_of (index3 t) k)

end Cert.Kernel5Ideal.Mlp
-- ==== Proof.MlpPay.lean ====
module

public import proofs.«01_k».proof.Proof.Gen.Kernel5Ideal.Skeleton
public import proofs.«01_k».proof.Proof.MlpSpec
public import Idealize.ShloMosaic.Lib.Pointwise

@[expose] public section

set_option maxRecDepth 16384

noncomputable section

namespace Cert.Kernel5Ideal.Mlp

open Cert.Kernel5Ideal Cert.Kernel5Ideal.Gen Cert.Mlp
open Idealize.ShloMosaic Idealize.ShloMosaic.TcCoe Idealize.ShloMosaic.Tactic

/-! # What the body stores, entry by entry -/

variable (x2 x3 : S544x1024.Idx → EReal) (x4 : S1x1024x512.Idx → EReal) (x5 : S1x512x1024.Idx → EReal)

/-- A row block's rows after the up projection and its cut at zero, and the cotangent of the up projection, for one column block. -/
def rl (r : Fin 544) (f : Fin 512) : EReal := max (∑ k : Fin 1024, x2 (ix2 r k) * x4 (ix3 0 k f)) 0
def ul (r : Fin 544) (f : Fin 512) : EReal := (∑ k : Fin 1024, x3 (ix2 r k) * x5 (ix3 0 f k)) * (two * rl x2 x4 r f)

theorem pay19_apply (r : Fin 544) (f : Fin 512) : k0_pay19 (F := Ideal) x2 x4 (ix2 r f) = rl x2 x4 r f := by
  pointwise [k0_pay19, k0_pay17]
  rfl

theorem pay20_apply (r : Fin 544) (f : Fin 512) : k0_pay20 (F := Ideal) x2 x3 x4 x5 (ix2 r f) = ul x2 x3 x4 x5 r f := by
  pointwise [k0_pay20, k0_pay18]
  rw [pay19_apply]
  rfl

theorem pay23_apply (r : Fin 544) (k : Fin 1024) : k0_pay23 (F := Ideal) x2 x3 x4 x5 x4 (ix2 r k)
      = ∑ f : Fin 512, ul x2 x3 x4 x5 r f * x4 (ix3 0 k f) := by
  pointwise [k0_pay23]
  simp only [pay20_apply]

theorem pay22_apply (k : Fin 1024) (f : Fin 512) : k0_pay22 (F := Ideal) x2 x3 x4 x5 (ix2 k f)
      = ∑ r : Fin 544, x2 (ix2 r k) * ul x2 x3 x4 x5 r f := by
  pointwise [k0_pay22, k0_pay17]
  simp only [pay20_apply]

theorem pay21_apply (f : Fin 512) (k : Fin 1024) : k0_pay21 (F := Ideal) x2 x3 x4 (ix2 f k)
      = ∑ r : Fin 544, rl x2 x4 r f * rl x2 x4 r f * x3 (ix2 r k) := by
  pointwise [k0_pay21, k0_pay18]
  simp only [pay19_apply]

theorem pay24_apply (k : Fin 1024) (f : Fin 512) : k0_pay24 (F := Ideal) x2 x3 x4 x5 (ix2 k f)
      = ∑ r : Fin 544, x2 (ix2 r k) * ul x2 x3 x4 x5 r f := by
  pointwise [k0_pay24]
  exact pay22_apply x2 x3 x4 x5 k f

theorem pay25_apply (f : Fin 512) (k : Fin 1024) : k0_pay25 (F := Ideal) x2 x3 x4 (ix2 f k)
      = ∑ r : Fin 544, rl x2 x4 r f * rl x2 x4 r f * x3 (ix2 r k) := by
  pointwise [k0_pay25]
  exact pay21_apply x2 x3 x4 f k

theorem pay26_apply (s : S1024x512.Idx → EReal) (k : Fin 1024) (f : Fin 512) : k0_pay26 (F := Ideal) x2 x3 x4 x5 s (ix2 k f)
      = s (ix2 k f) + ∑ r : Fin 544, x2 (ix2 r k) * ul x2 x3 x4 x5 r f := by
  pointwise [k0_pay26]
  rw [pay22_apply]

theorem pay27_apply (s : S512x1024.Idx → EReal) (f : Fin 512) (k : Fin 1024) : k0_pay27 (F := Ideal) x2 x3 x4 s (ix2 f k)
      = s (ix2 f k) + ∑ r : Fin 544, rl x2 x4 r f * rl x2 x4 r f * x3 (ix2 r k) := by
  pointwise [k0_pay27]
  rw [pay21_apply]

theorem pay3_apply (y : S544x1024.Idx → EReal) (r : Fin 544) (k : Fin 1024) : k0_pay3 (F := Ideal) y (ix2 r k) = y (ix2 r k) := by
  pointwise [k0_pay3]

theorem pay4_apply (y s : S544x1024.Idx → EReal) (r : Fin 544) (k : Fin 1024) : k0_pay4 (F := Ideal) y s (ix2 r k) = s (ix2 r k) + y (ix2 r k) := by
  pointwise [k0_pay4]

theorem pay1_apply (s : S1024x512.Idx → EReal) (k : Fin 1024) (f : Fin 512) : k0_pay1 (F := Ideal) s (ix3 0 k f) = s (ix2 k f) := by
  pointwise [k0_pay1]

theorem pay2_apply (s : S512x1024.Idx → EReal) (f : Fin 512) (k : Fin 1024) : k0_pay2 (F := Ideal) s (ix3 0 f k) = s (ix2 f k) := by
  pointwise [k0_pay2]

theorem pay5_apply (p g : S1x1024.Idx → EReal) (k : Fin 1024) : k0_pay5 (F := Ideal) p g (ix2 0 k) = g (ix2 0 k) + p (ix2 0 k) := by
  pointwise [k0_pay5]

/-! ## Half a row block of the residual rows' gradient -/

variable (dm h d : S272x1024.Idx → EReal) (g : S1x1024.Idx → EReal)

theorem pay7_apply (r : Fin 272) : k0_pay7 (F := Ideal) h (ix2 r 0) = rs fun k => h (ix2 r k) := by
  pointwise [k0_pay7]
  rfl

theorem pay8_apply (r : Fin 272) (k : Fin 1024) : k0_pay8 (F := Ideal) h (ix2 r k) = h (ix2 r k) * rs fun k => h (ix2 r k) := by
  pointwise [k0_pay8]
  rw [pay7_apply]

theorem pay9_apply (r : Fin 272) (k : Fin 1024) : k0_pay9 (F := Ideal) dm h g d (ix2 r k)
      = dRow (fun k => h (ix2 r k)) (fun k => g (ix2 0 k)) (fun k => d (ix2 r k)) (fun k => dm (ix2 r k)) k := by
  pointwise [k0_pay9]
  simp only [pay7_apply, pay8_apply]
  rfl

theorem pay10_apply (k : Fin 1024) : k0_pay10 (F := Ideal) dm h (ix2 0 k) = ∑ r : Fin 272, dm (ix2 r k) * (h (ix2 r k) * rs fun k => h (ix2 r k)) := by
  pointwise [k0_pay10]
  simp only [pay8_apply]

/-- The second half's are the first's. -/
theorem pay13_eq : k0_pay13 (F := Ideal) h = k0_pay8 h := rfl
theorem pay14_eq : k0_pay14 (F := Ideal) dm h g d = k0_pay9 dm h g d := rfl

theorem pay11_apply (r : Fin 272) (k : Fin 1024) : k0_pay11 (F := Ideal) dm h g d (ix2 r k) = k0_pay9 (F := Ideal) dm h g d (ix2 r k) := by
  pointwise [k0_pay11]

theorem pay15_apply (r : Fin 272) (k : Fin 1024) : k0_pay15 (F := Ideal) dm h g d (ix2 r k) = k0_pay9 (F := Ideal) dm h g d (ix2 r k) := by
  pointwise [k0_pay15]
  rw [pay14_eq]

theorem pay16_apply (a : S1x1024.Idx → EReal) (k : Fin 1024) : k0_pay16 (F := Ideal) k0_pay6 a dm h (ix2 0 k)
      = a (ix2 0 k) + ∑ r : Fin 272, dm (ix2 r k) * (h (ix2 r k) * rs fun k => h (ix2 r k)) := by
  pointwise [k0_pay16, k0_pay6]
  simp only [pay13_eq, pay8_apply]

end Cert.Kernel5Ideal.Mlp
-- ==== Proof.MlpAcc.lean ====
module

public import proofs.«01_k».proof.Proof.MlpFrame
public import proofs.«01_k».proof.Proof.MlpV
public import proofs.«01_k».proof.Proof.MlpPay

@[expose] public section

set_option maxRecDepth 16384

noncomputable section

namespace Cert.Kernel5Ideal.Mlp

open Cert.Kernel5Ideal Cert.Kernel5Ideal.Gen Cert.Mlp
open Idealize.ShloMosaic Idealize.ShloMosaic.TcCoe Idealize.ShloMosaic.Tactic Idealize.SL.Sem Idealize.ShloMosaic.StableHlo

variable (m : (ℓ : Loc nD τ sig) → Buf (Elt Ideal) ℓ) (c : Dev nD)

/-! ## Ranges of rows of a buffer -/

theorem put_in {α : Type} {N : ℕ} (x : (⟨2, ![N, 1024]⟩ : Shape).Idx → α) (o n : ℕ) (w : (⟨2, ![n, 1024]⟩ : Shape).Idx → α) (R : Fin N) (k : Fin 1024)
    (h : o ≤ R.val) (h' : R.val - o < n) : VecWindow.put x ![o, 0] (⟨2, ![n, 1024]⟩ : Shape).size w (ix2 R k) = w (ix2 ⟨R.val - o, h'⟩ k) := by
  have hk := k.isLt
  have hall : ∀ a, (![o, 0] : Fin 2 → ℕ) a ≤ ((ix2 R k : (⟨2, ![N, 1024]⟩ : Shape).Idx) a).val
      ∧ ((ix2 R k : (⟨2, ![N, 1024]⟩ : Shape).Idx) a).val < (![o, 0] : Fin 2 → ℕ) a + (⟨2, ![n, 1024]⟩ : Shape).size a := by
    intro a
    match a with
    | ⟨0, _⟩ => show o ≤ R.val ∧ R.val < o + n; omega
    | ⟨1, _⟩ => show 0 ≤ k.val ∧ k.val < 0 + 1024; omega
  exact (dif_pos hall).trans (congrArg w (Shape.idx_ext₂ rfl rfl))

theorem put_out {α : Type} {N : ℕ} (x : (⟨2, ![N, 1024]⟩ : Shape).Idx → α) (o n : ℕ) (w : (⟨2, ![n, 1024]⟩ : Shape).Idx → α) (R : Fin N) (k : Fin 1024)
    (h : ¬ (o ≤ R.val ∧ R.val < o + n)) : VecWindow.put x ![o, 0] (⟨2, ![n, 1024]⟩ : Shape).size w (ix2 R k) = x (ix2 R k) :=
  dif_neg fun hall => h (hall 0)

theorem window_apply {α : Type} {N n o : ℕ} (x : (⟨2, ![N, 1024]⟩ : Shape).Idx → α) (inb) (r : Fin n) (k : Fin 1024) (R : Fin N) (h : R.val = o + r.val) :
    VecWindow.window x ![o, 0] (⟨2, ![n, 1024]⟩ : Shape).size inb (ix2 r k) = x (ix2 R k) := by
  refine congrArg x (Shape.idx_ext₂ ?_ ?_)
  · show o + 1 * r.val = R.val
    omega
  · show 0 + 1 * k.val = k.val
    omega

/-- Two halves put in cover a row block. -/
theorem halves {α : Type} (d : (⟨2, ![544, 1024]⟩ : Shape).Idx → α) (a b : (⟨2, ![272, 1024]⟩ : Shape).Idx → α) (x : Fin 544 → Fin 1024 → α)
    (ha : ∀ (r : Fin 272) k, a (ix2 r k) = x ⟨r.val, by omega⟩ k) (hb : ∀ (r : Fin 272) k, b (ix2 r k) = x ⟨272 + r.val, by omega⟩ k) (r : Fin 544) (k : Fin 1024) :
    VecWindow.put (VecWindow.put d ![0, 0] (⟨2, ![272, 1024]⟩ : Shape).size a) ![272, 0] (⟨2, ![272, 1024]⟩ : Shape).size b (ix2 r k) = x r k := by
  by_cases h : r.val < 272
  · refine (put_out _ 272 272 _ r k (by omega)).trans ((put_in _ 0 272 _ r k (by omega) (by omega)).trans ((ha _ k).trans ?_))
    exact congrArg (x · k) (Fin.ext (by show r.val - 0 = r.val; omega))
  · refine (put_in _ 272 272 _ r k (by omega) (by omega)).trans ((hb _ k).trans ?_)
    exact congrArg (x · k) (Fin.ext (by show 272 + (r.val - 272) = r.val; omega))

/-! ## One point's parts of the sums -/

theorem coords1 : ∀ t : Fin cfg0.N, ((grid0.coords t) 1).val = t.val % 4 :=
  (by decide +kernel : ∀ t : Fin grid0.N, ((grid0.coords t) 1).val = t.val % 4)

theorem rl_at (t : Fin cfg0.N) (r : Fin 544) (f : Fin 512) : rl (iblk m c 0 t) (iblk m c 2 t) r f = (args m c).r (row t.val r) (col (t.val / 4) f) := by
  unfold rl
  simp only [iblk0_apply, iblk2_apply]
  rfl

theorem ul_at (t : Fin cfg0.N) (r : Fin 544) (f : Fin 512) :
    ul (iblk m c 0 t) (iblk m c 1 t) (iblk m c 2 t) (iblk m c 3 t) r f = (args m c).u (row t.val r) (col (t.val / 4) f) := by
  unfold ul
  simp only [rl_at, iblk1_apply, iblk3_apply]
  rfl

/-- The parts of point `n`, and of column block `q` for a row. -/
def partU (n : ℕ) (k : Fin 1024) (f : Fin 512) : EReal := ∑ r : Fin 544, (args m c).m (row n r) k * (args m c).u (row n r) (col (n / 4) f)
def partD (n : ℕ) (f : Fin 512) (k : Fin 1024) : EReal :=
  ∑ r : Fin 544, (args m c).r (row n r) (col (n / 4) f) * (args m c).r (row n r) (col (n / 4) f) * (args m c).d (row n r) k
def partM (q : ℕ) (R : Fin 2176) (k : Fin 1024) : EReal := ∑ f : Fin 512, (args m c).u R (col q f) * (args m c).wu k (col q f)
def partG (n : ℕ) (k : Fin 1024) : EReal := ∑ r : Fin 544, (args m c).dm (row n r) k * (args m c).n (row n r) k

variable (S : Vec Ideal S2176x1024 .f32 × Vec Ideal S1024x512 .f32 × Vec Ideal S512x1024 .f32)

theorem accU (n n' : ℕ) (h : n' = n + 1) (hn : n < 32) (k : Fin 1024) (f : Fin 512) : (held3 m c S n').2.1 (ix2 k f)
      = if n % 4 = 0 then partU m c n k f else (held3 m c S n).2.1 (ix2 k f) + partU m c n k f := by
  subst h
  have e := held3_succ m c S ⟨n, lt_of_lt_of_eq hn N_0.symm⟩
  rw [show held3 m c S (n + 1) = _ from e]
  show sumU _ _ _ _ _ _ (ix2 k f) = _
  unfold sumU
  by_cases h0 : n % 4 = 0
  · rw [if_pos ((first7_iff _).mpr h0), if_pos h0, pay24_apply]
    simp only [ul_at, iblk0_apply]
    rfl
  · rw [if_neg (fun h => h0 ((first7_iff _).mp h)), if_neg h0, pay26_apply]
    simp only [ul_at, iblk0_apply]
    rfl

theorem accD (n n' : ℕ) (h : n' = n + 1) (hn : n < 32) (f : Fin 512) (k : Fin 1024) : (held3 m c S n').2.2 (ix2 f k)
      = if n % 4 = 0 then partD m c n f k else (held3 m c S n).2.2 (ix2 f k) + partD m c n f k := by
  subst h
  have e := held3_succ m c S ⟨n, lt_of_lt_of_eq hn N_0.symm⟩
  rw [show held3 m c S (n + 1) = _ from e]
  show sumD _ _ _ _ _ (ix2 f k) = _
  unfold sumD
  by_cases h0 : n % 4 = 0
  · rw [if_pos ((first7_iff _).mpr h0), if_pos h0, pay25_apply]
    simp only [rl_at, iblk1_apply]
    rfl
  · rw [if_neg (fun h => h0 ((first7_iff _).mp h)), if_neg h0, pay27_apply]
    simp only [rl_at, iblk1_apply]
    rfl

/-- Rows and columns of a point by what its number leaves and goes into. -/
theorem row_at (q i : ℕ) (r : Fin 544) : row (4 * q + i) r = row i r := by
  rw [← row_mod, Nat.mul_add_mod, row_mod]

theorem doneU (q : ℕ) (hq : q < 8) (k : Fin 1024) (f : Fin 512) : (held3 m c S (4 * q + 4)).2.1 (ix2 k f) = (args m c).dWu k (col q f) := by
  rw [accU m c S (4 * q + 3) (4 * q + 4) rfl (by omega), if_neg (by omega), accU m c S (4 * q + 2) (4 * q + 3) rfl (by omega), if_neg (by omega),
    accU m c S (4 * q + 1) (4 * q + 2) rfl (by omega), if_neg (by omega), accU m c S (4 * q + 0) (4 * q + 1) rfl (by omega), if_pos (by omega)]
  unfold partU Args.dWu
  rw [sum_rows]
  simp only [row_at]
  rw [show (4 * q + 0) / 4 = q by omega, show (4 * q + 1) / 4 = q by omega, show (4 * q + 2) / 4 = q by omega, show (4 * q + 3) / 4 = q by omega]

theorem doneD (q : ℕ) (hq : q < 8) (f : Fin 512) (k : Fin 1024) : (held3 m c S (4 * q + 4)).2.2 (ix2 f k) = (args m c).dWd (col q f) k := by
  rw [accD m c S (4 * q + 3) (4 * q + 4) rfl (by omega), if_neg (by omega), accD m c S (4 * q + 2) (4 * q + 3) rfl (by omega), if_neg (by omega),
    accD m c S (4 * q + 1) (4 * q + 2) rfl (by omega), if_neg (by omega), accD m c S (4 * q + 0) (4 * q + 1) rfl (by omega), if_pos (by omega)]
  unfold partD Args.dWd
  rw [sum_rows]
  simp only [row_at]
  rw [show (4 * q + 0) / 4 = q by omega, show (4 * q + 1) / 4 = q by omega, show (4 * q + 2) / 4 = q by omega, show (4 * q + 3) / 4 = q by omega]

/-! ## The rows' gradient -/

theorem partM_at (t : Fin cfg0.N) (R : Fin 2176) (r : Fin 544) (hR : R = row t.val r) (k : Fin 1024) :
    k0_pay23 (F := Ideal) (iblk m c 0 t) (iblk m c 1 t) (iblk m c 2 t) (iblk m c 3 t) (iblk m c 2 t) (ix2 r k) = partM m c (t.val / 4) R k := by
  subst hR
  rw [pay23_apply]
  simp only [ul_at, iblk2_apply]
  rfl

theorem accM (n n' : ℕ) (h : n' = n + 1) (hn : n < 32) (R : Fin 2176) (k : Fin 1024) : (held3 m c S n').1 (ix2 R k)
      = if R.val / 544 = n % 4 then (if n < 4 then partM m c (n / 4) R k else (held3 m c S n).1 (ix2 R k) + partM m c (n / 4) R k)
        else (held3 m c S n).1 (ix2 R k) := by
  subst h
  have e := held3_succ m c S ⟨n, lt_of_lt_of_eq hn N_0.symm⟩
  rw [show held3 m c S (n + 1) = _ from e]
  show rows _ _ _ _ _ _ (ix2 R k) = _
  have h1 : ((grid0.coords (⟨n, lt_of_lt_of_eq hn N_0.symm⟩ : Fin cfg0.N)) 1).val = n % 4 := coords1 _
  unfold rows
  by_cases hR : R.val / 544 = n % 4
  · have hr : R.val - 544 * (n % 4) < 544 := by omega
    have eR : R = row n ⟨R.val - 544 * (n % 4), hr⟩ := Fin.ext (by show R.val = n % 4 * 544 + (R.val - 544 * (n % 4)); omega)
    have hM := fun k => partM_at m c (⟨n, lt_of_lt_of_eq hn N_0.symm⟩ : Fin cfg0.N) R ⟨R.val - 544 * (n % 4), hr⟩ eR k
    rw [if_pos hR]
    by_cases h4 : n < 4
    · rw [if_pos ((first4_iff _).mpr h4), if_pos h4]
      simp only [h1]
      refine (put_in _ (544 * (n % 4)) 544 _ R k (by omega) hr).trans ?_
      rw [pay3_apply, hM]
    · rw [if_neg (fun h => h4 ((first4_iff _).mp h)), if_neg h4]
      simp only [h1]
      refine (put_in _ (544 * (n % 4)) 544 _ R k (by omega) hr).trans ?_
      rw [pay4_apply, hM]
      refine congrArg (· + _) (window_apply _ _ _ k R ?_)
      rw [h1]
      show R.val = 544 * (n % 4) + (R.val - 544 * (n % 4))
      omega
  · rw [if_neg hR]
    simp only [h1]
    by_cases h4 : n < 4
    · rw [if_pos ((first4_iff _).mpr h4)]
      exact put_out _ (544 * (n % 4)) 544 _ R k (by omega)
    · rw [if_neg (fun h => h4 ((first4_iff _).mp h))]
      exact put_out _ (544 * (n % 4)) 544 _ R k (by omega)

theorem sumM (R : Fin 2176) (k : Fin 1024) (i : ℕ) (hi : R.val / 544 = i) (n : ℕ) (hn : i + 1 ≤ n) : n ≤ 32 →
    (held3 m c S n).1 (ix2 R k) = ∑ q ∈ Finset.range ((n + 3 - i) / 4), partM m c q R k := by
  have hR := R.isLt
  induction n, hn using Nat.le_induction with
  | base =>
    intro _
    rw [accM m c S i (i + 1) rfl (by omega), if_pos (by omega), if_pos (by omega), show (i + 1 + 3 - i) / 4 = 1 by omega, show i / 4 = 0 by omega]
    simp
  | succ n hn ih =>
    intro h
    rw [accM m c S n (n + 1) rfl (by omega), ih (by omega), hi]
    by_cases hq : i = n % 4
    · rw [if_pos hq, if_neg (by omega), show (n + 1 + 3 - i) / 4 = n / 4 + 1 by omega, show (n + 3 - i) / 4 = n / 4 by omega, Finset.sum_range_succ]
    · rw [if_neg hq, show (n + 1 + 3 - i) / 4 = (n + 3 - i) / 4 by omega]

/-- At the last four points a row block's gradient is the sum over all the columns. -/
theorem doneM (t : Fin cfg0.N) (n : ℕ) (hn : n = t.val + 1) (h : 28 ≤ t.val) (r : Fin 544) (k : Fin 1024) :
    (held3 m c S n).1 (ix2 (row t.val r) k) = (args m c).dm (row t.val r) k := by
  have ht := t_lt t
  have hr : (row t.val r).val / 544 = t.val % 4 := by
    show (t.val % 4 * 544 + r.val) / 544 = t.val % 4
    omega
  rw [sumM m c S _ k _ hr n (by omega) (by omega), show (n + 3 - t.val % 4) / 4 = 8 by omega, Args.dm, sum_cols]
  rfl

/-! ## What the last four points leave -/

/-- Row `r` of half `s` of a row block. -/
def hrow (s : Fin 2) (r : Fin 272) : Fin 544 := ⟨272 * s.val + r.val, by omega⟩

theorem half_at (t : Fin cfg0.N) (n : ℕ) (hn : n = t.val + 1) (h : 28 ≤ t.val) (s : Fin 2) (r : Fin 272) (k : Fin 1024) :
    half (grid0.coords t) s (held3 m c S n).1 (ix2 r k) = (args m c).dm (row t.val (hrow s r)) k := by
  refine Eq.trans (window_apply _ _ r k (row t.val (hrow s r)) ?_) (doneM m c S t n hn h (hrow s r) k)
  rw [coords1]
  show t.val % 4 * 544 + (272 * s.val + r.val) = 544 * (t.val % 4) + 272 * s.val + r.val
  omega

theorem lo_apply (x : S544x1024.Idx → EReal) (r : Fin 272) (k : Fin 1024) : lo (F := Ideal) x (ix2 r k) = x (ix2 (hrow 0 r) k) :=
  window_apply x _ r k (hrow 0 r) rfl
theorem hi_apply (x : S544x1024.Idx → EReal) (r : Fin 272) (k : Fin 1024) : hi (F := Ideal) x (ix2 r k) = x (ix2 (hrow 1 r) k) :=
  window_apply x _ r k (hrow 1 r) rfl

theorem outLo (t : Fin cfg0.N) (n : ℕ) (hn : n = t.val + 1) (h : 28 ≤ t.val) (r : Fin 272) (k : Fin 1024) :
    k0_pay9 (F := Ideal) (half (grid0.coords t) 0 (held3 m c S n).1) (lo (F := Ideal) (iblk m c 4 t)) (iblk m c 5 t) (lo (F := Ideal) (iblk m c 6 t)) (ix2 r k)
      = (args m c).dH (row t.val (hrow 0 r)) k := by
  rw [pay9_apply]
  simp only [lo_apply, half_at m c S t n hn h, iblk4_apply m c t h, iblk5_apply, iblk6_apply m c t h]
  rfl

theorem outHi (t : Fin cfg0.N) (n : ℕ) (hn : n = t.val + 1) (h : 28 ≤ t.val) (r : Fin 272) (k : Fin 1024) :
    k0_pay9 (F := Ideal) (half (grid0.coords t) 1 (held3 m c S n).1) (hi (F := Ideal) (iblk m c 4 t)) (iblk m c 5 t) (hi (F := Ideal) (iblk m c 6 t)) (ix2 r k)
      = (args m c).dH (row t.val (hrow 1 r)) k := by
  rw [pay9_apply]
  simp only [hi_apply, half_at m c S t n hn h, iblk4_apply m c t h, iblk5_apply, iblk6_apply m c t h]
  rfl

theorem hrow0 (r : Fin 272) : hrow 0 r = ⟨r.val, by omega⟩ := Fin.ext (by show 272 * 0 + r.val = r.val; omega)

theorem outH_apply (t : Fin cfg0.N) (n : ℕ) (hn : n = t.val + 1) (h : 28 ≤ t.val) (d : S544x1024.Idx → EReal) (r : Fin 544) (k : Fin 1024) :
    outH (F := Ideal) d (grid0.coords t) (held3 m c S n).1 (iblk m c 4 t) (iblk m c 5 t) (iblk m c 6 t) (ix2 r k) = (args m c).dH (row t.val r) k :=
  halves d _ _ (fun r k => (args m c).dH (row t.val r) k) (fun r k => by rw [outLo m c S t n hn h, hrow0])
    (fun r k => by rw [pay14_eq, outHi m c S t n hn h]; rfl) r k

theorem outB_apply (t : Fin cfg0.N) (n : ℕ) (hn : n = t.val + 1) (h : 28 ≤ t.val) (d : S544x1024.Idx → EReal) (r : Fin 544) (k : Fin 1024) :
    outB (F := Ideal) d (grid0.coords t) (held3 m c S n).1 (iblk m c 4 t) (iblk m c 5 t) (iblk m c 6 t) (ix2 r k) = (args m c).dH (row t.val r) k :=
  halves d _ _ (fun r k => (args m c).dH (row t.val r) k) (fun r k => by rw [pay11_apply, outLo m c S t n hn h, hrow0])
    (fun r k => by rw [pay15_apply, outHi m c S t n hn h]; rfl) r k

theorem part_apply (t : Fin cfg0.N) (n : ℕ) (hn : n = t.val + 1) (h : 28 ≤ t.val) (k : Fin 1024) :
    part (F := Ideal) (grid0.coords t) (held3 m c S n).1 (iblk m c 4 t) (ix2 0 k) = partG m c t.val k := by
  unfold part partG
  rw [pay16_apply, pay10_apply, Fin.sum_univ_two_halves 272 272 (N := 544) rfl]
  simp only [lo_apply, hi_apply, half_at m c S t n hn h, iblk4_apply m c t h, hrow0]
  rfl

theorem gain_apply (n : ℕ) (hn : n < 4) (X : S1x1024.Idx → EReal) (h : Gain m c n X) (k : Fin 1024) :
    X (ix2 0 k) = ∑ i ∈ Finset.range (n + 1), partG m c (28 + i) k := by
  induction n generalizing X with
  | zero =>
    obtain ⟨S, g, rfl⟩ := h
    have e : (pt 28).val = 28 := rfl
    unfold sumG
    rw [if_pos ((first7_iff _).mpr (by rw [e])), part_apply m c S (pt 28) 29 rfl (by rw [e])]
    simp [e]
  | succ n ih =>
    obtain ⟨S, g, hg, rfl⟩ := h
    have e : (pt (29 + n)).val = 29 + n := Nat.mod_eq_of_lt (by omega)
    unfold sumG
    rw [if_neg (fun h => by have := (first7_iff _).mp h; omega), pay5_apply, ih (by omega) g hg,
      part_apply m c S (pt (29 + n)) (30 + n) (by omega) (by omega), Finset.sum_range_succ _ (n + 1), e, show 29 + n = 28 + (n + 1) by omega]

theorem doneG (X : S1x1024.Idx → EReal) (h : Gain m c 3 X) (k : Fin 1024) : X (ix2 0 k) = (args m c).dG k := by
  rw [gain_apply m c 3 (by omega) X h k, Args.dG, sum_rows]
  simp only [Finset.sum_range_succ, Finset.sum_range_zero, zero_add, partG]
  rfl

end Cert.Kernel5Ideal.Mlp
-- ==== Proof.MlpArr.lean ====
module

public import proofs.«01_k».proof.Proof.MlpAcc

@[expose] public section

set_option maxRecDepth 16384

noncomputable section

namespace Cert.Kernel5Ideal.Mlp

open Cert.Kernel5Ideal Cert.Kernel5Ideal.Gen Cert.Mlp
open Idealize.ShloMosaic Idealize.ShloMosaic.TcCoe Idealize.ShloMosaic.Tactic Idealize.SL.Sem Idealize.ShloMosaic.StableHlo

variable (m : (ℓ : Loc nD τ sig) → Buf (Elt Ideal) ℓ) (c : Dev nD)

/-! # The result arrays, entry by entry -/

theorem left7 (t : Fin cfg0.N) {X} (h : (rdats m c).Leaves 7 t X) (ht : t.val % 4 = 3) (k : Fin 1024) (f : Fin 512) :
    (X : S1x1024x512.Idx → EReal) (ix3 0 k f) = (args m c).dWu k (col (t.val / 4) f) := by
  obtain ⟨S, rfl⟩ := (dats m 0 c).toRRel_leaves (fgt := held) (Rl := Meets m c) (w := 7) rfl h ht
  have := t_lt t
  refine (pay1_apply _ k f).trans ?_
  rw [show t.val + 1 = 4 * (t.val / 4) + 4 by omega]
  exact doneU m c S _ (by omega) k f

theorem left8 (t : Fin cfg0.N) {X} (h : (rdats m c).Leaves 8 t X) (ht : t.val % 4 = 3) (f : Fin 512) (k : Fin 1024) :
    (X : S1x512x1024.Idx → EReal) (ix3 0 f k) = (args m c).dWd (col (t.val / 4) f) k := by
  obtain ⟨S, rfl⟩ := (dats m 0 c).toRRel_leaves (fgt := held) (Rl := Meets m c) (w := 8) rfl h ht
  have := t_lt t
  refine (pay2_apply _ f k).trans ?_
  rw [show t.val + 1 = 4 * (t.val / 4) + 4 by omega]
  exact doneD m c S _ (by omega) f k

theorem left9 (t : Fin cfg0.N) {X} (h : (rdats m c).Leaves 9 t X) (ht : 28 ≤ t.val) (r : Fin 544) (k : Fin 1024) :
    (X : S544x1024.Idx → EReal) (ix2 r k) = (args m c).dH (row t.val r) k := by
  obtain ⟨S, d, rfl⟩ := (dats m 0 c).toRRel_leaves (fgt := held) (Rl := Meets m c) (w := 9) rfl h ht
  exact outH_apply m c S t _ rfl ht d r k

theorem left10 (t : Fin cfg0.N) {X} (h : (rdats m c).Leaves 10 t X) (ht : 28 ≤ t.val) (r : Fin 544) (k : Fin 1024) :
    (X : S544x1024.Idx → EReal) (ix2 r k) = (args m c).dH (row t.val r) k := by
  obtain ⟨S, d, rfl⟩ := (dats m 0 c).toRRel_leaves (fgt := held) (Rl := Meets m c) (w := 10) rfl h ht
  exact outB_apply m c S t _ rfl ht d r k

theorem left11 (t : Fin cfg0.N) {X} (h : (rdats m c).Leaves 11 t X) (ht : t.val = 31) (k : Fin 1024) :
    (X : S1x1024.Idx → EReal) (ix2 0 k) = (args m c).dG k := by
  have g := (dats m 0 c).toRRel_leaves (fgt := held) (Rl := Meets m c) (w := 11) rfl h (show 28 ≤ t.val by omega)
  rw [show t.val - 28 = 3 by omega] at g
  exact doneG m c X g k

theorem cover7 : (cfg0.win 7).Covers := by decide +kernel
theorem cover8 : (cfg0.win 8).Covers := by decide +kernel
theorem cover9 : (cfg0.win 9).Covers := by decide +kernel
theorem cover10 : (cfg0.win 10).Covers := by decide +kernel
theorem cover11 : (cfg0.win 11).Covers := by decide +kernel

theorem flush9 : ∀ t : Fin cfg0.N, (cfg0.win 9).flush t = true → 28 ≤ t.val :=
  (by decide +kernel : ∀ t : Fin grid0.N, (cfg0.win 9).flush t = true → 28 ≤ t.val)
theorem flush10 : ∀ t : Fin cfg0.N, (cfg0.win 10).flush t = true → 28 ≤ t.val :=
  (by decide +kernel : ∀ t : Fin grid0.N, (cfg0.win 10).flush t = true → 28 ≤ t.val)
theorem flush11 (t : Fin cfg0.N) (h : (cfg0.win 11).flush t = true) : t.val = 31 := by
  have := (flush0_11 _).mp h
  have := t_lt t
  omega

variable {m} {r : PUnit × MemSt nD τ sig (Elt Ideal)}

theorem arr7 (h : Pipeline.RDat.FramePost (cfgs 0) (rdats m) (V m) r) (j : Fin 8) (k : Fin 1024) (f : Fin 512) :
    r.2.mem ((c : Thread nD τ).loc main_v19_0) (ix3 j k f) = (args m c).dWu k (col j.val f) := by
  obtain ⟨after, hL, hA⟩ := h.exists_exact c
  refine (congrFun (hA 7) (ix3 j k f)).trans ?_
  refine Pipeline.Dat.arrAt_forall_of_covers (cfg := cfg0) ((rdats m c).withAfter after) 7
    (fun (i : S8x1024x512.Idx) (v : EReal) => v = (args m c).dWu (i 1) (col (i 0).val (i 2))) cover7 (fun t hf y => ?_) (ix3 j k f)
  rw [cast_eq, Pipeline.RDat.withAfter_after]
  have e := left7 m c t (hL 7 t hf) ((flush0_7 _).mp hf) (⟨(y 1).val, (y 1).isLt⟩ : Fin 1024) (⟨(y 2).val, (y 2).isLt⟩ : Fin 512)
  have y0 : (y 0).val = 0 := by have : (y 0).val < 1 := (y 0).isLt; omega
  have a0 : ((((cfg0.win 7).blk t).view.emb y : S8x1024x512.Idx) 0).val = t.val / 4 := by
    refine (Pipeline.Window.rect_emb_val (cfg0.win 7) t y 0 rfl).trans ?_
    rw [y0]
    exact blk_of (index7 t)
  have a1 : ((((cfg0.win 7).blk t).view.emb y : S8x1024x512.Idx) 1) = (⟨(y 1).val, (y 1).isLt⟩ : Fin 1024) :=
    Fin.ext ((Pipeline.Window.rect_emb_val (cfg0.win 7) t y 1 rfl).trans (zero1_of (index7 t) (⟨(y 1).val, (y 1).isLt⟩ : Fin 1024)))
  have a2 : ((((cfg0.win 7).blk t).view.emb y : S8x1024x512.Idx) 2) = (⟨(y 2).val, (y 2).isLt⟩ : Fin 512) :=
    Fin.ext ((Pipeline.Window.rect_emb_val (cfg0.win 7) t y 2 rfl).trans (zero2_of (index7 t) (⟨(y 2).val, (y 2).isLt⟩ : Fin 512)))
  have ey : ((cfg0.win 7).xinj (cfg0.grid.coords t) y : S1x1024x512.Idx) = ix3 0 (⟨(y 1).val, (y 1).isLt⟩ : Fin 1024) (⟨(y 2).val, (y 2).isLt⟩ : Fin 512) := by
    refine funext fun x => Fin.ext ?_
    match x with
    | ⟨0, _⟩ => exact y0
    | ⟨1, _⟩ => rfl
    | ⟨2, _⟩ => rfl
  have eY : after 7 t ((cfg0.win 7).xinj (cfg0.grid.coords t) y) = after 7 t (ix3 0 (⟨(y 1).val, (y 1).isLt⟩ : Fin 1024) (⟨(y 2).val, (y 2).isLt⟩ : Fin 512)) := congrArg (after 7 t) ey
  show after 7 t ((cfg0.win 7).xinj (cfg0.grid.coords t) y)
    = (args m c).dWu ((((cfg0.win 7).blk t).view.emb y : S8x1024x512.Idx) 1) (col ((((cfg0.win 7).blk t).view.emb y : S8x1024x512.Idx) 0).val ((((cfg0.win 7).blk t).view.emb y : S8x1024x512.Idx) 2))
  rw [eY, a0, a1, a2]
  exact e

theorem arr8 (h : Pipeline.RDat.FramePost (cfgs 0) (rdats m) (V m) r) (j : Fin 8) (f : Fin 512) (k : Fin 1024) :
    r.2.mem ((c : Thread nD τ).loc main_v19_1) (ix3 j f k) = (args m c).dWd (col j.val f) k := by
  obtain ⟨after, hL, hA⟩ := h.exists_exact c
  refine (congrFun (hA 8) (ix3 j f k)).trans ?_
  refine Pipeline.Dat.arrAt_forall_of_covers (cfg := cfg0) ((rdats m c).withAfter after) 8
    (fun (i : S8x512x1024.Idx) (v : EReal) => v = (args m c).dWd (col (i 0).val (i 1)) (i 2)) cover8 (fun t hf y => ?_) (ix3 j f k)
  rw [cast_eq, Pipeline.RDat.withAfter_after]
  have e := left8 m c t (hL 8 t hf) ((flush0_8 _).mp hf) (⟨(y 1).val, (y 1).isLt⟩ : Fin 512) (⟨(y 2).val, (y 2).isLt⟩ : Fin 1024)
  have y0 : (y 0).val = 0 := by have : (y 0).val < 1 := (y 0).isLt; omega
  have a0 : ((((cfg0.win 8).blk t).view.emb y : S8x512x1024.Idx) 0).val = t.val / 4 := by
    refine (Pipeline.Window.rect_emb_val (cfg0.win 8) t y 0 rfl).trans ?_
    rw [y0]
    exact blk_of (index8 t)
  have a1 : ((((cfg0.win 8).blk t).view.emb y : S8x512x1024.Idx) 1) = (⟨(y 1).val, (y 1).isLt⟩ : Fin 512) :=
    Fin.ext ((Pipeline.Window.rect_emb_val (cfg0.win 8) t y 1 rfl).trans (zero1_of (index8 t) (⟨(y 1).val, (y 1).isLt⟩ : Fin 512)))
  have a2 : ((((cfg0.win 8).blk t).view.emb y : S8x512x1024.Idx) 2) = (⟨(y 2).val, (y 2).isLt⟩ : Fin 1024) :=
    Fin.ext ((Pipeline.Window.rect_emb_val (cfg0.win 8) t y 2 rfl).trans (zero2_of (index8 t) (⟨(y 2).val, (y 2).isLt⟩ : Fin 1024)))
  have ey : ((cfg0.win 8).xinj (cfg0.grid.coords t) y : S1x512x1024.Idx) = ix3 0 (⟨(y 1).val, (y 1).isLt⟩ : Fin 512) (⟨(y 2).val, (y 2).isLt⟩ : Fin 1024) := by
    refine funext fun x => Fin.ext ?_
    match x with
    | ⟨0, _⟩ => exact y0
    | ⟨1, _⟩ => rfl
    | ⟨2, _⟩ => rfl
  have eY : after 8 t ((cfg0.win 8).xinj (cfg0.grid.coords t) y) = after 8 t (ix3 0 (⟨(y 1).val, (y 1).isLt⟩ : Fin 512) (⟨(y 2).val, (y 2).isLt⟩ : Fin 1024)) := congrArg (after 8 t) ey
  show after 8 t ((cfg0.win 8).xinj (cfg0.grid.coords t) y)
    = (args m c).dWd (col ((((cfg0.win 8).blk t).view.emb y : S8x512x1024.Idx) 0).val ((((cfg0.win 8).blk t).view.emb y : S8x512x1024.Idx) 1)) ((((cfg0.win 8).blk t).view.emb y : S8x512x1024.Idx) 2)
  rw [eY, a0, a1, a2]
  exact e

theorem arr9 (h : Pipeline.RDat.FramePost (cfgs 0) (rdats m) (V m) r) (R : Fin 2176) (k : Fin 1024) :
    r.2.mem ((c : Thread nD τ).loc main_v19_2) (ix2 R k) = (args m c).dH R k := by
  obtain ⟨after, hL, hA⟩ := h.exists_exact c
  refine (congrFun (hA 9) (ix2 R k)).trans ?_
  refine Pipeline.Dat.arrAt_forall_of_covers (cfg := cfg0) ((rdats m c).withAfter after) 9
    (fun (i : S2176x1024.Idx) (v : EReal) => v = (args m c).dH (i 0) (i 1)) cover9 (fun t hf y => ?_) (ix2 R k)
  rw [cast_eq, Pipeline.RDat.withAfter_after]
  have e := left9 m c t (hL 9 t hf) (flush9 t hf) (⟨(y 0).val, (y 0).isLt⟩ : Fin 544) (⟨(y 1).val, (y 1).isLt⟩ : Fin 1024)
  have a0 : ((((cfg0.win 9).blk t).view.emb y : S2176x1024.Idx) 0) = row t.val (⟨(y 0).val, (y 0).isLt⟩ : Fin 544) :=
    Fin.ext ((Pipeline.Window.rect_emb_val (cfg0.win 9) t y 0 rfl).trans (row_of (index9 t (flush9 t hf)) (⟨(y 0).val, (y 0).isLt⟩ : Fin 544)))
  have a1 : ((((cfg0.win 9).blk t).view.emb y : S2176x1024.Idx) 1) = (⟨(y 1).val, (y 1).isLt⟩ : Fin 1024) :=
    Fin.ext ((Pipeline.Window.rect_emb_val (cfg0.win 9) t y 1 rfl).trans (zero_of (index9 t (flush9 t hf)) (⟨(y 1).val, (y 1).isLt⟩ : Fin 1024)))
  have ey : ((cfg0.win 9).xinj (cfg0.grid.coords t) y : S544x1024.Idx) = ix2 (⟨(y 0).val, (y 0).isLt⟩ : Fin 544) (⟨(y 1).val, (y 1).isLt⟩ : Fin 1024) := Shape.idx_ext₂ rfl rfl
  have eY : after 9 t ((cfg0.win 9).xinj (cfg0.grid.coords t) y) = after 9 t (ix2 (⟨(y 0).val, (y 0).isLt⟩ : Fin 544) (⟨(y 1).val, (y 1).isLt⟩ : Fin 1024)) := congrArg (after 9 t) ey
  show after 9 t ((cfg0.win 9).xinj (cfg0.grid.coords t) y)
    = (args m c).dH ((((cfg0.win 9).blk t).view.emb y : S2176x1024.Idx) 0) ((((cfg0.win 9).blk t).view.emb y : S2176x1024.Idx) 1)
  rw [eY, a0, a1]
  exact e

theorem arr10 (h : Pipeline.RDat.FramePost (cfgs 0) (rdats m) (V m) r) (R : Fin 2176) (k : Fin 1024) :
    r.2.mem ((c : Thread nD τ).loc main_v19_3) (ix2 R k) = (args m c).dH R k := by
  obtain ⟨after, hL, hA⟩ := h.exists_exact c
  refine (congrFun (hA 10) (ix2 R k)).trans ?_
  refine Pipeline.Dat.arrAt_forall_of_covers (cfg := cfg0) ((rdats m c).withAfter after) 10
    (fun (i : S2176x1024.Idx) (v : EReal) => v = (args m c).dH (i 0) (i 1)) cover10 (fun t hf y => ?_) (ix2 R k)
  rw [cast_eq, Pipeline.RDat.withAfter_after]
  have e := left10 m c t (hL 10 t hf) (flush10 t hf) (⟨(y 0).val, (y 0).isLt⟩ : Fin 544) (⟨(y 1).val, (y 1).isLt⟩ : Fin 1024)
  have a0 : ((((cfg0.win 10).blk t).view.emb y : S2176x1024.Idx) 0) = row t.val (⟨(y 0).val, (y 0).isLt⟩ : Fin 544) :=
    Fin.ext ((Pipeline.Window.rect_emb_val (cfg0.win 10) t y 0 rfl).trans (row_of (index10 t (flush10 t hf)) (⟨(y 0).val, (y 0).isLt⟩ : Fin 544)))
  have a1 : ((((cfg0.win 10).blk t).view.emb y : S2176x1024.Idx) 1) = (⟨(y 1).val, (y 1).isLt⟩ : Fin 1024) :=
    Fin.ext ((Pipeline.Window.rect_emb_val (cfg0.win 10) t y 1 rfl).trans (zero_of (index10 t (flush10 t hf)) (⟨(y 1).val, (y 1).isLt⟩ : Fin 1024)))
  have ey : ((cfg0.win 10).xinj (cfg0.grid.coords t) y : S544x1024.Idx) = ix2 (⟨(y 0).val, (y 0).isLt⟩ : Fin 544) (⟨(y 1).val, (y 1).isLt⟩ : Fin 1024) := Shape.idx_ext₂ rfl rfl
  have eY : after 10 t ((cfg0.win 10).xinj (cfg0.grid.coords t) y) = after 10 t (ix2 (⟨(y 0).val, (y 0).isLt⟩ : Fin 544) (⟨(y 1).val, (y 1).isLt⟩ : Fin 1024)) := congrArg (after 10 t) ey
  show after 10 t ((cfg0.win 10).xinj (cfg0.grid.coords t) y)
    = (args m c).dH ((((cfg0.win 10).blk t).view.emb y : S2176x1024.Idx) 0) ((((cfg0.win 10).blk t).view.emb y : S2176x1024.Idx) 1)
  rw [eY, a0, a1]
  exact e

theorem arr11 (h : Pipeline.RDat.FramePost (cfgs 0) (rdats m) (V m) r) (R : Fin 1) (k : Fin 1024) :
    r.2.mem ((c : Thread nD τ).loc main_v19_4) (ix2 R k) = (args m c).dG k := by
  obtain ⟨after, hL, hA⟩ := h.exists_exact c
  refine (congrFun (hA 11) (ix2 R k)).trans ?_
  refine Pipeline.Dat.arrAt_forall_of_covers (cfg := cfg0) ((rdats m c).withAfter after) 11
    (fun (i : S1x1024.Idx) (v : EReal) => v = (args m c).dG (i 1)) cover11 (fun t hf y => ?_) (ix2 R k)
  rw [cast_eq, Pipeline.RDat.withAfter_after]
  have e := left11 m c t (hL 11 t hf) (flush11 t hf) (⟨(y 1).val, (y 1).isLt⟩ : Fin 1024)
  have a1 : ((((cfg0.win 11).blk t).view.emb y : S1x1024.Idx) 1) = (⟨(y 1).val, (y 1).isLt⟩ : Fin 1024) :=
    Fin.ext ((Pipeline.Window.rect_emb_val (cfg0.win 11) t y 1 rfl).trans (zero_of (index11 t) (⟨(y 1).val, (y 1).isLt⟩ : Fin 1024)))
  have ey : ((cfg0.win 11).xinj (cfg0.grid.coords t) y : S1x1024.Idx) = ix2 0 (⟨(y 1).val, (y 1).isLt⟩ : Fin 1024) :=
    Shape.idx_ext₂ (by show (y 0).val = 0; have : (y 0).val < 1 := (y 0).isLt; omega) rfl
  have eY : after 11 t ((cfg0.win 11).xinj (cfg0.grid.coords t) y) = after 11 t (ix2 0 (⟨(y 1).val, (y 1).isLt⟩ : Fin 1024)) := congrArg (after 11 t) ey
  show after 11 t ((cfg0.win 11).xinj (cfg0.grid.coords t) y) = (args m c).dG ((((cfg0.win 11).blk t).view.emb y : S1x1024.Idx) 1)
  rw [eY, a1]
  exact e

end Cert.Kernel5Ideal.Mlp
-- ==== Proof.MlpR.lean ====
module

public import proofs.«01_k».proof.Proof.Gen.Reference5Ideal.Read
public import proofs.«01_k».proof.Proof.MlpSpec
public import Idealize.ShloMosaic.Lib.Pointwise

@[expose] public section

set_option maxRecDepth 16384

noncomputable section

namespace Cert.Reference5Ideal.Mlp

open Cert.Reference5Ideal Cert.Reference5Ideal.Gen Cert.Reference5Ideal.Read Cert.Mlp
open Idealize.ShloMosaic Idealize.ShloMosaic.TcCoe Idealize.ShloMosaic.Tactic

/-! # The reference's operations, entry by entry -/

variable (x0 : S2176x1024.Idx → EReal) (x1 : S1x1024.Idx → EReal) (x2 : S1024x4096.Idx → EReal) (x3 : S4096x1024.Idx → EReal) (x4 : S2176x1024.Idx → EReal)

/-- The arguments, as functions of a row and a column. -/
def args : Args where
  h R k := x0 (ix2 R k)
  gain k := x1 (ix2 0 k)
  wu k f := x2 (ix2 k f)
  wd f k := x3 (ix2 f k)
  d R k := x4 (ix2 R k)

theorem t6 (R : Fin 2176) : val_main_v6 (F := Ideal) x0 (ix2 R 0) = ms ((args x0 x1 x2 x3 x4).h R) := by
  pointwise [val_main_v6, val_main_v5, val_main_cst_1, val_main_v4, val_main_v3, val_main_cst_0, val_main_v2, val_main_v1, val_main_cst, val_main_v0]
  rfl

theorem t7 (R : Fin 2176) : val_main_v7 (F := Ideal) x0 (ix2 R 0) = rs ((args x0 x1 x2 x3 x4).h R) := by
  pointwise [val_main_v7]
  rw [t6 x0 x1 x2 x3 x4 R]; rfl

theorem t12 (R : Fin 2176) (k : Fin 1024) : val_main_v12 (F := Ideal) x0 (ix2 R k) = (args x0 x1 x2 x3 x4).n R k := by
  pointwise [val_main_v12, val_main_v11]
  rw [t7 x0 x1 x2 x3 x4 R]; rfl

theorem t14 (R : Fin 2176) (k : Fin 1024) : val_main_v14 (F := Ideal) x0 x1 (ix2 R k) = (args x0 x1 x2 x3 x4).m R k := by
  pointwise [val_main_v14, val_main_v13]
  rw [t12 x0 x1 x2 x3 x4 R k]; rfl

theorem t15 (R : Fin 2176) (f : Fin 4096) : val_main_v15 (F := Ideal) x0 x1 x2 (ix2 R f)
      = ∑ k : Fin 1024, (args x0 x1 x2 x3 x4).m R k * (args x0 x1 x2 x3 x4).wu k f := by
  pointwise [val_main_v15]
  simp only [t14 x0 x1 x2 x3 x4]; rfl

theorem t16 (R : Fin 2176) (f : Fin 4096) : val_main_v16 (F := Ideal) x0 x1 x2 (ix2 R f) = (args x0 x1 x2 x3 x4).r R f := by
  pointwise [val_main_v16, val_main_call0_v0, val_main_call0_cst]
  rw [t15 x0 x1 x2 x3 x4 R f]; rfl

/-- Where the up projection is not above zero, its cut is zero, and so is the product. -/
theorem t31 (R : Fin 2176) (f : Fin 4096) : val_main_v31 (F := Ideal) x0 x1 x2 x3 x4 (ix2 R f) = (args x0 x1 x2 x3 x4).u R f := by
  pointwise [val_main_v31, val_main_v30, val_main_cst_6, val_main_v29, val_main_v28, val_main_v25, val_main_v22, val_main_v21, val_main_cst_5, val_main_v18, val_main_v17, val_main_cst_3]
  rw [t15 x0 x1 x2 x3 x4 R f, t16 x0 x1 x2 x3 x4 R f]
  unfold Args.u Args.r
  generalize (∑ k : Fin 1024, (args x0 x1 x2 x3 x4).m R k * (args x0 x1 x2 x3 x4).wu k f) = y
  by_cases hy : 0 < y
  · rw [if_pos hy]; rfl
  · rw [if_neg hy, max_eq_right (not_lt.mp hy), mul_zero, mul_zero]

theorem t26 (k : Fin 1024) (f : Fin 4096) : val_main_v26 (F := Ideal) x0 x1 x2 x4 (ix2 k f) = (args x0 x1 x2 x3 x4).dWd f k := by
  pointwise [val_main_v26, val_main_v25, val_main_v20]
  simp only [t16 x0 x1 x2 x3 x4]
  exact Finset.sum_congr rfl fun R _ => mul_comm _ _

theorem t32 (f : Fin 4096) (k : Fin 1024) : val_main_v32 (F := Ideal) x0 x1 x2 x3 x4 (ix2 f k) = (args x0 x1 x2 x3 x4).dWu k f := by
  pointwise [val_main_v32]
  simp only [t31 x0 x1 x2 x3 x4, t14 x0 x1 x2 x3 x4]
  exact Finset.sum_congr rfl fun R _ => mul_comm _ _

theorem t34 (R : Fin 2176) (k : Fin 1024) : val_main_v34 (F := Ideal) x0 x1 x2 x3 x4 (ix2 R k) = (args x0 x1 x2 x3 x4).dm R k := by
  pointwise [val_main_v34]
  simp only [t31 x0 x1 x2 x3 x4]; rfl

theorem t37 (k : Fin 1024) : val_main_v37 (F := Ideal) x0 x1 x2 x3 x4 (ix2 0 k) = (args x0 x1 x2 x3 x4).dG k := by
  pointwise [val_main_v37, val_main_v36, val_main_cst_7, val_main_v35]
  simp only [t12 x0 x1 x2 x3 x4, t34 x0 x1 x2 x3 x4]
  exact Finset.sum_congr rfl fun R _ => mul_comm _ _

theorem t54 (R : Fin 2176) (k : Fin 1024) : val_main_v54 (F := Ideal) x0 x1 x2 x3 x4 (ix2 R k) = (args x0 x1 x2 x3 x4).dH R k := by
  unfold Args.dH
  rw [dRow_eq]
  pointwise [val_main_v54, val_main_v53, val_main_v52, val_main_v51, val_main_v50, val_main_v49, val_main_cst_10, val_main_v48, val_main_v47, val_main_cst_9, val_main_v46, val_main_v45, val_main_v44, val_main_v43, val_main_v42, val_main_v41, val_main_cst_8, val_main_v40, val_main_v39, val_main_v38, val_main_v10, val_main_v9, val_main_cst_2, val_main_v8]
  simp only [Fin.sum_univ_one, t6 x0 x1 x2 x3 x4, t7 x0 x1 x2 x3 x4, t34 x0 x1 x2 x3 x4]
  rfl

theorem t60 (R : Fin 2176) (k : Fin 1024) : val_main_v60 (F := Ideal) x0 x1 x2 x3 x4 (ix2 R k) = (args x0 x1 x2 x3 x4).dH R k := by
  pointwise [val_main_v60]
  exact t54 x0 x1 x2 x3 x4 R k

theorem t57 (j : Fin 8) (k : Fin 1024) (f : Fin 512) : val_main_v57 (F := Ideal) x0 x1 x2 x3 x4 (ix3 j k f) = (args x0 x1 x2 x3 x4).dWu k (col j.val f) := by
  pointwise [val_main_v57, val_main_v56, val_main_v55, val_main_v33]
  rw [col_of]
  exact t32 x0 x1 x2 x3 x4 _ k

theorem t59 (j : Fin 8) (f : Fin 512) (k : Fin 1024) : val_main_v59 (F := Ideal) x0 x1 x2 x4 (ix3 j f k) = (args x0 x1 x2 x3 x4).dWd (col j.val f) k := by
  pointwise [val_main_v59, val_main_v58, val_main_v27]
  rw [col_of]
  exact t26 x0 x1 x2 x3 x4 k _

end Cert.Reference5Ideal.Mlp
-- ==== Proof.MlpEnd.lean ====
module

public import proofs.«01_k».proof.Defs
public import proofs.«01_k».proof.Proof.Gen.Kernel5
public import proofs.«01_k».proof.Proof.Gen.Reference5Ideal.Run
public import proofs.«01_k».proof.Proof.MlpArr
public import proofs.«01_k».proof.Proof.MlpR
public import Idealize.ShloMosaic.Lib.KernelVsHost

@[expose] public section

set_option maxRecDepth 16384

noncomputable section

namespace Cert.Kernel5Ideal.Mlp

open Cert.Kernel5Ideal Cert.Kernel5Ideal.Gen Cert.Mlp
open Idealize.ShloMosaic Idealize.ShloMosaic.TcCoe Idealize.ShloMosaic.Tactic Idealize.SL.Sem Idealize.ShloMosaic.StableHlo

/-! # The certificate's claims -/

section
variable {F : FTy → Type} [FloatOps F] (m : (ℓ : Loc nD τ sig) → Buf (Elt F) ℓ) (ρ : Dev nD → PrngReg)

/-- The arguments end as they were. -/
def Kept (r : PUnit × MemSt nD τ sig (Elt F)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)

theorem kept_of (r : PUnit × MemSt nD τ sig (Elt F)) (h : Pipeline.RDat.FramePost (cfgs 0) (rdats m) (V m) r) (c : Dev nD) : Kept m r c :=
  ⟨(Pipeline.RDat.FramePost.arr_in h c 4 rfl).trans ((A_eq m c 4).trans (V_main_arg0 m c)),
    (Pipeline.RDat.FramePost.arr_in h c 5 rfl).trans ((A_eq m c 5).trans (V_main_arg1 m c)),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    (Pipeline.RDat.FramePost.arr_in h c 6 rfl).trans ((A_eq m c 6).trans (V_main_arg4 m c))⟩

theorem frame : θ_run (defs (F := F)) (onTc (τ := τ) (main (F := F))) ⟨m, fun _ => 0, ρ⟩ (fun r => (∀ c, Kept m r c) ∧ r.2.sem = fun _ => 0) :=
  (θ_run defs _ _).mono (fun r h => ⟨kept_of m r h.1, h.2⟩) (run_main m ρ)

end

/-! ## What the results hold, as arrays -/

def outU (A : Args) : S8x1024x512.Idx → EReal := fun i => A.dWu (i 1) (col (i 0).val (i 2))
def outD (A : Args) : S8x512x1024.Idx → EReal := fun i => A.dWd (col (i 0).val (i 1)) (i 2)
def outR (A : Args) : S2176x1024.Idx → EReal := fun i => A.dH (i 0) (i 1)
def outN (A : Args) : S1x1024.Idx → EReal := fun i => A.dG (i 1)

theorem frame_ref : Cert.quiescent_Reference5Ideal := fun m ρ _ =>
  (θ_run Cert.Reference5Ideal.defs _ _).mono (fun r h => ⟨fun c => (h c).2.2.2.2.2, sem_eq_zero_of_no_sems (by decide) r.2⟩)
    (Cert.Reference5Ideal.Value.run (F := Ideal) m ρ)

theorem algebraic : Cert.algebraic_Kernel5Ideal_Reference5Ideal := by
  intro m g m' g' _ hm
  refine ⟨fun c => outU (args m c), fun c => outD (args m c), fun c => outR (args m c), fun c => outR (args m c), fun c => outN (args m c), ?_, ?_⟩
  · refine (θ_run _ _ _).mono (fun r h c => ⟨funext fun i => ?_, funext fun i => ?_, funext fun i => ?_, funext fun i => ?_, funext fun i => ?_, kept_of m r h.1 c⟩) (run_main m g)
    · exact (congrArg _ (eq_ix3 i)).trans (arr7 c h.1 (i 0) (i 1) (i 2))
    · exact (congrArg _ (eq_ix3 i)).trans (arr8 c h.1 (i 0) (i 1) (i 2))
    · exact (congrArg _ (eq_ix2 i)).trans (arr9 c h.1 (i 0) (i 1))
    · exact (congrArg _ (eq_ix2 i)).trans (arr10 c h.1 (i 0) (i 1))
    · exact (congrArg _ (eq_ix2 i)).trans (arr11 c h.1 (i 0) (i 1))
  · refine (θ_run _ _ _).mono (fun r h c => ?_) (Cert.Reference5Ideal.Value.run m' g')
    obtain ⟨e0, e1, e2, e3, e4⟩ := hm c
    obtain ⟨h57, h59, h54, h60, h37, k0, k1, k2, k3, k4⟩ := h c
    have eA : Cert.Reference5Ideal.Mlp.args (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) = args m c := by
      rw [e0, e1, e2, e3, e4]; rfl
    refine ⟨funext fun i => ?_, funext fun i => ?_, funext fun i => ?_, funext fun i => ?_, funext fun i => ?_, k0, k1, k2, k3, k4⟩
    · refine (congrFun (h57.trans (Cert.Reference5Ideal.Read.val_main_v57_eq _ _ _ _ _)) i).trans ?_
      refine (congrArg _ (eq_ix3 i)).trans ((Cert.Reference5Ideal.Mlp.t57 _ _ _ _ _ (i 0) (i 1) (i 2)).trans ?_)
      rw [eA]; rfl
    · refine (congrFun (h59.trans (Cert.Reference5Ideal.Read.val_main_v59_eq _ _ _ _)) i).trans ?_
      refine (congrArg _ (eq_ix3 i)).trans ((Cert.Reference5Ideal.Mlp.t59 _ _ _ (m' ((c.tc : Thread Cert.Reference5Ideal.nD Cert.Reference5Ideal.τ).loc Cert.Reference5Ideal.main_arg3)) _ (i 0) (i 1) (i 2)).trans ?_)
      rw [eA]; rfl
    · refine (congrFun (h54.trans (Cert.Reference5Ideal.Read.val_main_v54_eq m' c)) i).trans ?_
      refine (congrArg _ (eq_ix2 i)).trans ((Cert.Reference5Ideal.Mlp.t54 _ _ _ _ _ (i 0) (i 1)).trans ?_)
      rw [eA]; rfl
    · refine (congrFun (h60.trans (Cert.Reference5Ideal.Read.val_main_v60_eq m' c)) i).trans ?_
      refine (congrArg _ (eq_ix2 i)).trans ((Cert.Reference5Ideal.Mlp.t60 _ _ _ _ _ (i 0) (i 1)).trans ?_)
      rw [eA]; rfl
    · refine (congrFun (h37.trans (Cert.Reference5Ideal.Read.val_main_v37_eq _ _ _ _ _)) i).trans ?_
      have ei : i = ix2 0 (i 1) := Shape.idx_ext₂ (by show (i 0).val = 0; have : (i 0).val < 1 := (i 0).isLt; omega) rfl
      refine (congrArg _ ei).trans ((Cert.Reference5Ideal.Mlp.t37 _ _ _ _ _ (i 1)).trans ?_)
      rw [eA]; rfl

end Cert.Kernel5Ideal.Mlp
-- ==== Proof.MlpWords.lean ====
module
public import proofs.«01_k».proof.Proof.MlpEnd
public import proofs.«01_k».proof.Proof.Gen.Kernel5
@[expose] public section
set_option maxRecDepth 65536
set_option maxHeartbeats 2000000
noncomputable section
namespace Cert.Kernel5Ideal.Mlp
open Idealize.ShloMosaic Idealize.ShloMosaic.TcCoe Idealize.ShloMosaic.Tactic Idealize.SL.Sem Idealize.ShloMosaic.StableHlo
variable {F : FTy → Type} [FloatOps F]

/-! The two programs have one text; their bodies, region by region, are one program. -/

theorem part1_words : @Cert.Kernel5.k0_part1 F _ _ = @Cert.Kernel5Ideal.k0_part1 F _ _ := by unfold Cert.Kernel5.k0_part1 Cert.Kernel5Ideal.k0_part1; rfl
theorem part2_words : @Cert.Kernel5.k0_part2 F _ _ = @Cert.Kernel5Ideal.k0_part2 F _ _ := by unfold Cert.Kernel5.k0_part2 Cert.Kernel5Ideal.k0_part2; rfl
theorem part3_words : @Cert.Kernel5.k0_part3 F _ _ = @Cert.Kernel5Ideal.k0_part3 F _ _ := by unfold Cert.Kernel5.k0_part3 Cert.Kernel5Ideal.k0_part3; rfl
theorem body_words : @Cert.Kernel5.cc0_mlp_bwd F _ _ = @Cert.Kernel5Ideal.cc0_mlp_bwd F _ _ := by
  unfold Cert.Kernel5.cc0_mlp_bwd Cert.Kernel5Ideal.cc0_mlp_bwd
  rw [part1_words, part2_words, part3_words]
  rfl

end Cert.Kernel5Ideal.Mlp
-- ==== Proof.MlpLaunch.lean ====
module
public import proofs.«01_k».proof.Proof.MlpWords
public import proofs.«01_k».proof.Proof.Gen.Kernel5
@[expose] public section
set_option maxRecDepth 65536
set_option maxHeartbeats 2000000
noncomputable section
namespace Cert.Kernel5Ideal.Mlp
open Idealize.ShloMosaic Idealize.ShloMosaic.TcCoe Idealize.ShloMosaic.Tactic Idealize.SL.Sem Idealize.ShloMosaic.StableHlo
variable {F : FTy → Type} [FloatOps F]

/-- The body label of the two programs. -/
theorem defs₀_words : Cert.Kernel5.defs₀ (F := F) = Cert.Kernel5Ideal.defs₀ (F := F) := by
  unfold Cert.Kernel5.defs₀ Cert.Kernel5Ideal.defs₀
  rw [body_words]
  refine congrArg Defs.onTc (funext fun l => funext fun x => ?_)
  match l, x with
  | 0, (t, s) => rfl
  | ⟨_ + 1, h⟩, _ => exact absurd h (Nat.not_lt.2 (Nat.le_add_left _ _))

/-- The labels of the two programs. -/
theorem defs_words : Cert.Kernel5.defs (F := F) = Cert.Kernel5Ideal.defs (F := F) := by
  unfold Cert.Kernel5.defs Cert.Kernel5Ideal.defs
  rw [defs₀_words]
  rfl

/-- The two programs' host text. -/
theorem main_words : Cert.Kernel5.main (F := F) = Cert.Kernel5Ideal.main (F := F) := by
  unfold Cert.Kernel5.main Cert.Kernel5Ideal.main
  rfl

/-- The frame of the program over words: the frame over any float values, at words. -/
theorem frame_words : Cert.quiescent_Kernel5 := by
  intro m ρ _
  rw [defs_words, main_words]
  exact frame (F := Bits) m ρ

end Cert.Kernel5Ideal.Mlp
-- ==== Proof.Proj.lean ====
module

public import proofs.«01_k».proof.Defs
public import proofs.«01_k».proof.Proof.Gen.Kernel2Ideal.Value
public import proofs.«01_k».proof.Proof.Gen.Reference2Ideal.Run
public import Idealize.ShloMosaic.Lib.Claim
public import Idealize.ShloMosaic.Lib.Pointwise
public import Idealize.ShloMosaic.Lib.Pipeline.ValueKit.Geometry

@[expose] public section

set_option maxRecDepth 16384

noncomputable section

namespace Cert.Kernel2Ideal.Proj

open Cert.Kernel2Ideal Cert.Kernel2Ideal.Gen Cert.Kernel2Ideal.Value
open Idealize.ShloMosaic Idealize.ShloMosaic.TcCoe Idealize.ShloMosaic.Tactic Idealize.SL.Sem Idealize.ShloMosaic.StableHlo

variable (m : (ℓ : Loc nD τ sig) → Buf (Elt Ideal) ℓ) (ρ : Dev nD → PrngReg) (c : Dev nD)

/-! # The input projection: every entry of the call's result is the product's -/

/-- Row `R` of the rows, and column `j` of the whole weight. -/
def rows (R : Fin 2176) (k : Fin 1024) : EReal := m ((c : Thread nD τ).loc main_arg0) (ix2 R k)
def weight (k : Fin 1024) (j : Fin 6144) : EReal := m ((c : Thread nD τ).loc main_arg1) (ix2 k j)

theorem V0 (R : Fin 2176) (k : Fin 1024) : V m c main_v0 (ix2 R k) = rows m c R k := by
  unfold V
  simp only [hostOps0, List.flatten_cons, List.flatten_nil, List.append_nil, List.cons_append, List.nil_append]
  after_results_simp
  rfl

theorem V3 (b : Fin 8) (k : Fin 1024) (l : Fin 768) :
    V m c main_v3 (ix3 b k l) = weight m c k ⟨768 * b.val + l.val, by omega⟩ := by
  unfold V
  simp only [hostOps0, List.flatten_cons, List.flatten_nil, List.append_nil, List.cons_append, List.nil_append]
  after_results_simp
  pointwise
  exact congrArg (weight m c k) (Fin.ext (by show b.val * 768 + l.val = 768 * b.val + l.val; omega))

theorem index0 : ∀ t : Fin cfg0.N, (cfg0.win 0).index t = ![t.val / 8, 0] := by decide +kernel
theorem index1 : ∀ t : Fin cfg0.N, (cfg0.win 1).index t = ![t.val % 8, 0, 0] := by decide +kernel
theorem index2 : ∀ t : Fin cfg0.N, (cfg0.win 2).index t = ![t.val / 8, t.val % 8] := by decide +kernel

theorem point_lt (t : Fin cfg0.N) : t.val < 16 := t.isLt

theorem iblk0 (t : Fin cfg0.N) (r : Fin 1088) (k : Fin 1024) :
    iblk m c 0 t (ix2 r k) = rows m c ⟨1088 * (t.val / 8) + r.val, by have := point_lt t; omega⟩ k := by
  refine Eq.trans ?_ (V0 m c ⟨1088 * (t.val / 8) + r.val, by have := point_lt t; omega⟩ k)
  unfold iblk
  rw [View.read_apply, cast_eq]
  refine congrArg (V m c main_v0) (Shape.idx_ext₂ ?_ ?_)
  · refine (Pipeline.Window.rect_emb_val (cfg0.win 0) t (ix2 r k) 0 rfl).trans ?_
    rw [index0]
    show t.val / 8 * 1088 + r.val = 1088 * (t.val / 8) + r.val
    omega
  · refine (Pipeline.Window.rect_emb_val (cfg0.win 0) t (ix2 r k) 1 rfl).trans ?_
    rw [index0]
    show 0 * 1024 + k.val = k.val
    omega

theorem iblk1 (t : Fin cfg0.N) (k : Fin 1024) (l : Fin 768) :
    iblk m c 1 t (ix3 0 k l) = weight m c k ⟨768 * (t.val % 8) + l.val, by omega⟩ := by
  refine Eq.trans ?_ (V3 m c ⟨t.val % 8, by omega⟩ k l)
  unfold iblk
  rw [View.read_apply, cast_eq]
  refine congrArg (V m c main_v3) (funext fun a => Fin.ext ?_)
  match a with
  | 0 =>
    refine (Pipeline.Window.rect_emb_val (cfg0.win 1) t (ix3 0 k l) 0 rfl).trans ?_
    rw [index1]
    show t.val % 8 * 1 + 0 = t.val % 8
    omega
  | 1 =>
    refine (Pipeline.Window.rect_emb_val (cfg0.win 1) t (ix3 0 k l) 1 rfl).trans ?_
    rw [index1]
    show 0 * 1024 + k.val = k.val
    omega
  | 2 =>
    refine (Pipeline.Window.rect_emb_val (cfg0.win 1) t (ix3 0 k l) 2 rfl).trans ?_
    rw [index1]
    show 0 * 768 + l.val = l.val
    omega

theorem pay_apply (x0 : S1088x1024.Idx → EReal) (x1 : S1x1024x768.Idx → EReal) (r : Fin 1088) (l : Fin 768) :
    k0_pay1 (F := Ideal) x0 x1 (ix2 r l) = ∑ k : Fin 1024, x0 (ix2 r k) * x1 (ix3 0 k l) := by
  pointwise [k0_pay1]

theorem out_apply (x0 : Vec Ideal S1088x1024 .bf16) (x1 : Vec Ideal S1x1024x768 .bf16) : out0_2 x0 x1 = k0_pay1 (F := Ideal) x0 x1 := by
  unfold out0_2
  rw [View.ld_unit_zero (by decide), View.ld_unit_zero (by decide), View.canon_unit_zero (by decide)]

/-- The product. -/
def prod (R : Fin 2176) (j : Fin 6144) : EReal := ∑ k : Fin 1024, rows m c R k * weight m c k j

theorem cover2 : (cfg0.win 2).Covers := by decide +kernel

theorem arr2 (R : Fin 2176) (j : Fin 6144) : (dats m 0 c).arrAt 2 cfg0.N (ix2 R j) = prod m c R j := by
  refine Pipeline.Dat.arrAt_forall_of_covers (cfg := cfg0) (dats m 0 c) 2
    (fun (i : S2176x6144.Idx) (v : EReal) => v = prod m c (i 0) (i 1)) cover2 (fun t hf y => ?_) (ix2 R j)
  rw [cast_eq, after0_2, out_apply]
  have ht := point_lt t
  have hy0 : (y 0).val < 1088 := (y 0).isLt
  have hy1 : (y 1).val < 768 := (y 1).isLt
  have a0 : ((((cfg0.win 2).blk t).view.emb y : S2176x6144.Idx) 0) = (⟨1088 * (t.val / 8) + (y 0).val, by omega⟩ : Fin 2176) := by
    refine Fin.ext ((Pipeline.Window.rect_emb_val (cfg0.win 2) t y 0 rfl).trans ?_)
    rw [index2]
    show t.val / 8 * 1088 + (y 0).val = 1088 * (t.val / 8) + (y 0).val
    omega
  have a1 : ((((cfg0.win 2).blk t).view.emb y : S2176x6144.Idx) 1) = (⟨768 * (t.val % 8) + (y 1).val, by omega⟩ : Fin 6144) := by
    refine Fin.ext ((Pipeline.Window.rect_emb_val (cfg0.win 2) t y 1 rfl).trans ?_)
    rw [index2]
    show t.val % 8 * 768 + (y 1).val = 768 * (t.val % 8) + (y 1).val
    omega
  have ey : ((cfg0.win 2).xinj (cfg0.grid.coords t) y : S1088x768.Idx) = ix2 (⟨(y 0).val, hy0⟩ : Fin 1088) (⟨(y 1).val, hy1⟩ : Fin 768) := Shape.idx_ext₂ rfl rfl
  have eY := congrArg (k0_pay1 (F := Ideal) (iblk m c 0 t) (iblk m c 1 t)) ey
  refine Eq.trans eY ?_
  show _ = prod m c ((((cfg0.win 2).blk t).view.emb y : S2176x6144.Idx) 0) ((((cfg0.win 2).blk t).view.emb y : S2176x6144.Idx) 1)
  rw [a0, a1, pay_apply]
  unfold prod
  exact Finset.sum_congr rfl fun k _ => by rw [iblk0, iblk1]

theorem ref_apply (x : S2176x1024.Idx → EReal) (w : S1024x6144.Idx → EReal) (R : Fin 2176) (j : Fin 6144) :
    (Host.dotGeneral (F := Ideal) (φ₁ := .f32) (φ₂ := .f32) Cert.Reference2Ideal.dot_S2176x1024_S1024x6144_S2176x6144_1_0_0_1_n_n none x w) (ix2 R j)
      = ∑ k : Fin 1024, x (ix2 R k) * w (ix2 k j) := by
  pointwise

theorem frame_ref : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem algebraic : Cert.algebraic_Kernel2Ideal_Reference2Ideal := by
  intro m g m' g' _ hagree
  refine ⟨fun c => (fun i => prod m c (i 0) (i 1)), ?_, ?_⟩
  · refine (θ_run Cert.Kernel2Ideal.defs _ _).mono (fun r h c => ?_) (run_blocks m g)
    refine ⟨(h c).1.trans (funext fun i => ?_), (h c).2⟩
    exact (congrArg _ (eq_ix2 i)).trans (arr2 m c (i 0) (i 1))
  · refine (θ_run Cert.Reference2Ideal.defs _ _).mono (fun r h c => ?_) (Cert.Reference2Ideal.Value.run m' g')
    refine ⟨(h c).1.trans (funext fun i => ?_), (h c).2⟩
    rw [(hagree c).1, (hagree c).2]
    exact (congrArg _ (eq_ix2 i)).trans (ref_apply _ _ (i 0) (i 1))

end Cert.Kernel2Ideal.Proj

end
-- ==== Proof.Dw.lean ====
module

public import proofs.«01_k».proof.Defs
public import proofs.«01_k».proof.Proof.Gen.Kernel3Ideal.Value
public import proofs.«01_k».proof.Proof.Gen.Reference3Ideal.Run
public import Idealize.ShloMosaic.Lib.Claim
public import Idealize.ShloMosaic.Lib.Pointwise
public import Idealize.ShloMosaic.Lib.Pipeline.ValueKit.Geometry

@[expose] public section

set_option maxRecDepth 16384

noncomputable section

namespace Cert.Kernel3Ideal.Dw

open Cert.Kernel3Ideal Cert.Kernel3Ideal.Gen Cert.Kernel3Ideal.Value
open Idealize.ShloMosaic Idealize.ShloMosaic.TcCoe Idealize.ShloMosaic.Tactic Idealize.SL.Sem Idealize.ShloMosaic.StableHlo

variable (m : (ℓ : Loc nD τ sig) → Buf (Elt Ideal) ℓ) (ρ : Dev nD → PrngReg) (c : Dev nD)

/-! # The gradient of the input projection's weight: every entry of the call's result is the product's -/

/-- Row `R` of the layer's input, and of the incoming gradient. -/
def rows (R : Fin 2176) (k : Fin 1024) : EReal := m ((c : Thread nD τ).loc main_arg0) (ix2 R k)
def grad (R : Fin 2176) (j : Fin 6144) : EReal := m ((c : Thread nD τ).loc main_arg1) (ix2 R j)

theorem V2 (k : Fin 1024) (R : Fin 2176) : V m c main_v2 (ix2 k R) = rows m c R k := by
  unfold V
  simp only [hostOps0, List.flatten_cons, List.flatten_nil, List.append_nil, List.cons_append, List.nil_append]
  after_results_simp
  pointwise
  rfl

theorem V3 (R : Fin 2176) (j : Fin 1536) : V m c main_v3 (ix2 R j) = grad m c R ⟨j.val, by omega⟩ := by
  unfold V
  simp only [hostOps0, List.flatten_cons, List.flatten_nil, List.append_nil, List.cons_append, List.nil_append]
  after_results_simp
  pointwise
  unfold grad
  congr 1

theorem V4 (R : Fin 2176) (j : Fin 4608) : V m c main_v4 (ix2 R j) = grad m c R ⟨1536 + j.val, by omega⟩ := by
  unfold V
  simp only [hostOps0, List.flatten_cons, List.flatten_nil, List.append_nil, List.cons_append, List.nil_append]
  after_results_simp
  pointwise
  unfold grad
  congr 1

theorem index0 : ∀ t : Fin cfg0.N, (cfg0.win 0).index t = ![0, 0] := by decide +kernel
theorem index1 : ∀ t : Fin cfg0.N, (cfg0.win 1).index t = ![0, min t.val 1] := by decide +kernel
theorem index2 : ∀ t : Fin cfg0.N, (cfg0.win 2).index t = ![0, t.val - 2] := by decide +kernel
theorem index3 : ∀ t : Fin cfg0.N, (cfg0.win 3).index t = ![t.val, 0, 0] := by decide +kernel

theorem point_lt (t : Fin cfg0.N) : t.val < 8 := t.isLt

theorem iblk0 (t : Fin cfg0.N) (k : Fin 1024) (R : Fin 2176) : iblk m c 0 t (ix2 k R) = rows m c R k := by
  refine Eq.trans ?_ (V2 m c k R)
  unfold iblk
  rw [View.read_apply, cast_eq]
  refine congrArg (V m c main_v2) (Shape.idx_ext₂ ?_ ?_)
  · refine (Pipeline.Window.rect_emb_val (cfg0.win 0) t (ix2 k R) 0 rfl).trans ?_
    rw [index0]
    show 0 * 1024 + k.val = k.val
    omega
  · refine (Pipeline.Window.rect_emb_val (cfg0.win 0) t (ix2 k R) 1 rfl).trans ?_
    rw [index0]
    show 0 * 2176 + R.val = R.val
    omega

theorem iblk1 (t : Fin cfg0.N) (h : t.val < 2) (R : Fin 2176) (l : Fin 768) :
    iblk m c 1 t (ix2 R l) = grad m c R ⟨768 * t.val + l.val, by omega⟩ := by
  refine Eq.trans ?_ (V3 m c R ⟨768 * t.val + l.val, by omega⟩)
  unfold iblk
  rw [View.read_apply, cast_eq]
  refine congrArg (V m c main_v3) (Shape.idx_ext₂ ?_ ?_)
  · refine (Pipeline.Window.rect_emb_val (cfg0.win 1) t (ix2 R l) 0 rfl).trans ?_
    rw [index1]
    show 0 * 2176 + R.val = R.val
    omega
  · refine (Pipeline.Window.rect_emb_val (cfg0.win 1) t (ix2 R l) 1 rfl).trans ?_
    rw [index1]
    show min t.val 1 * 768 + l.val = 768 * t.val + l.val
    omega

theorem iblk2 (t : Fin cfg0.N) (h : 2 ≤ t.val) (R : Fin 2176) (l : Fin 768) :
    iblk m c 2 t (ix2 R l) = grad m c R ⟨768 * t.val + l.val, by have := point_lt t; omega⟩ := by
  have := point_lt t
  refine Eq.trans ?_ ((V4 m c R ⟨768 * (t.val - 2) + l.val, by omega⟩).trans
    (congrArg (grad m c R) (Fin.ext (by show 1536 + (768 * (t.val - 2) + l.val) = 768 * t.val + l.val; omega))))
  unfold iblk
  rw [View.read_apply, cast_eq]
  refine congrArg (V m c main_v4) (Shape.idx_ext₂ ?_ ?_)
  · refine (Pipeline.Window.rect_emb_val (cfg0.win 2) t (ix2 R l) 0 rfl).trans ?_
    rw [index2]
    show 0 * 2176 + R.val = R.val
    omega
  · refine (Pipeline.Window.rect_emb_val (cfg0.win 2) t (ix2 R l) 1 rfl).trans ?_
    rw [index2]
    show (t.val - 2) * 768 + l.val = 768 * (t.val - 2) + l.val
    omega

theorem pay1_apply (x0 : S1024x2176.Idx → EReal) (x1 : S2176x768.Idx → EReal) (a : Fin 1) (k : Fin 1024) (l : Fin 768) :
    k0_pay1 (F := Ideal) x0 x1 (ix3 a k l) = ∑ R : Fin 2176, x0 (ix2 k R) * x1 (ix2 R l) := by
  pointwise [k0_pay1]

theorem pay2_apply (x0 : S1024x2176.Idx → EReal) (x1 : S2176x768.Idx → EReal) (a : Fin 1) (k : Fin 1024) (l : Fin 768) :
    k0_pay2 (F := Ideal) x0 x1 (ix3 a k l) = ∑ R : Fin 2176, x0 (ix2 k R) * x1 (ix2 R l) := by
  pointwise [k0_pay2]

theorem hz : (![0, 0] : Fin 2 → Nat) = fun _ => 0 := funext fun a => by fin_cases a <;> rfl

theorem out_A (c : Dev nD) (i : grid0.Coords) (arg1 : Memref sig .tc .vmem S1024x2176 .bf16) (harg1 : arg1.IsWhole) (arg2 : Memref sig .tc .vmem S2176x768 .bf16) (harg2 : arg2.IsWhole) (arg3 : Memref sig .tc .vmem S2176x768 .bf16) (harg3 : arg3.IsWhole) (arg4 : Memref sig .tc .vmem S1x1024x768 .bf16) (harg4 : arg4.IsWhole) (hc0 : cond0_0 i) (hc1 : ¬cond0_1 i)
    (x0 : Vec Ideal S1024x2176 .bf16) (x1 : Vec Ideal S2176x768 .bf16) (x2 : Vec Ideal S2176x768 .bf16) :
    out0_A_3 c i arg1 harg1 arg2 harg2 arg3 harg3 arg4 harg4 hc0 hc1 x0 x1 x2 = k0_pay1 (F := Ideal) x0 x1 := by
  unfold out0_A_3
  rw [View.read_writes_eq_canon _ _ _ (cover0_A_3 c i arg1 harg1 arg2 harg2 arg3 harg3 arg4 harg4 hc0 hc1 x0 x1 x2)]
  unfold kernelRun0_A
  dsimp only
  rw [View.canon_unit_zero (by decide)]
  simp only [View.readAt_eq_ld, harg1.read_unread, harg2.read_unread, View.ld_unit_zero (S := S1024x2176) hz, View.ld_unit_zero (S := S2176x768) hz]

theorem out_B (c : Dev nD) (i : grid0.Coords) (arg1 : Memref sig .tc .vmem S1024x2176 .bf16) (harg1 : arg1.IsWhole) (arg2 : Memref sig .tc .vmem S2176x768 .bf16) (harg2 : arg2.IsWhole) (arg3 : Memref sig .tc .vmem S2176x768 .bf16) (harg3 : arg3.IsWhole) (arg4 : Memref sig .tc .vmem S1x1024x768 .bf16) (harg4 : arg4.IsWhole) (hc0 : ¬cond0_0 i) (hc1 : cond0_1 i)
    (x0 : Vec Ideal S1024x2176 .bf16) (x1 : Vec Ideal S2176x768 .bf16) (x2 : Vec Ideal S2176x768 .bf16) :
    out0_B_3 c i arg1 harg1 arg2 harg2 arg3 harg3 arg4 harg4 hc0 hc1 x0 x1 x2 = k0_pay2 (F := Ideal) x0 x2 := by
  unfold out0_B_3
  rw [View.read_writes_eq_canon _ _ _ (cover0_B_3 c i arg1 harg1 arg2 harg2 arg3 harg3 arg4 harg4 hc0 hc1 x0 x1 x2)]
  unfold kernelRun0_B
  dsimp only
  rw [View.canon_unit_zero (by decide)]
  simp only [View.readAt_eq_ld, harg1.read_unread, harg3.read_unread, View.ld_unit_zero (S := S1024x2176) hz, View.ld_unit_zero (S := S2176x768) hz]

/-- The product of the transposed input and the gradient. -/
def prod (k : Fin 1024) (j : Fin 6144) : EReal := ∑ R : Fin 2176, rows m c R k * grad m c R j

theorem left (t : Fin cfg0.N) (a : Fin 1) (k : Fin 1024) (l : Fin 768) :
    outsAt0 m c t.val t.isLt (ix3 a k l) = prod m c k ⟨768 * t.val + l.val, by have := point_lt t; omega⟩ := by
  by_cases h : t.val < 2
  · rw [outsAt0_A m c t h (by omega), out_A, pay1_apply]
    unfold prod
    exact Finset.sum_congr rfl fun R _ => by rw [iblk0, iblk1 m c t h]
  · rw [outsAt0_B m c t h (by omega), out_B, pay2_apply]
    unfold prod
    exact Finset.sum_congr rfl fun R _ => by rw [iblk0, iblk2 m c t (by omega)]

theorem cover3 : (cfg0.win 3).Covers := by decide +kernel

/-- Entry `(b, k, l)` of the result is entry `(k, 768 b + l)` of the product. -/
def want (b : Fin 8) (k : Fin 1024) (l : Fin 768) : EReal := prod m c k ⟨768 * b.val + l.val, by omega⟩

theorem arr3 (b : Fin 8) (k : Fin 1024) (l : Fin 768) : (dats m 0 c).arrAt 3 cfg0.N (ix3 b k l) = want m c b k l := by
  refine Pipeline.Dat.arrAt_forall_of_covers (cfg := cfg0) (dats m 0 c) 3
    (fun (i : S8x1024x768.Idx) (v : EReal) => v = want m c (i 0) (i 1) (i 2)) cover3 (fun t hf y => ?_) (ix3 b k l)
  rw [cast_eq, after0_3]
  have ht := point_lt t
  have hy0 : (y 0).val < 1 := (y 0).isLt
  have hy1 : (y 1).val < 1024 := (y 1).isLt
  have hy2 : (y 2).val < 768 := (y 2).isLt
  have a0 : ((((cfg0.win 3).blk t).view.emb y : S8x1024x768.Idx) 0) = (⟨t.val, ht⟩ : Fin 8) := by
    refine Fin.ext ((Pipeline.Window.rect_emb_val (cfg0.win 3) t y 0 rfl).trans ?_)
    rw [index3]
    show t.val * 1 + (y 0).val = t.val
    omega
  have a1 : ((((cfg0.win 3).blk t).view.emb y : S8x1024x768.Idx) 1) = (⟨(y 1).val, hy1⟩ : Fin 1024) := by
    refine Fin.ext ((Pipeline.Window.rect_emb_val (cfg0.win 3) t y 1 rfl).trans ?_)
    rw [index3]
    show 0 * 1024 + (y 1).val = (y 1).val
    omega
  have a2 : ((((cfg0.win 3).blk t).view.emb y : S8x1024x768.Idx) 2) = (⟨(y 2).val, hy2⟩ : Fin 768) := by
    refine Fin.ext ((Pipeline.Window.rect_emb_val (cfg0.win 3) t y 2 rfl).trans ?_)
    rw [index3]
    show 0 * 768 + (y 2).val = (y 2).val
    omega
  have ey : ((cfg0.win 3).xinj (cfg0.grid.coords t) y : S1x1024x768.Idx)
      = ix3 (⟨(y 0).val, hy0⟩ : Fin 1) (⟨(y 1).val, hy1⟩ : Fin 1024) (⟨(y 2).val, hy2⟩ : Fin 768) :=
    funext fun a => by match a with | 0 => rfl | 1 => rfl | 2 => rfl
  refine Eq.trans (congrArg (outsAt0 m c t.val t.isLt) ey) ?_
  show _ = want m c ((((cfg0.win 3).blk t).view.emb y : S8x1024x768.Idx) 0) ((((cfg0.win 3).blk t).view.emb y : S8x1024x768.Idx) 1)
    ((((cfg0.win 3).blk t).view.emb y : S8x1024x768.Idx) 2)
  rw [a0, a1, a2, left]
  rfl

theorem ref_apply (x : S2176x1024.Idx → EReal) (d : S2176x6144.Idx → EReal) (b : Fin 8) (k : Fin 1024) (l : Fin 768) :
    (truncf (F := Ideal) .bf16 (transpose (α := Ideal .f32) S8x1024x768 [1, 0, 2] (shapeCast (α := Ideal .f32) Cert.Reference3Ideal.S1024x8x768 (transpose (α := Ideal .f32) Cert.Reference3Ideal.S1024x6144 [1, 0]
        (Host.dotGeneral (F := Ideal) (φ₁ := .f32) (φ₂ := .f32) Cert.Reference3Ideal.dot_S2176x6144_S2176x1024_S6144x1024_0_0_1_1_n_n none d x)
        Cert.Reference3Ideal.Facts₀.transposes_S6144x1024_S1024x6144_1_0) Cert.Reference3Ideal.Facts₀.shapeCasts_S1024x6144_S1024x8x768)
        Cert.Reference3Ideal.Facts₀.transposes_S1024x8x768_S8x1024x768_1_0_2) Cert.Reference3Ideal.Facts₀.bitsLt_bf16_f32) (ix3 b k l)
      = ∑ R : Fin 2176, x (ix2 R k) * d (ix2 R ⟨768 * b.val + l.val, by omega⟩) := by
  pointwise
  refine Finset.sum_congr rfl fun R _ => (mul_comm _ _).trans ?_
  refine congrArg₂ (fun a e => x a * d e) rfl (Shape.idx_ext₂ rfl ?_)
  show b.val * 768 + l.val = 768 * b.val + l.val
  omega

theorem frame_ref : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem algebraic : Cert.algebraic_Kernel3Ideal_Reference3Ideal := by
  intro m g m' g' _ hagree
  refine ⟨fun c => (fun i => want m c (i 0) (i 1) (i 2)), ?_, ?_⟩
  · refine (θ_run Cert.Kernel3Ideal.defs _ _).mono (fun r h c => ?_) (run_blocks m g)
    refine ⟨(h c).1.trans (funext fun i => ?_), (h c).2⟩
    exact (congrArg _ (eq_ix3 i)).trans (arr3 m c (i 0) (i 1) (i 2))
  · refine (θ_run Cert.Reference3Ideal.defs _ _).mono (fun r h c => ?_) (Cert.Reference3Ideal.Value.run m' g')
    refine ⟨(h c).1.trans (funext fun i => ?_), (h c).2⟩
    rw [(hagree c).1, (hagree c).2]
    exact (congrArg _ (eq_ix3 i)).trans (ref_apply _ _ (i 0) (i 1) (i 2))

end Cert.Kernel3Ideal.Dw

end
-- ==== Proof.Wo.lean ====
module

public import proofs.«01_k».proof.Defs
public import proofs.«01_k».proof.Proof.Gen.Kernel4Ideal.Value
public import proofs.«01_k».proof.Proof.Gen.Reference4Ideal.Run
public import Idealize.ShloMosaic.Lib.Claim
public import Idealize.ShloMosaic.Lib.Pointwise
public import Idealize.ShloMosaic.Lib.Pipeline.ValueKit.Geometry

@[expose] public section

set_option maxRecDepth 16384

noncomputable section

namespace Cert.Kernel4Ideal.Wo

open Cert.Kernel4Ideal Cert.Kernel4Ideal.Gen Cert.Kernel4Ideal.Value
open Idealize.ShloMosaic Idealize.ShloMosaic.TcCoe Idealize.ShloMosaic.Tactic Idealize.SL.Sem Idealize.ShloMosaic.StableHlo

variable (m : (ℓ : Loc nD τ sig) → Buf (Elt Ideal) ℓ) (ρ : Dev nD → PrngReg) (c : Dev nD)

/-! # The output projection's backward: both of the call's results, entry by entry -/

/-- The incoming gradient, the weight, and the rows the weight was applied to. -/
def grad (R : Fin 2176) (k : Fin 1024) : EReal := m ((c : Thread nD τ).loc main_arg0) (ix2 R k)
def weight (k : Fin 1024) (j : Fin 1024) : EReal := m ((c : Thread nD τ).loc main_arg1) (ix2 k j)
def mix (R : Fin 2176) (k : Fin 1024) : EReal := m ((c : Thread nD τ).loc main_arg2) (ix2 R k)

theorem V0 (R : Fin 2176) (k : Fin 1024) : V m c main_v0 (ix2 R k) = grad m c R k := by
  unfold V
  simp only [hostOps0, List.flatten_cons, List.flatten_nil, List.append_nil, List.cons_append, List.nil_append]
  after_results_simp
  rfl

theorem V1 (k : Fin 1024) (j : Fin 1024) : V m c main_v1 (ix2 k j) = weight m c k j := by
  unfold V
  simp only [hostOps0, List.flatten_cons, List.flatten_nil, List.append_nil, List.cons_append, List.nil_append]
  after_results_simp
  rfl

theorem V2 (R : Fin 2176) (k : Fin 1024) : V m c main_v2 (ix2 R k) = mix m c R k := by
  unfold V
  simp only [hostOps0, List.flatten_cons, List.flatten_nil, List.append_nil, List.cons_append, List.nil_append]
  after_results_simp
  rfl

theorem index0 : ∀ t : Fin cfg0.N, (cfg0.win 0).index t = ![t.val, 0] := by decide +kernel
theorem index1 : ∀ t : Fin cfg0.N, (cfg0.win 1).index t = ![0, 0] := by decide +kernel
theorem index2 : ∀ t : Fin cfg0.N, (cfg0.win 2).index t = ![t.val, 0] := by decide +kernel
theorem index3 : ∀ t : Fin cfg0.N, (cfg0.win 3).index t = ![t.val, 0] := by decide +kernel
theorem index4 : ∀ t : Fin cfg0.N, (cfg0.win 4).index t = ![0, 0] := by decide +kernel
theorem flush4 : ∀ t : Fin cfg0.N, (cfg0.win 4).flush t = true → t.val = 3 := by decide +kernel

theorem point_lt (t : Fin cfg0.N) : t.val < 4 := t.isLt

/-- Row `r` of the 544 rows a point works on. -/
def row (n : Nat) (h : n < 4) (r : Fin 544) : Fin 2176 := ⟨544 * n + r.val, by omega⟩

theorem iblk0 (t : Fin cfg0.N) (r : Fin 544) (k : Fin 1024) :
    iblk m c 0 t (ix2 r k) = grad m c (row t.val (point_lt t) r) k := by
  refine Eq.trans ?_ (V0 m c (row t.val (point_lt t) r) k)
  unfold iblk
  rw [View.read_apply, cast_eq]
  refine congrArg (V m c main_v0) (Shape.idx_ext₂ ?_ ?_)
  · refine (Pipeline.Window.rect_emb_val (cfg0.win 0) t (ix2 r k) 0 rfl).trans ?_
    rw [index0]
    show t.val * 544 + r.val = 544 * t.val + r.val
    omega
  · refine (Pipeline.Window.rect_emb_val (cfg0.win 0) t (ix2 r k) 1 rfl).trans ?_
    rw [index0]
    show 0 * 1024 + k.val = k.val
    omega

theorem iblk1 (t : Fin cfg0.N) (k : Fin 1024) (j : Fin 1024) : iblk m c 1 t (ix2 k j) = weight m c k j := by
  refine Eq.trans ?_ (V1 m c k j)
  unfold iblk
  rw [View.read_apply, cast_eq]
  refine congrArg (V m c main_v1) (Shape.idx_ext₂ ?_ ?_)
  · refine (Pipeline.Window.rect_emb_val (cfg0.win 1) t (ix2 k j) 0 rfl).trans ?_
    rw [index1]
    show 0 * 1024 + k.val = k.val
    omega
  · refine (Pipeline.Window.rect_emb_val (cfg0.win 1) t (ix2 k j) 1 rfl).trans ?_
    rw [index1]
    show 0 * 1024 + j.val = j.val
    omega

theorem iblk2 (t : Fin cfg0.N) (r : Fin 544) (k : Fin 1024) :
    iblk m c 2 t (ix2 r k) = mix m c (row t.val (point_lt t) r) k := by
  refine Eq.trans ?_ (V2 m c (row t.val (point_lt t) r) k)
  unfold iblk
  rw [View.read_apply, cast_eq]
  refine congrArg (V m c main_v2) (Shape.idx_ext₂ ?_ ?_)
  · refine (Pipeline.Window.rect_emb_val (cfg0.win 2) t (ix2 r k) 0 rfl).trans ?_
    rw [index2]
    show t.val * 544 + r.val = 544 * t.val + r.val
    omega
  · refine (Pipeline.Window.rect_emb_val (cfg0.win 2) t (ix2 r k) 1 rfl).trans ?_
    rw [index2]
    show 0 * 1024 + k.val = k.val
    omega

theorem pay2_apply (x0 : S544x1024.Idx → EReal) (x1 : S1024x1024.Idx → EReal) (r : Fin 544) (j : Fin 1024) :
    k0_pay2 (F := Ideal) x0 x1 (ix2 r j) = ∑ k : Fin 1024, x0 (ix2 r k) * x1 (ix2 j k) := by
  pointwise [k0_pay2, k0_pay1]

theorem pay4_apply (x0 x2 : S544x1024.Idx → EReal) (a b : Fin 1024) :
    k0_pay4 (F := Ideal) x0 x2 (ix2 a b) = ∑ r : Fin 544, x2 (ix2 r a) * x0 (ix2 r b) := by
  pointwise [k0_pay4, k0_pay3, k0_pay1]

theorem pay5_apply (x0 x2 : S544x1024.Idx → EReal) (s : S1024x1024.Idx → EReal) (a b : Fin 1024) :
    k0_pay5 (F := Ideal) x0 x2 s (ix2 a b) = s (ix2 a b) + ∑ r : Fin 544, x2 (ix2 r a) * x0 (ix2 r b) := by
  pointwise [k0_pay5, k0_pay3, k0_pay1]

theorem pay6_apply (s : S1024x1024.Idx → EReal) (a b : Fin 1024) : k0_pay6 (F := Ideal) s (ix2 a b) = s (ix2 a b) := by
  pointwise [k0_pay6]

theorem hz : (![0, 0] : Fin 2 → Nat) = fun _ => 0 := funext fun a => by fin_cases a <;> rfl

theorem out0_A_3_eq (c : Dev nD) (i : grid0.Coords) (arg1 : Memref sig .tc .vmem S544x1024 .bf16) (harg1 : arg1.IsWhole) (arg2 : Memref sig .tc .vmem S1024x1024 .bf16) (harg2 : arg2.IsWhole) (arg3 : Memref sig .tc .vmem S544x1024 .bf16) (harg3 : arg3.IsWhole) (arg4 : Memref sig .tc .vmem S544x1024 .bf16) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i) (hc2 : ¬cond0_2 i)
    (x0 : Vec Ideal S544x1024 .bf16) (x1 : Vec Ideal S1024x1024 .bf16) (x2 : Vec Ideal S544x1024 .bf16) :
    out0_A_3 c i arg1 harg1 arg2 harg2 arg3 harg3 arg4 harg4 arg5 harg5 arg6 harg6 hc0 hc1 hc2 x0 x1 x2 = k0_pay2 (F := Ideal) x0 x1 := by
  unfold out0_A_3
  rw [View.read_writes_eq_canon _ _ _ (cover0_A_3 c i arg1 harg1 arg2 harg2 arg3 harg3 arg4 harg4 arg5 harg5 arg6 harg6 hc0 hc1 hc2 x0 x1 x2)]
  unfold kernelRun0_A
  dsimp only
  rw [View.canon_unit_zero hz]
  simp only [View.readAt_eq_ld, harg1.read_unread, harg2.read_unread, harg3.read_unread, harg6.read_unread, View.ld_unit_zero (S := S544x1024) hz, View.ld_unit_zero (S := S1024x1024) hz]

theorem sout0_A_0_eq (c : Dev nD) (i : grid0.Coords) (arg1 : Memref sig .tc .vmem S544x1024 .bf16) (harg1 : arg1.IsWhole) (arg2 : Memref sig .tc .vmem S1024x1024 .bf16) (harg2 : arg2.IsWhole) (arg3 : Memref sig .tc .vmem S544x1024 .bf16) (harg3 : arg3.IsWhole) (arg4 : Memref sig .tc .vmem S544x1024 .bf16) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i) (hc2 : ¬cond0_2 i)
    (x0 : Vec Ideal S544x1024 .bf16) (x1 : Vec Ideal S1024x1024 .bf16) (x2 : Vec Ideal S544x1024 .bf16) :
    sout0_A_0 c i arg1 harg1 arg2 harg2 arg3 harg3 arg4 harg4 arg5 harg5 arg6 harg6 hc0 hc1 hc2 x0 x1 x2 = k0_pay4 (F := Ideal) x0 x2 := by
  unfold sout0_A_0
  rw [View.read_writes_eq_canon _ _ _ (scover0_A_0 c i arg1 harg1 arg2 harg2 arg3 harg3 arg4 harg4 arg5 harg5 arg6 harg6 hc0 hc1 hc2 x0 x1 x2)]
  unfold kernelRun0_A
  dsimp only
  rw [View.canon_unit_zero hz]
  simp only [View.readAt_eq_ld, harg1.read_unread, harg2.read_unread, harg3.read_unread, harg6.read_unread, View.ld_unit_zero (S := S544x1024) hz, View.ld_unit_zero (S := S1024x1024) hz]

theorem out0_B_3_eq (c : Dev nD) (i : grid0.Coords) (arg1 : Memref sig .tc .vmem S544x1024 .bf16) (harg1 : arg1.IsWhole) (arg2 : Memref sig .tc .vmem S1024x1024 .bf16) (harg2 : arg2.IsWhole) (arg3 : Memref sig .tc .vmem S544x1024 .bf16) (harg3 : arg3.IsWhole) (arg4 : Memref sig .tc .vmem S544x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i) (hc2 : ¬cond0_2 i)
    (x0 : Vec Ideal S544x1024 .bf16) (x1 : Vec Ideal S1024x1024 .bf16) (x2 : Vec Ideal S544x1024 .bf16) (xs0 : Vec Ideal S1024x1024 .f32) :
    out0_B_3 c i arg1 harg1 arg2 harg2 arg3 harg3 arg4 harg4 arg5 harg5 arg6 harg6 hc0 hc1 hc2 x0 x1 x2 xs0 = k0_pay2 (F := Ideal) x0 x1 := by
  unfold out0_B_3
  rw [View.read_writes_eq_canon _ _ _ (cover0_B_3 c i arg1 harg1 arg2 harg2 arg3 harg3 arg4 harg4 arg5 harg5 arg6 harg6 hc0 hc1 hc2 x0 x1 x2 xs0)]
  unfold kernelRun0_B
  dsimp only
  rw [View.canon_unit_zero hz]
  simp only [View.readAt_eq_ld, harg1.read_unread, harg2.read_unread, harg3.read_unread, harg6.read_unread, View.ld_unit_zero (S := S544x1024) hz, View.ld_unit_zero (S := S1024x1024) hz]

theorem sout0_B_0_eq (c : Dev nD) (i : grid0.Coords) (arg1 : Memref sig .tc .vmem S544x1024 .bf16) (harg1 : arg1.IsWhole) (arg2 : Memref sig .tc .vmem S1024x1024 .bf16) (harg2 : arg2.IsWhole) (arg3 : Memref sig .tc .vmem S544x1024 .bf16) (harg3 : arg3.IsWhole) (arg4 : Memref sig .tc .vmem S544x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i) (hc2 : ¬cond0_2 i)
    (x0 : Vec Ideal S544x1024 .bf16) (x1 : Vec Ideal S1024x1024 .bf16) (x2 : Vec Ideal S544x1024 .bf16) (xs0 : Vec Ideal S1024x1024 .f32) :
    sout0_B_0 c i arg1 harg1 arg2 harg2 arg3 harg3 arg4 harg4 arg5 harg5 arg6 harg6 hc0 hc1 hc2 x0 x1 x2 xs0 = k0_pay5 (F := Ideal) x0 x2 xs0 := by
  unfold sout0_B_0
  rw [View.read_writes_eq_canon _ _ _ (scover0_B_0 c i arg1 harg1 arg2 harg2 arg3 harg3 arg4 harg4 arg5 harg5 arg6 harg6 hc0 hc1 hc2 x0 x1 x2 xs0)]
  unfold kernelRun0_B
  dsimp only
  rw [View.canon_unit_zero hz]
  simp only [View.readAt_eq_ld, harg1.read_unread, harg2.read_unread, harg3.read_unread, harg6.read_unread, View.ld_unit_zero (S := S544x1024) hz, View.ld_unit_zero (S := S1024x1024) hz]

theorem out0_C_3_eq (c : Dev nD) (i : grid0.Coords) (arg1 : Memref sig .tc .vmem S544x1024 .bf16) (harg1 : arg1.IsWhole) (arg2 : Memref sig .tc .vmem S1024x1024 .bf16) (harg2 : arg2.IsWhole) (arg3 : Memref sig .tc .vmem S544x1024 .bf16) (harg3 : arg3.IsWhole) (arg4 : Memref sig .tc .vmem S544x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i) (hc2 : cond0_2 i)
    (x0 : Vec Ideal S544x1024 .bf16) (x1 : Vec Ideal S1024x1024 .bf16) (x2 : Vec Ideal S544x1024 .bf16) (xs0 : Vec Ideal S1024x1024 .f32) :
    out0_C_3 c i arg1 harg1 arg2 harg2 arg3 harg3 arg4 harg4 arg5 harg5 arg6 harg6 hc0 hc1 hc2 x0 x1 x2 xs0 = k0_pay2 (F := Ideal) x0 x1 := by
  unfold out0_C_3
  rw [View.read_writes_eq_canon _ _ _ (cover0_C_3 c i arg1 harg1 arg2 harg2 arg3 harg3 arg4 harg4 arg5 harg5 arg6 harg6 hc0 hc1 hc2 x0 x1 x2 xs0)]
  unfold kernelRun0_C
  dsimp only
  rw [View.canon_unit_zero hz]
  simp only [View.readAt_eq_ld, harg1.read_unread, harg2.read_unread, harg3.read_unread, harg6.read_unread, View.ld_unit_zero (S := S544x1024) hz, View.ld_unit_zero (S := S1024x1024) hz]

theorem sout0_C_0_eq (c : Dev nD) (i : grid0.Coords) (arg1 : Memref sig .tc .vmem S544x1024 .bf16) (harg1 : arg1.IsWhole) (arg2 : Memref sig .tc .vmem S1024x1024 .bf16) (harg2 : arg2.IsWhole) (arg3 : Memref sig .tc .vmem S544x1024 .bf16) (harg3 : arg3.IsWhole) (arg4 : Memref sig .tc .vmem S544x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i) (hc2 : cond0_2 i)
    (x0 : Vec Ideal S544x1024 .bf16) (x1 : Vec Ideal S1024x1024 .bf16) (x2 : Vec Ideal S544x1024 .bf16) (xs0 : Vec Ideal S1024x1024 .f32) :
    sout0_C_0 c i arg1 harg1 arg2 harg2 arg3 harg3 arg4 harg4 arg5 harg5 arg6 harg6 hc0 hc1 hc2 x0 x1 x2 xs0 = k0_pay5 (F := Ideal) x0 x2 xs0 := by
  unfold sout0_C_0
  rw [View.read_writes_eq_canon _ _ _ (scover0_C_0 c i arg1 harg1 arg2 harg2 arg3 harg3 arg4 harg4 arg5 harg5 arg6 harg6 hc0 hc1 hc2 x0 x1 x2 xs0)]
  unfold kernelRun0_C
  dsimp only
  sl_unfold_words
  rw [View.canon_unit_zero hz]
  simp only [View.readAt_eq_ld, harg1.read_unread, harg2.read_unread, harg3.read_unread, harg6.read_unread, View.ld_unit_zero (S := S544x1024) hz, View.ld_unit_zero (S := S1024x1024) hz]

theorem out0_C_4_eq (c : Dev nD) (i : grid0.Coords) (arg1 : Memref sig .tc .vmem S544x1024 .bf16) (harg1 : arg1.IsWhole) (arg2 : Memref sig .tc .vmem S1024x1024 .bf16) (harg2 : arg2.IsWhole) (arg3 : Memref sig .tc .vmem S544x1024 .bf16) (harg3 : arg3.IsWhole) (arg4 : Memref sig .tc .vmem S544x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i) (hc2 : cond0_2 i)
    (x0 : Vec Ideal S544x1024 .bf16) (x1 : Vec Ideal S1024x1024 .bf16) (x2 : Vec Ideal S544x1024 .bf16) (xs0 : Vec Ideal S1024x1024 .f32) :
    out0_C_4 c i arg1 harg1 arg2 harg2 arg3 harg3 arg4 harg4 arg5 harg5 arg6 harg6 hc0 hc1 hc2 x0 x1 x2 xs0 = k0_pay6 (F := Ideal) (k0_pay5 (F := Ideal) x0 x2 xs0) := by
  unfold out0_C_4
  rw [View.read_writes_eq_canon _ _ _ (cover0_C_4 c i arg1 harg1 arg2 harg2 arg3 harg3 arg4 harg4 arg5 harg5 arg6 harg6 hc0 hc1 hc2 x0 x1 x2 xs0)]
  unfold kernelRun0_C
  dsimp only
  sl_unfold_words
  rw [View.canon_unit_zero hz, View.readCov_unit_zero _ hz]
  simp only [View.readAt_eq_ld, harg1.read_unread, harg2.read_unread, harg3.read_unread, harg6.read_unread, View.ld_unit_zero (S := S544x1024) hz, View.ld_unit_zero (S := S1024x1024) hz]

/-- The first result: the gradient times the transposed weight. -/
def dmix (R : Fin 2176) (j : Fin 1024) : EReal := ∑ k : Fin 1024, grad m c R k * weight m c j k

theorem left3 (t : Fin cfg0.N) (r : Fin 544) (j : Fin 1024) :
    (outsAt0 m c t.val t.isLt).1 (ix2 r j) = dmix m c (row t.val (point_lt t) r) j := by
  have e : (outsAt0 m c t.val t.isLt).1 = k0_pay2 (F := Ideal) (iblk m c 0 t) (iblk m c 1 t) := by
    have ht := point_lt t
    by_cases h : t.val = 0
    · rw [outsAt0_A m c t (by omega) (by omega) (by omega)]
      dsimp only
      rw [out0_A_3_eq]
    · by_cases h' : t.val = 3
      · rw [outsAt0_C m c t (by omega) (by omega) (by omega)]
        dsimp only
        rw [out0_C_3_eq]
      · rw [outsAt0_B m c t (by omega) (by omega) (by omega)]
        dsimp only
        rw [out0_B_3_eq]
  rw [e, pay2_apply]
  exact Finset.sum_congr rfl fun k _ => by rw [iblk0, iblk1]

/-- What one point adds to the accumulator. -/
def part (n : Nat) (h : n < 4) (a b : Fin 1024) : EReal := ∑ r : Fin 544, mix m c (row n h r) a * grad m c (row n h r) b

theorem acc_first (t : Fin cfg0.N) (h : t.val = 0) (a b : Fin 1024) :
    (outsAt0 m c t.val t.isLt).2.2 (ix2 a b) = part m c t.val (point_lt t) a b := by
  have e : (outsAt0 m c t.val t.isLt).2.2 = k0_pay4 (F := Ideal) (iblk m c 0 t) (iblk m c 2 t) := by
    rw [outsAt0_A m c t (by omega) (by omega) (by omega)]
    dsimp only
    rw [sout0_A_0_eq]
  rw [e, pay4_apply]
  exact Finset.sum_congr rfl fun r _ => by rw [iblk0, iblk2]

theorem acc_next (t : Fin cfg0.N) (h : t.val ≠ 0) (a b : Fin 1024) :
    (outsAt0 m c t.val t.isLt).2.2 (ix2 a b)
      = (outsAt0 m c (t.val - 1) (Nat.lt_of_le_of_lt (Nat.sub_le _ _) t.isLt)).2.2 (ix2 a b) + part m c t.val (point_lt t) a b := by
  have ht := point_lt t
  have e : (outsAt0 m c t.val t.isLt).2.2 = k0_pay5 (F := Ideal) (iblk m c 0 t) (iblk m c 2 t)
      (outsAt0 m c (t.val - 1) (Nat.lt_of_le_of_lt (Nat.sub_le _ _) t.isLt)).2.2 := by
    by_cases h' : t.val = 3
    · rw [outsAt0_C m c t (by omega) (by omega) (by omega)]
      dsimp only
      rw [sout0_C_0_eq]
    · rw [outsAt0_B m c t (by omega) (by omega) (by omega)]
      dsimp only
      rw [sout0_B_0_eq]
  rw [e, pay5_apply]
  exact congrArg _ (Finset.sum_congr rfl fun r _ => by rw [iblk0, iblk2])

theorem acc_last (t : Fin cfg0.N) (h : t.val = 3) : (outsAt0 m c t.val t.isLt).2.1 = k0_pay6 (F := Ideal) (outsAt0 m c t.val t.isLt).2.2 := by
  rw [outsAt0_C m c t (by omega) (by omega) (by omega)]
  dsimp only
  rw [out0_C_4_eq, sout0_C_0_eq]

/-- The second result: the transposed rows times the gradient. -/
def dw (a b : Fin 1024) : EReal := ∑ R : Fin 2176, mix m c R a * grad m c R b

theorem dw_parts (a b : Fin 1024) :
    dw m c a b = part m c 0 (by decide) a b + part m c 1 (by decide) a b + part m c 2 (by decide) a b + part m c 3 (by decide) a b := by
  unfold dw part
  rw [← Fintype.sum_equiv (finProdFinEquiv (m := 4) (n := 544))
    (fun p => mix m c (row p.1.val p.1.isLt p.2) a * grad m c (row p.1.val p.1.isLt p.2) b) (fun R : Fin 2176 => mix m c R a * grad m c R b)
    (fun p => by
      have e : row p.1.val p.1.isLt p.2 = finProdFinEquiv (m := 4) (n := 544) p :=
        Fin.ext (by show 544 * p.1.val + p.2.val = p.2.val + 544 * p.1.val; omega)
      rw [e]), Fintype.sum_prod_type, Fin.sum_univ_four]
  rfl

theorem left4 (t : Fin cfg0.N) (h : t.val = 3) (a b : Fin 1024) : (outsAt0 m c t.val t.isLt).2.1 (ix2 a b) = dw m c a b := by
  rw [acc_last m c t h, pay6_apply, dw_parts]
  obtain rfl : t = ⟨3, by decide⟩ := Fin.ext h
  refine (acc_next m c ⟨3, by decide⟩ (by decide) a b).trans (congrArg (· + _) ?_)
  refine (acc_next m c ⟨2, by decide⟩ (by decide) a b).trans (congrArg (· + _) ?_)
  refine (acc_next m c ⟨1, by decide⟩ (by decide) a b).trans (congrArg (· + _) ?_)
  exact acc_first m c ⟨0, by decide⟩ rfl a b

theorem cover3 : (cfg0.win 3).Covers := by decide +kernel
theorem cover4 : (cfg0.win 4).Covers := by decide +kernel

theorem arr3 (R : Fin 2176) (j : Fin 1024) : (dats m 0 c).arrAt 3 cfg0.N (ix2 R j) = dmix m c R j := by
  refine Pipeline.Dat.arrAt_forall_of_covers (cfg := cfg0) (dats m 0 c) 3
    (fun (i : S2176x1024.Idx) (v : EReal) => v = dmix m c (i 0) (i 1)) cover3 (fun t hf y => ?_) (ix2 R j)
  rw [cast_eq, after0_3]
  have ht := point_lt t
  have hy0 : (y 0).val < 544 := (y 0).isLt
  have hy1 : (y 1).val < 1024 := (y 1).isLt
  have a0 : ((((cfg0.win 3).blk t).view.emb y : S2176x1024.Idx) 0) = row t.val ht ⟨(y 0).val, hy0⟩ := by
    refine Fin.ext ((Pipeline.Window.rect_emb_val (cfg0.win 3) t y 0 rfl).trans ?_)
    rw [index3]
    show t.val * 544 + (y 0).val = 544 * t.val + (y 0).val
    omega
  have a1 : ((((cfg0.win 3).blk t).view.emb y : S2176x1024.Idx) 1) = (⟨(y 1).val, hy1⟩ : Fin 1024) := by
    refine Fin.ext ((Pipeline.Window.rect_emb_val (cfg0.win 3) t y 1 rfl).trans ?_)
    rw [index3]
    show 0 * 1024 + (y 1).val = (y 1).val
    omega
  have ey : ((cfg0.win 3).xinj (cfg0.grid.coords t) y : S544x1024.Idx) = ix2 (⟨(y 0).val, hy0⟩ : Fin 544) (⟨(y 1).val, hy1⟩ : Fin 1024) := Shape.idx_ext₂ rfl rfl
  refine Eq.trans (congrArg (outsAt0 m c t.val t.isLt).1 ey) ?_
  show _ = dmix m c ((((cfg0.win 3).blk t).view.emb y : S2176x1024.Idx) 0) ((((cfg0.win 3).blk t).view.emb y : S2176x1024.Idx) 1)
  rw [a0, a1, left3]

theorem arr4 (a b : Fin 1024) : (dats m 0 c).arrAt 4 cfg0.N (ix2 a b) = dw m c a b := by
  refine Pipeline.Dat.arrAt_forall_of_covers (cfg := cfg0) (dats m 0 c) 4
    (fun (i : S1024x1024.Idx) (v : EReal) => v = dw m c (i 0) (i 1)) cover4 (fun t hf y => ?_) (ix2 a b)
  rw [cast_eq, after0_4]
  have hy0 : (y 0).val < 1024 := (y 0).isLt
  have hy1 : (y 1).val < 1024 := (y 1).isLt
  have a0 : ((((cfg0.win 4).blk t).view.emb y : S1024x1024.Idx) 0) = (⟨(y 0).val, hy0⟩ : Fin 1024) := by
    refine Fin.ext ((Pipeline.Window.rect_emb_val (cfg0.win 4) t y 0 rfl).trans ?_)
    rw [index4]
    show 0 * 1024 + (y 0).val = (y 0).val
    omega
  have a1 : ((((cfg0.win 4).blk t).view.emb y : S1024x1024.Idx) 1) = (⟨(y 1).val, hy1⟩ : Fin 1024) := by
    refine Fin.ext ((Pipeline.Window.rect_emb_val (cfg0.win 4) t y 1 rfl).trans ?_)
    rw [index4]
    show 0 * 1024 + (y 1).val = (y 1).val
    omega
  have ey : ((cfg0.win 4).xinj (cfg0.grid.coords t) y : S1024x1024.Idx) = ix2 (⟨(y 0).val, hy0⟩ : Fin 1024) (⟨(y 1).val, hy1⟩ : Fin 1024) := Shape.idx_ext₂ rfl rfl
  refine Eq.trans (congrArg (outsAt0 m c t.val t.isLt).2.1 ey) ?_
  show _ = dw m c ((((cfg0.win 4).blk t).view.emb y : S1024x1024.Idx) 0) ((((cfg0.win 4).blk t).view.emb y : S1024x1024.Idx) 1)
  rw [a0, a1, left4 m c t (flush4 t hf)]

theorem ref_dmix (d : S2176x1024.Idx → EReal) (w : S1024x1024.Idx → EReal) (R : Fin 2176) (j : Fin 1024) :
    (truncf (F := Ideal) .bf16 (Host.dotGeneral (F := Ideal) (φ₁ := .f32) (φ₂ := .f32)
        Cert.Reference4Ideal.dot_S2176x1024_S1024x1024_S2176x1024_1_1_0_0_n_n none d w) Cert.Reference4Ideal.Facts₀.bitsLt_bf16_f32) (ix2 R j)
      = ∑ k : Fin 1024, d (ix2 R k) * w (ix2 j k) := by
  pointwise

theorem ref_dw (d x : S2176x1024.Idx → EReal) (a b : Fin 1024) :
    (truncf (F := Ideal) .bf16 (transpose (α := Ideal .f32) Cert.Reference4Ideal.S1024x1024 [1, 0] (Host.dotGeneral (F := Ideal) (φ₁ := .f32) (φ₂ := .f32)
        Cert.Reference4Ideal.dot_S2176x1024_S2176x1024_S1024x1024_0_0_1_1_n_n none d x)
        Cert.Reference4Ideal.Facts₀.transposes_S1024x1024_S1024x1024_1_0) Cert.Reference4Ideal.Facts₀.bitsLt_bf16_f32) (ix2 a b)
      = ∑ R : Fin 2176, x (ix2 R a) * d (ix2 R b) := by
  pointwise
  exact Finset.sum_congr rfl fun R _ => mul_comm _ _

theorem frame_ref : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

theorem algebraic : Cert.algebraic_Kernel4Ideal_Reference4Ideal := by
  intro m g m' g' _ hagree
  refine ⟨fun c => (fun i => dmix m c (i 0) (i 1)), fun c => (fun i => dw m c (i 0) (i 1)), ?_, ?_⟩
  · refine (θ_run Cert.Kernel4Ideal.defs _ _).mono (fun r h c => ?_) (run_blocks m g)
    refine ⟨(h c).1.trans (funext fun i => ?_), (h c).2.1.trans (funext fun i => ?_), (h c).2.2⟩
    · exact (congrArg _ (eq_ix2 i)).trans (arr3 m c (i 0) (i 1))
    · exact (congrArg _ (eq_ix2 i)).trans (arr4 m c (i 0) (i 1))
  · refine (θ_run Cert.Reference4Ideal.defs _ _).mono (fun r h c => ?_) (Cert.Reference4Ideal.Value.run m' g')
    refine ⟨(h c).1.trans (funext fun i => ?_), (h c).2.1.trans (funext fun i => ?_), (h c).2.2⟩
    · rw [(hagree c).1, (hagree c).2.1]
      exact (congrArg _ (eq_ix2 i)).trans (ref_dmix _ _ (i 0) (i 1))
    · rw [(hagree c).1, (hagree c).2.2]
      exact (congrArg _ (eq_ix2 i)).trans (ref_dw _ _ (i 0) (i 1))

end Cert.Kernel4Ideal.Wo

end
-- ==== Proof.lean ====
module

public import proofs.«01_k».proof.Defs
public import proofs.«01_k».proof.Proof.Gen.Kernel
public import proofs.«01_k».proof.Proof.MixLaunch
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5
public import proofs.«01_k».proof.Proof.Gen.Reference5Ideal.Run
public import proofs.«01_k».proof.Proof.MlpLaunch
public import proofs.«01_k».proof.Proof.Proj
public import proofs.«01_k».proof.Proof.Dw
public import proofs.«01_k».proof.Proof.Wo
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts,
    Cert.KernelIdeal.Mix.finite_facts, Cert.On_written.Gen.facts,
    Cert.KernelIdeal.Mix.frame_words,
    fun m ρ _ => Cert.KernelIdeal.Mix.frame m ρ,
    fun m ρ _ => Cert.KernelIdeal.Mix.frame m ρ,
    Cert.KernelIdeal.Mix.frame_ref,
    fun m ρ _ => Cert.KernelIdeal.Mix.frame_ref m ρ trivial,
    fun m ρ _ => Cert.Kernel2.Gen.frame m ρ,
    fun m ρ _ => Cert.Kernel2Ideal.Gen.frame m ρ,
    Cert.Kernel2Ideal.Proj.frame_ref,
    fun m ρ _ => Cert.Kernel3.Gen.frame m ρ,
    fun m ρ _ => Cert.Kernel3Ideal.Gen.frame m ρ,
    Cert.Kernel3Ideal.Dw.frame_ref,
    fun m ρ _ => Cert.Kernel4.Gen.frame m ρ,
    fun m ρ _ => Cert.Kernel4Ideal.Gen.frame m ρ,
    Cert.Kernel4Ideal.Wo.frame_ref,
    Cert.Kernel5Ideal.Mlp.frame_words,
    fun m ρ _ => Cert.Kernel5Ideal.Mlp.frame m ρ,
    Cert.Kernel5Ideal.Mlp.frame_ref,
    trivial,
    Cert.KernelIdeal.Mix.algebraic,
    trivial,
    Cert.Kernel2Ideal.Proj.algebraic,
    trivial,
    Cert.Kernel3Ideal.Dw.algebraic,
    trivial,
    Cert.Kernel4Ideal.Wo.algebraic,
    trivial,
    Cert.Kernel5Ideal.Mlp.algebraic⟩

end Cert.Proof

end
